-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay [hPre_decay : Cert.Pre_decay.Facts] (m : (ℓ : Loc Cert.KernelIdeal.nD Cert.KernelIdeal.τ Cert.KernelIdeal.sig) → Buf (Elt Ideal) ℓ) : Prop :=
  ∀ c : Dev Cert.KernelIdeal.nD,
    (Cert.Pre_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay [hPre_decay : Cert.Pre_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_decay [hKernelIdeal : Cert.KernelIdeal.Facts] [hPre_decay : Cert.Pre_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_decay [hReferenceIdeal : Cert.ReferenceIdeal.Facts] [hPre_decay : Cert.Pre_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_decay [hKernelIdeal : Cert.KernelIdeal.Facts] [hReferenceIdeal : Cert.ReferenceIdeal.Facts] [hPre_decay : Cert.Pre_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_decay : Cert.Pre_decay.Facts),
    quiescent_Kernel (hKernel := hKernel)
    ∧ quiescent_KernelIdeal (hKernelIdeal := hKernelIdeal)
    ∧ quiescent_KernelIdeal_pre_decay (hKernelIdeal := hKernelIdeal) (hPre_decay := hPre_decay)
    ∧ quiescent_ReferenceIdeal (hReferenceIdeal := hReferenceIdeal)
    ∧ quiescent_ReferenceIdeal_pre_decay (hReferenceIdeal := hReferenceIdeal) (hPre_decay := hPre_decay)
    ∧ preserves_Kernel_KernelIdeal
    ∧ algebraic_KernelIdeal_ReferenceIdeal_pre_decay (hKernelIdeal := hKernelIdeal) (hReferenceIdeal := hReferenceIdeal) (hPre_decay := hPre_decay)
-- ==== Pre_decay.lean ====
abbrev S16x2048x128 : Shape := ⟨3, ![16, 2048, 128]⟩
abbrev S16 : Shape := ⟨1, ![16]⟩
abbrev S128 : Shape := ⟨1, ![128]⟩
abbrev S128x512 : Shape := ⟨2, ![128, 512]⟩
abbrev S512 : Shape := ⟨1, ![512]⟩
abbrev S1x2048x512 : Shape := ⟨3, ![1, 2048, 512]⟩
abbrev S6x512 : Shape := ⟨2, ![6, 512]⟩
abbrev S6x64 : Shape := ⟨2, ![6, 64]⟩
abbrev S6x512x64 : Shape := ⟨3, ![6, 512, 64]⟩
abbrev S6x64x512 : Shape := ⟨3, ![6, 64, 512]⟩
abbrev S6x512x1024 : Shape := ⟨3, ![6, 512, 1024]⟩
abbrev S6x1024 : Shape := ⟨2, ![6, 1024]⟩
abbrev S6x1024x512 : Shape := ⟨3, ![6, 1024, 512]⟩
abbrev S_ : Shape := ⟨0, ![]⟩

class Facts : Prop where
  bcast_S_S6x64 : S_.BroadcastsInDim S6x64 (![] : Fin 0 → Fin S6x64.rank)
  reducesTo_S6x64_S_d0_1 : S6x64.ReducesTo [0, 1] S_
  h_S_ : 0 < S_.numel

variable [Facts]

def fn {F : FTy → Type} [FloatOps F] (main_arg0 : FVec F S16x2048x128 .f32) (main_arg1 : IVec S16 32) (main_arg2 : FVec F S128 .f32) (main_arg3 : FVec F S128 .f32) (main_arg4 : FVec F S128x512 .f32) (main_arg5 : FVec F S512 .f32) (main_arg6 : FVec F S512 .f32) (main_arg7 : FVec F S512 .f32) (main_arg8 : FVec F S1x2048x512 .f32) (main_arg9 : FVec F S6x512 .f32) (main_arg10 : FVec F S6x512 .f32) (main_arg11 : FVec F S6x64 .f32) (main_arg12 : FVec F S6x512x64 .f32) (main_arg13 : FVec F S6x64x512 .f32) (main_arg14 : FVec F S6x64x512 .f32) (main_arg15 : FVec F S6x512 .f32) (main_arg16 : FVec F S6x512 .f32) (main_arg17 : FVec F S6x512 .f32) (main_arg18 : FVec F S6x512x1024 .f32) (main_arg19 : FVec F S6x1024 .f32) (main_arg20 : FVec F S6x1024x512 .f32) (main_arg21 : FVec F S6x512 .f32) : IVec S_ 1 :=
  let main_cst : FVec F S_ .f32 := constant S_ .f32 0x00000000#32
  let main_v0 : FVec F S6x64 .f32 := broadcastInDim S6x64 ![] bcast_S_S6x64 main_cst
  let main_v1 : IVec S6x64 1 := cmpf .oge main_arg11 main_v0
  let main_cst_0 : FVec F S_ .f32 := constant S_ .f32 0x7F800000#32
  let main_v2 : FVec F S6x64 .f32 := broadcastInDim S6x64 ![] bcast_S_S6x64 main_cst_0
  let main_v3 : IVec S6x64 1 := cmpf .olt main_arg11 main_v2
  let main_v4 : IVec S6x64 1 := andi main_v1 main_v3
  let main_c : IVec S_ 1 := constantI S_ 1 1#1
  let main_v5 : IVec S_ 1 := (fun x v => Host.reduce IntOp.andi x v reducesTo_S6x64_S_d0_1 h_S_) main_v4 main_c
  main_v5
-- ==== Kernel.lean ====
abbrev S16x2048x128 : Shape := ⟨3, ![16, 2048, 128]⟩
abbrev S16 : Shape := ⟨1, ![16]⟩
abbrev S128 : Shape := ⟨1, ![128]⟩
abbrev S128x512 : Shape := ⟨2, ![128, 512]⟩
abbrev S512 : Shape := ⟨1, ![512]⟩
abbrev S1x2048x512 : Shape := ⟨3, ![1, 2048, 512]⟩
abbrev S6x512 : Shape := ⟨2, ![6, 512]⟩
abbrev S6x64 : Shape := ⟨2, ![6, 64]⟩
abbrev S6x512x64 : Shape := ⟨3, ![6, 512, 64]⟩
abbrev S6x64x512 : Shape := ⟨3, ![6, 64, 512]⟩
abbrev S6x512x1024 : Shape := ⟨3, ![6, 512, 1024]⟩
abbrev S6x1024 : Shape := ⟨2, ![6, 1024]⟩
abbrev S6x1024x512 : Shape := ⟨3, ![6, 1024, 512]⟩
abbrev S6x128x512 : Shape := ⟨3, ![6, 128, 512]⟩
abbrev S1x512 : Shape := ⟨2, ![1, 512]⟩
abbrev S1x128 : Shape := ⟨2, ![1, 128]⟩
abbrev S6x1x512 : Shape := ⟨3, ![6, 1, 512]⟩
abbrev S6x1x64 : Shape := ⟨3, ![6, 1, 64]⟩
abbrev S6x1x1024 : Shape := ⟨3, ![6, 1, 1024]⟩
abbrev S16x2048x512 : Shape := ⟨3, ![16, 2048, 512]⟩
abbrev S1x2048x128 : Shape := ⟨3, ![1, 2048, 128]⟩
abbrev S1x1x512 : Shape := ⟨3, ![1, 1, 512]⟩
abbrev S1x1x64 : Shape := ⟨3, ![1, 1, 64]⟩
abbrev S1x512x64 : Shape := ⟨3, ![1, 512, 64]⟩
abbrev S1x128x512 : Shape := ⟨3, ![1, 128, 512]⟩
abbrev S1x512x1024 : Shape := ⟨3, ![1, 512, 1024]⟩
abbrev S1x1x1024 : Shape := ⟨3, ![1, 1, 1024]⟩
abbrev S1x1024x512 : Shape := ⟨3, ![1, 1024, 512]⟩
abbrev S1 : Shape := ⟨1, ![1]⟩
abbrev S2048x1 : Shape := ⟨2, ![2048, 1]⟩
abbrev S2048x128 : Shape := ⟨2, ![2048, 128]⟩
abbrev S2048 : Shape := ⟨1, ![2048]⟩
abbrev S2048x512 : Shape := ⟨2, ![2048, 512]⟩
abbrev S512x64 : Shape := ⟨2, ![512, 64]⟩
abbrev S2048x64 : Shape := ⟨2, ![2048, 64]⟩
abbrev S1x64 : Shape := ⟨2, ![1, 64]⟩
abbrev S2047x64 : Shape := ⟨2, ![2047, 64]⟩
abbrev S2x64 : Shape := ⟨2, ![2, 64]⟩
abbrev S2046x64 : Shape := ⟨2, ![2046, 64]⟩
abbrev S4x64 : Shape := ⟨2, ![4, 64]⟩
abbrev S2044x64 : Shape := ⟨2, ![2044, 64]⟩
abbrev S8x64 : Shape := ⟨2, ![8, 64]⟩
abbrev S2040x64 : Shape := ⟨2, ![2040, 64]⟩
abbrev S16x64 : Shape := ⟨2, ![16, 64]⟩
abbrev S2032x64 : Shape := ⟨2, ![2032, 64]⟩
abbrev S32x64 : Shape := ⟨2, ![32, 64]⟩
abbrev S2016x64 : Shape := ⟨2, ![2016, 64]⟩
abbrev S64x64 : Shape := ⟨2, ![64, 64]⟩
abbrev S1984x64 : Shape := ⟨2, ![1984, 64]⟩
abbrev S128x64 : Shape := ⟨2, ![128, 64]⟩
abbrev S1920x64 : Shape := ⟨2, ![1920, 64]⟩
abbrev S256x64 : Shape := ⟨2, ![256, 64]⟩
abbrev S1792x64 : Shape := ⟨2, ![1792, 64]⟩
abbrev S1536x64 : Shape := ⟨2, ![1536, 64]⟩
abbrev S1024x64 : Shape := ⟨2, ![1024, 64]⟩
abbrev S512x1024 : Shape := ⟨2, ![512, 1024]⟩
abbrev S2048x1024 : Shape := ⟨2, ![2048, 1024]⟩
abbrev S1x1024 : Shape := ⟨2, ![1, 1024]⟩
abbrev S1024x512 : Shape := ⟨2, ![1024, 512]⟩

abbrev nBuf : Space → Nat
  | .hbm => 37
  | .vmem => 35
  | .smem => 1
  | _ => 0

abbrev bufTy : (tb : Table) → Fin (tcTables nBuf tb) → BufTy
  | .hbm, ⟨0, _⟩ => ⟨S16x2048x128, .f32⟩
  | .hbm, ⟨1, _⟩ => ⟨S16, .i32⟩
  | .hbm, ⟨2, _⟩ => ⟨S128, .f32⟩
  | .hbm, ⟨3, _⟩ => ⟨S128, .f32⟩
  | .hbm, ⟨4, _⟩ => ⟨S128x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S1x2048x512, .f32⟩
  | .hbm, ⟨9, _⟩ => ⟨S6x512, .f32⟩
  | .hbm, ⟨10, _⟩ => ⟨S6x512, .f32⟩
  | .hbm, ⟨11, _⟩ => ⟨S6x64, .f32⟩
  | .hbm, ⟨12, _⟩ => ⟨S6x512x64, .f32⟩
  | .hbm, ⟨13, _⟩ => ⟨S6x64x512, .f32⟩
  | .hbm, ⟨14, _⟩ => ⟨S6x64x512, .f32⟩
  | .hbm, ⟨15, _⟩ => ⟨S6x512, .f32⟩
  | .hbm, ⟨16, _⟩ => ⟨S6x512, .f32⟩
  | .hbm, ⟨17, _⟩ => ⟨S6x512, .f32⟩
  | .hbm, ⟨18, _⟩ => ⟨S6x512x1024, .f32⟩
  | .hbm, ⟨19, _⟩ => ⟨S6x1024, .f32⟩
  | .hbm, ⟨20, _⟩ => ⟨S6x1024x512, .f32⟩
  | .hbm, ⟨21, _⟩ => ⟨S6x512, .f32⟩
  | .hbm, ⟨22, _⟩ => ⟨S6x128x512, .f32⟩
  | .hbm, ⟨23, _⟩ => ⟨S1x512, .f32⟩
  | .hbm, ⟨24, _⟩ => ⟨S1x128, .f32⟩
  | .hbm, ⟨25, _⟩ => ⟨S1x128, .f32⟩
  | .hbm, ⟨26, _⟩ => ⟨S1x512, .f32⟩
  | .hbm, ⟨27, _⟩ => ⟨S1x512, .f32⟩
  | .hbm, ⟨28, _⟩ => ⟨S6x1x512, .f32⟩
  | .hbm, ⟨29, _⟩ => ⟨S6x1x512, .f32⟩
  | .hbm, ⟨30, _⟩ => ⟨S6x1x64, .f32⟩
  | .hbm, ⟨31, _⟩ => ⟨S6x1x512, .f32⟩
  | .hbm, ⟨32, _⟩ => ⟨S6x1x512, .f32⟩
  | .hbm, ⟨33, _⟩ => ⟨S6x1x512, .f32⟩
  | .hbm, ⟨34, _⟩ => ⟨S6x1x1024, .f32⟩
  | .hbm, ⟨35, _⟩ => ⟨S6x1x512, .f32⟩
  | .hbm, ⟨36, _⟩ => ⟨S16x2048x512, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x512, .f32⟩
  | .local _ .vmem, ⟨3, _⟩ => ⟨S128x512, .f32⟩
  | .local _ .vmem, ⟨4, _⟩ => ⟨S1x512, .f32⟩
  | .local _ .vmem, ⟨5, _⟩ => ⟨S1x128, .f32⟩
  | .local _ .vmem, ⟨6, _⟩ => ⟨S1x128, .f32⟩
  | .local _ .vmem, ⟨7, _⟩ => ⟨S1x512, .f32⟩
  | .local _ .vmem, ⟨8, _⟩ => ⟨S1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x64, .f32⟩
  | .local _ .vmem, ⟨14, _⟩ => ⟨S1x1x64, .f32⟩
  | .local _ .vmem, ⟨15, _⟩ => ⟨S1x512x64, .f32⟩
  | .local _ .vmem, ⟨16, _⟩ => ⟨S1x512x64, .f32⟩
  | .local _ .vmem, ⟨17, _⟩ => ⟨S1x128x512, .f32⟩
  | .local _ .vmem, ⟨18, _⟩ => ⟨S1x128x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x512x1024, .f32⟩
  | .local _ .vmem, ⟨26, _⟩ => ⟨S1x512x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1024x512, .f32⟩
  | .local _ .vmem, ⟨30, _⟩ => ⟨S1x1024x512, .f32⟩
  | .local _ .vmem, ⟨31, _⟩ => ⟨S1x1x512, .f32⟩
  | .local _ .vmem, ⟨32, _⟩ => ⟨S1x1x512, .f32⟩
  | .local _ .vmem, ⟨33, _⟩ => ⟨S1x2048x512, .f32⟩
  | .local _ .vmem, ⟨34, _⟩ => ⟨S1x2048x512, .f32⟩
  | .local _ .smem, ⟨0, _⟩ => ⟨S16, .i32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨2, ![16, 6], ![false, false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S1x1024x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S1x1x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 2 → Memref sig .tc .vmem S1x2048x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== ReferenceIdeal.lean ====
abbrev S16x2048x128 : Shape := ⟨3, ![16, 2048, 128]⟩
abbrev S16 : Shape := ⟨1, ![16]⟩
abbrev S128 : Shape := ⟨1, ![128]⟩
abbrev S128x512 : Shape := ⟨2, ![128, 512]⟩
abbrev S512 : Shape := ⟨1, ![512]⟩
abbrev S1x2048x512 : Shape := ⟨3, ![1, 2048, 512]⟩
abbrev S6x512 : Shape := ⟨2, ![6, 512]⟩
abbrev S6x64 : Shape := ⟨2, ![6, 64]⟩
abbrev S6x512x64 : Shape := ⟨3, ![6, 512, 64]⟩
abbrev S6x64x512 : Shape := ⟨3, ![6, 64, 512]⟩
abbrev S6x512x1024 : Shape := ⟨3, ![6, 512, 1024]⟩
abbrev S6x1024 : Shape := ⟨2, ![6, 1024]⟩
abbrev S6x1024x512 : Shape := ⟨3, ![6, 1024, 512]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x2048x1 : Shape := ⟨3, ![16, 2048, 1]⟩
abbrev S_ : Shape := ⟨0, ![]⟩
abbrev S1x1x128 : Shape := ⟨3, ![1, 1, 128]⟩
abbrev S16x2048x512 : Shape := ⟨3, ![16, 2048, 512]⟩
abbrev S1x1x512 : Shape := ⟨3, ![1, 1, 512]⟩
abbrev S1x512 : Shape := ⟨2, ![1, 512]⟩
abbrev S1x64 : Shape := ⟨2, ![1, 64]⟩
abbrev S64 : Shape := ⟨1, ![64]⟩
abbrev S1x512x64 : Shape := ⟨3, ![1, 512, 64]⟩
abbrev S512x64 : Shape := ⟨2, ![512, 64]⟩
abbrev S1x64x512 : Shape := ⟨3, ![1, 64, 512]⟩
abbrev S64x512 : Shape := ⟨2, ![64, 512]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩
abbrev S1x1024x512 : Shape := ⟨3, ![1, 1024, 512]⟩
abbrev S1024x512 : Shape := ⟨2, ![1024, 512]⟩
abbrev S16x2048x64 : Shape := ⟨3, ![16, 2048, 64]⟩
abbrev S16x64 : Shape := ⟨2, ![16, 64]⟩
abbrev S2048x16x64 : Shape := ⟨3, ![2048, 16, 64]⟩
abbrev S1x16x64 : Shape := ⟨3, ![1, 16, 64]⟩
abbrev S16x2048x1024 : Shape := ⟨3, ![16, 2048, 1024]⟩
abbrev S1x1x1024 : Shape := ⟨3, ![1, 1, 1024]⟩

abbrev nBuf : Space → Nat
  | .hbm => 1496
  | .vmem => 0
  | .smem => 0
  | _ => 0

abbrev hbmTy0_0 (i : Nat) : BufTy := match i % 128 with
  | 0 => ⟨S16x2048x128, .f32⟩
  | 1 => ⟨S16, .i32⟩
  | 2 => ⟨S128, .f32⟩
  | 3 => ⟨S128, .f32⟩
  | 4 => ⟨S128x512, .f32⟩
  | 5 => ⟨S512, .f32⟩
  | 6 => ⟨S512, .f32⟩
  | 7 => ⟨S512, .f32⟩
  | 8 => ⟨S1x2048x512, .f32⟩
  | 9 => ⟨S6x512, .f32⟩
  | 10 => ⟨S6x512, .f32⟩
  | 11 => ⟨S6x64, .f32⟩
  | 12 => ⟨S6x512x64, .f32⟩
  | 13 => ⟨S6x64x512, .f32⟩
  | 14 => ⟨S6x64x512, .f32⟩
  | 15 => ⟨S6x512, .f32⟩
  | 16 => ⟨S6x512, .f32⟩
  | 17 => ⟨S6x512, .f32⟩
  | 18 => ⟨S6x512x1024, .f32⟩
  | 19 => ⟨S6x1024, .f32⟩
  | 20 => ⟨S6x1024x512, .f32⟩
  | 21 => ⟨S6x512, .f32⟩
  | 22 => ⟨S2048, .i32⟩
  | 23 => ⟨S1x2048, .i32⟩
  | 24 => ⟨S16x1, .i32⟩
  | 25 => ⟨S16x2048, .i32⟩
  | 26 => ⟨S16x2048, .i32⟩
  | 27 => ⟨S16x2048, .i1⟩
  | 28 => ⟨S16x2048, .f32⟩
  | 29 => ⟨S16x2048x1, .f32⟩
  | 30 => ⟨S16x2048x128, .f32⟩
  | 31 => ⟨S16x2048x128, .f32⟩
  | 32 => ⟨S_, .f32⟩
  | 33 => ⟨S16x2048, .f32⟩
  | 34 => ⟨S16x2048x1, .f32⟩
  | 35 => ⟨S_, .f32⟩
  | 36 => ⟨S16x2048x1, .f32⟩
  | 37 => ⟨S16x2048x1, .f32⟩
  | 38 => ⟨S_, .i32⟩
  | 39 => ⟨S_, .f32⟩
  | 40 => ⟨S16x2048, .f32⟩
  | 41 => ⟨S16x2048x1, .f32⟩
  | 42 => ⟨S_, .f32⟩
  | 43 => ⟨S16x2048x1, .f32⟩
  | 44 => ⟨S16x2048x1, .f32⟩
  | 45 => ⟨S16x2048x128, .f32⟩
  | 46 => ⟨S16x2048x128, .f32⟩
  | 47 => ⟨S16x2048x128, .f32⟩
  | 48 => ⟨S_, .f32⟩
  | 49 => ⟨S_, .f32⟩
  | 50 => ⟨S_, .f32⟩
  | 51 => ⟨S_, .f32⟩
  | 52 => ⟨S16x2048, .f32⟩
  | 53 => ⟨S16x2048x1, .f32⟩
  | 54 => ⟨S16x2048x1, .f32⟩
  | 55 => ⟨S16x2048x1, .f32⟩
  | 56 => ⟨S_, .f32⟩
  | 57 => ⟨S_, .i1⟩
  | 58 => ⟨S_, .f32⟩
  | 59 => ⟨S_, .f32⟩
  | 60 => ⟨S16x2048x1, .f32⟩
  | 61 => ⟨S16x2048x1, .f32⟩
  | 62 => ⟨S16x2048x128, .f32⟩
  | 63 => ⟨S16x2048x128, .f32⟩
  | 64 => ⟨S_, .f32⟩
  | 65 => ⟨S16x2048x1, .f32⟩
  | 66 => ⟨S16x2048x1, .f32⟩
  | 67 => ⟨S16x2048x1, .f32⟩
  | 68 => ⟨S16x2048x128, .f32⟩
  | 69 => ⟨S16x2048x128, .f32⟩
  | 70 => ⟨S1x1x128, .f32⟩
  | 71 => ⟨S16x2048x128, .f32⟩
  | 72 => ⟨S16x2048x128, .f32⟩
  | 73 => ⟨S1x1x128, .f32⟩
  | 74 => ⟨S16x2048x128, .f32⟩
  | 75 => ⟨S16x2048x128, .f32⟩
  | 76 => ⟨S16x2048x512, .f32⟩
  | 77 => ⟨S1x1x512, .f32⟩
  | 78 => ⟨S16x2048x512, .f32⟩
  | 79 => ⟨S16x2048x512, .f32⟩
  | 80 => ⟨S_, .f32⟩
  | 81 => ⟨S16x2048, .f32⟩
  | 82 => ⟨S16x2048x1, .f32⟩
  | 83 => ⟨S_, .f32⟩
  | 84 => ⟨S16x2048x1, .f32⟩
  | 85 => ⟨S16x2048x1, .f32⟩
  | 86 => ⟨S_, .i32⟩
  | 87 => ⟨S_, .f32⟩
  | 88 => ⟨S16x2048, .f32⟩
  | 89 => ⟨S16x2048x1, .f32⟩
  | 90 => ⟨S_, .f32⟩
  | 91 => ⟨S16x2048x1, .f32⟩
  | 92 => ⟨S16x2048x1, .f32⟩
  | 93 => ⟨S16x2048x512, .f32⟩
  | 94 => ⟨S16x2048x512, .f32⟩
  | 95 => ⟨S16x2048x512, .f32⟩
  | 96 => ⟨S_, .f32⟩
  | 97 => ⟨S_, .f32⟩
  | 98 => ⟨S_, .f32⟩
  | 99 => ⟨S_, .f32⟩
  | 100 => ⟨S16x2048, .f32⟩
  | 101 => ⟨S16x2048x1, .f32⟩
  | 102 => ⟨S16x2048x1, .f32⟩
  | 103 => ⟨S16x2048x1, .f32⟩
  | 104 => ⟨S_, .f32⟩
  | 105 => ⟨S_, .i1⟩
  | 106 => ⟨S_, .f32⟩
  | 107 => ⟨S_, .f32⟩
  | 108 => ⟨S16x2048x1, .f32⟩
  | 109 => ⟨S16x2048x1, .f32⟩
  | 110 => ⟨S16x2048x512, .f32⟩
  | 111 => ⟨S16x2048x512, .f32⟩
  | 112 => ⟨S_, .f32⟩
  | 113 => ⟨S16x2048x1, .f32⟩
  | 114 => ⟨S16x2048x1, .f32⟩
  | 115 => ⟨S16x2048x1, .f32⟩
  | 116 => ⟨S16x2048x512, .f32⟩
  | 117 => ⟨S16x2048x512, .f32⟩
  | 118 => ⟨S1x1x512, .f32⟩
  | 119 => ⟨S16x2048x512, .f32⟩
  | 120 => ⟨S16x2048x512, .f32⟩
  | 121 => ⟨S1x1x512, .f32⟩
  | 122 => ⟨S16x2048x512, .f32⟩
  | 123 => ⟨S16x2048x512, .f32⟩
  | 124 => ⟨S16x2048x512, .f32⟩
  | 125 => ⟨S16x2048x512, .f32⟩
  | 126 => ⟨S16x2048x512, .f32⟩
  | 127 => ⟨S16x2048x512, .f32⟩
  | _ => ⟨S16x2048x128, .f32⟩

abbrev hbmTy0_1 (i : Nat) : BufTy := match i % 128 with
  | 0 => ⟨S1x512, .f32⟩
  | 1 => ⟨S512, .f32⟩
  | 2 => ⟨S1x512, .f32⟩
  | 3 => ⟨S512, .f32⟩
  | 4 => ⟨S1x64, .f32⟩
  | 5 => ⟨S64, .f32⟩
  | 6 => ⟨S1x512x64, .f32⟩
  | 7 => ⟨S512x64, .f32⟩
  | 8 => ⟨S1x64x512, .f32⟩
  | 9 => ⟨S64x512, .f32⟩
  | 10 => ⟨S1x64x512, .f32⟩
  | 11 => ⟨S64x512, .f32⟩
  | 12 => ⟨S1x512, .f32⟩
  | 13 => ⟨S512, .f32⟩
  | 14 => ⟨S1x512, .f32⟩
  | 15 => ⟨S512, .f32⟩
  | 16 => ⟨S1x512, .f32⟩
  | 17 => ⟨S512, .f32⟩
  | 18 => ⟨S1x512x1024, .f32⟩
  | 19 => ⟨S512x1024, .f32⟩
  | 20 => ⟨S1x1024, .f32⟩
  | 21 => ⟨S1024, .f32⟩
  | 22 => ⟨S1x1024x512, .f32⟩
  | 23 => ⟨S1024x512, .f32⟩
  | 24 => ⟨S1x512, .f32⟩
  | 25 => ⟨S512, .f32⟩
  | 26 => ⟨S_, .f32⟩
  | 27 => ⟨S16x2048, .f32⟩
  | 28 => ⟨S16x2048x1, .f32⟩
  | 29 => ⟨S_, .f32⟩
  | 30 => ⟨S16x2048x1, .f32⟩
  | 31 => ⟨S16x2048x1, .f32⟩
  | 32 => ⟨S_, .i32⟩
  | 33 => ⟨S_, .f32⟩
  | 34 => ⟨S16x2048, .f32⟩
  | 35 => ⟨S16x2048x1, .f32⟩
  | 36 => ⟨S_, .f32⟩
  | 37 => ⟨S16x2048x1, .f32⟩
  | 38 => ⟨S16x2048x1, .f32⟩
  | 39 => ⟨S16x2048x512, .f32⟩
  | 40 => ⟨S16x2048x512, .f32⟩
  | 41 => ⟨S16x2048x512, .f32⟩
  | 42 => ⟨S_, .f32⟩
  | 43 => ⟨S_, .f32⟩
  | 44 => ⟨S_, .f32⟩
  | 45 => ⟨S_, .f32⟩
  | 46 => ⟨S16x2048, .f32⟩
  | 47 => ⟨S16x2048x1, .f32⟩
  | 48 => ⟨S16x2048x1, .f32⟩
  | 49 => ⟨S16x2048x1, .f32⟩
  | 50 => ⟨S_, .f32⟩
  | 51 => ⟨S_, .i1⟩
  | 52 => ⟨S_, .f32⟩
  | 53 => ⟨S_, .f32⟩
  | 54 => ⟨S16x2048x1, .f32⟩
  | 55 => ⟨S16x2048x1, .f32⟩
  | 56 => ⟨S16x2048x512, .f32⟩
  | 57 => ⟨S16x2048x512, .f32⟩
  | 58 => ⟨S_, .f32⟩
  | 59 => ⟨S16x2048x1, .f32⟩
  | 60 => ⟨S16x2048x1, .f32⟩
  | 61 => ⟨S16x2048x1, .f32⟩
  | 62 => ⟨S16x2048x512, .f32⟩
  | 63 => ⟨S16x2048x512, .f32⟩
  | 64 => ⟨S1x1x512, .f32⟩
  | 65 => ⟨S16x2048x512, .f32⟩
  | 66 => ⟨S16x2048x512, .f32⟩
  | 67 => ⟨S1x1x512, .f32⟩
  | 68 => ⟨S16x2048x512, .f32⟩
  | 69 => ⟨S16x2048x512, .f32⟩
  | 70 => ⟨S16x2048x64, .f32⟩
  | 71 => ⟨S_, .f32⟩
  | 72 => ⟨S16x64, .f32⟩
  | 73 => ⟨S2048x16x64, .f32⟩
  | 74 => ⟨S_, .f32⟩
  | 75 => ⟨S2048x16x64, .f32⟩
  | 76 => ⟨S_, .i32⟩
  | 77 => ⟨S2048x16x64, .f32⟩
  | 78 => ⟨S64, .f32⟩
  | 79 => ⟨S_, .i32⟩
  | 80 => ⟨S16x64, .f32⟩
  | 81 => ⟨S2048x16x64, .f32⟩
  | 82 => ⟨S_, .i32⟩
  | 83 => ⟨S_, .i1⟩
  | 84 => ⟨S_, .i32⟩
  | 85 => ⟨S_, .i32⟩
  | 86 => ⟨S1x16x64, .f32⟩
  | 87 => ⟨S16x64, .f32⟩
  | 88 => ⟨S1x64, .f32⟩
  | 89 => ⟨S16x64, .f32⟩
  | 90 => ⟨S16x64, .f32⟩
  | 91 => ⟨S16x64, .f32⟩
  | 92 => ⟨S1x16x64, .f32⟩
  | 93 => ⟨S_, .i32⟩
  | 94 => ⟨S_, .i32⟩
  | 95 => ⟨S2048x16x64, .f32⟩
  | 96 => ⟨S_, .i32⟩
  | 97 => ⟨S_, .i32⟩
  | 98 => ⟨S16x2048x64, .f32⟩
  | 99 => ⟨S16x2048x64, .f32⟩
  | 100 => ⟨S_, .f32⟩
  | 101 => ⟨S16x64, .f32⟩
  | 102 => ⟨S2048x16x64, .f32⟩
  | 103 => ⟨S_, .f32⟩
  | 104 => ⟨S2048x16x64, .f32⟩
  | 105 => ⟨S_, .i32⟩
  | 106 => ⟨S2048x16x64, .f32⟩
  | 107 => ⟨S64, .f32⟩
  | 108 => ⟨S_, .i32⟩
  | 109 => ⟨S16x64, .f32⟩
  | 110 => ⟨S2048x16x64, .f32⟩
  | 111 => ⟨S_, .i32⟩
  | 112 => ⟨S_, .i1⟩
  | 113 => ⟨S_, .i32⟩
  | 114 => ⟨S_, .i32⟩
  | 115 => ⟨S1x16x64, .f32⟩
  | 116 => ⟨S16x64, .f32⟩
  | 117 => ⟨S1x64, .f32⟩
  | 118 => ⟨S16x64, .f32⟩
  | 119 => ⟨S16x64, .f32⟩
  | 120 => ⟨S16x64, .f32⟩
  | 121 => ⟨S1x16x64, .f32⟩
  | 122 => ⟨S_, .i32⟩
  | 123 => ⟨S_, .i32⟩
  | 124 => ⟨S2048x16x64, .f32⟩
  | 125 => ⟨S_, .i32⟩
  | 126 => ⟨S_, .i32⟩
  | 127 => ⟨S16x2048x64, .f32⟩
  | _ => ⟨S16x2048x128, .f32⟩

abbrev hbmTy0_2 (i : Nat) : BufTy := match i % 128 with
  | 0 => ⟨S16x2048x64, .f32⟩
  | 1 => ⟨S16x2048x512, .f32⟩
  | 2 => ⟨S16x2048x512, .f32⟩
  | 3 => ⟨S16x2048x512, .f32⟩
  | 4 => ⟨S1x1x512, .f32⟩
  | 5 => ⟨S16x2048x512, .f32⟩
  | 6 => ⟨S16x2048x512, .f32⟩
  | 7 => ⟨S16x2048x512, .f32⟩
  | 8 => ⟨S16x2048x512, .f32⟩
  | 9 => ⟨S16x2048x512, .f32⟩
  | 10 => ⟨S_, .f32⟩
  | 11 => ⟨S16x2048x512, .f32⟩
  | 12 => ⟨S16x2048x512, .f32⟩
  | 13 => ⟨S16x2048x512, .f32⟩
  | 14 => ⟨S_, .f32⟩
  | 15 => ⟨S16x2048x512, .f32⟩
  | 16 => ⟨S16x2048x512, .f32⟩
  | 17 => ⟨S16x2048x512, .f32⟩
  | 18 => ⟨S_, .f32⟩
  | 19 => ⟨S16x2048x512, .f32⟩
  | 20 => ⟨S16x2048x512, .f32⟩
  | 21 => ⟨S_, .f32⟩
  | 22 => ⟨S16x2048x512, .f32⟩
  | 23 => ⟨S16x2048x512, .f32⟩
  | 24 => ⟨S16x2048x512, .f32⟩
  | 25 => ⟨S16x2048x512, .f32⟩
  | 26 => ⟨S16x2048x512, .f32⟩
  | 27 => ⟨S16x2048x512, .f32⟩
  | 28 => ⟨S_, .f32⟩
  | 29 => ⟨S16x2048, .f32⟩
  | 30 => ⟨S16x2048x1, .f32⟩
  | 31 => ⟨S_, .f32⟩
  | 32 => ⟨S16x2048x1, .f32⟩
  | 33 => ⟨S16x2048x1, .f32⟩
  | 34 => ⟨S_, .i32⟩
  | 35 => ⟨S_, .f32⟩
  | 36 => ⟨S16x2048, .f32⟩
  | 37 => ⟨S16x2048x1, .f32⟩
  | 38 => ⟨S_, .f32⟩
  | 39 => ⟨S16x2048x1, .f32⟩
  | 40 => ⟨S16x2048x1, .f32⟩
  | 41 => ⟨S16x2048x512, .f32⟩
  | 42 => ⟨S16x2048x512, .f32⟩
  | 43 => ⟨S16x2048x512, .f32⟩
  | 44 => ⟨S_, .f32⟩
  | 45 => ⟨S_, .f32⟩
  | 46 => ⟨S_, .f32⟩
  | 47 => ⟨S_, .f32⟩
  | 48 => ⟨S16x2048, .f32⟩
  | 49 => ⟨S16x2048x1, .f32⟩
  | 50 => ⟨S16x2048x1, .f32⟩
  | 51 => ⟨S16x2048x1, .f32⟩
  | 52 => ⟨S_, .f32⟩
  | 53 => ⟨S_, .i1⟩
  | 54 => ⟨S_, .f32⟩
  | 55 => ⟨S_, .f32⟩
  | 56 => ⟨S16x2048x1, .f32⟩
  | 57 => ⟨S16x2048x1, .f32⟩
  | 58 => ⟨S16x2048x512, .f32⟩
  | 59 => ⟨S16x2048x512, .f32⟩
  | 60 => ⟨S_, .f32⟩
  | 61 => ⟨S16x2048x1, .f32⟩
  | 62 => ⟨S16x2048x1, .f32⟩
  | 63 => ⟨S16x2048x1, .f32⟩
  | 64 => ⟨S16x2048x512, .f32⟩
  | 65 => ⟨S16x2048x512, .f32⟩
  | 66 => ⟨S1x1x512, .f32⟩
  | 67 => ⟨S16x2048x512, .f32⟩
  | 68 => ⟨S16x2048x512, .f32⟩
  | 69 => ⟨S1x1x512, .f32⟩
  | 70 => ⟨S16x2048x512, .f32⟩
  | 71 => ⟨S16x2048x512, .f32⟩
  | 72 => ⟨S16x2048x1024, .f32⟩
  | 73 => ⟨S1x1x1024, .f32⟩
  | 74 => ⟨S16x2048x1024, .f32⟩
  | 75 => ⟨S16x2048x1024, .f32⟩
  | 76 => ⟨S16x2048x1024, .f32⟩
  | 77 => ⟨S16x2048x1024, .f32⟩
  | 78 => ⟨S_, .f32⟩
  | 79 => ⟨S16x2048x1024, .f32⟩
  | 80 => ⟨S16x2048x1024, .f32⟩
  | 81 => ⟨S16x2048x1024, .f32⟩
  | 82 => ⟨S_, .f32⟩
  | 83 => ⟨S16x2048x1024, .f32⟩
  | 84 => ⟨S16x2048x1024, .f32⟩
  | 85 => ⟨S16x2048x1024, .f32⟩
  | 86 => ⟨S_, .f32⟩
  | 87 => ⟨S16x2048x1024, .f32⟩
  | 88 => ⟨S16x2048x1024, .f32⟩
  | 89 => ⟨S_, .f32⟩
  | 90 => ⟨S16x2048x1024, .f32⟩
  | 91 => ⟨S16x2048x1024, .f32⟩
  | 92 => ⟨S16x2048x1024, .f32⟩
  | 93 => ⟨S16x2048x512, .f32⟩
  | 94 => ⟨S1x1x512, .f32⟩
  | 95 => ⟨S16x2048x512, .f32⟩
  | 96 => ⟨S16x2048x512, .f32⟩
  | 97 => ⟨S16x2048x512, .f32⟩
  | 98 => ⟨S16x2048x512, .f32⟩
  | 99 => ⟨S16x2048x512, .f32⟩
  | 100 => ⟨S1x512, .f32⟩
  | 101 => ⟨S512, .f32⟩
  | 102 => ⟨S1x512, .f32⟩
  | 103 => ⟨S512, .f32⟩
  | 104 => ⟨S1x64, .f32⟩
  | 105 => ⟨S64, .f32⟩
  | 106 => ⟨S1x512x64, .f32⟩
  | 107 => ⟨S512x64, .f32⟩
  | 108 => ⟨S1x64x512, .f32⟩
  | 109 => ⟨S64x512, .f32⟩
  | 110 => ⟨S1x64x512, .f32⟩
  | 111 => ⟨S64x512, .f32⟩
  | 112 => ⟨S1x512, .f32⟩
  | 113 => ⟨S512, .f32⟩
  | 114 => ⟨S1x512, .f32⟩
  | 115 => ⟨S512, .f32⟩
  | 116 => ⟨S1x512, .f32⟩
  | 117 => ⟨S512, .f32⟩
  | 118 => ⟨S1x512x1024, .f32⟩
  | 119 => ⟨S512x1024, .f32⟩
  | 120 => ⟨S1x1024, .f32⟩
  | 121 => ⟨S1024, .f32⟩
  | 122 => ⟨S1x1024x512, .f32⟩
  | 123 => ⟨S1024x512, .f32⟩
  | 124 => ⟨S1x512, .f32⟩
  | 125 => ⟨S512, .f32⟩
  | 126 => ⟨S_, .f32⟩
  | 127 => ⟨S16x2048, .f32⟩
  | _ => ⟨S16x2048x128, .f32⟩

abbrev hbmTy0_3 (i : Nat) : BufTy := match i % 128 with
  | 0 => ⟨S16x2048x1, .f32⟩
  | 1 => ⟨S_, .f32⟩
  | 2 => ⟨S16x2048x1, .f32⟩
  | 3 => ⟨S16x2048x1, .f32⟩
  | 4 => ⟨S_, .i32⟩
  | 5 => ⟨S_, .f32⟩
  | 6 => ⟨S16x2048, .f32⟩
  | 7 => ⟨S16x2048x1, .f32⟩
  | 8 => ⟨S_, .f32⟩
  | 9 => ⟨S16x2048x1, .f32⟩
  | 10 => ⟨S16x2048x1, .f32⟩
  | 11 => ⟨S16x2048x512, .f32⟩
  | 12 => ⟨S16x2048x512, .f32⟩
  | 13 => ⟨S16x2048x512, .f32⟩
  | 14 => ⟨S_, .f32⟩
  | 15 => ⟨S_, .f32⟩
  | 16 => ⟨S_, .f32⟩
  | 17 => ⟨S_, .f32⟩
  | 18 => ⟨S16x2048, .f32⟩
  | 19 => ⟨S16x2048x1, .f32⟩
  | 20 => ⟨S16x2048x1, .f32⟩
  | 21 => ⟨S16x2048x1, .f32⟩
  | 22 => ⟨S_, .f32⟩
  | 23 => ⟨S_, .i1⟩
  | 24 => ⟨S_, .f32⟩
  | 25 => ⟨S_, .f32⟩
  | 26 => ⟨S16x2048x1, .f32⟩
  | 27 => ⟨S16x2048x1, .f32⟩
  | 28 => ⟨S16x2048x512, .f32⟩
  | 29 => ⟨S16x2048x512, .f32⟩
  | 30 => ⟨S_, .f32⟩
  | 31 => ⟨S16x2048x1, .f32⟩
  | 32 => ⟨S16x2048x1, .f32⟩
  | 33 => ⟨S16x2048x1, .f32⟩
  | 34 => ⟨S16x2048x512, .f32⟩
  | 35 => ⟨S16x2048x512, .f32⟩
  | 36 => ⟨S1x1x512, .f32⟩
  | 37 => ⟨S16x2048x512, .f32⟩
  | 38 => ⟨S16x2048x512, .f32⟩
  | 39 => ⟨S1x1x512, .f32⟩
  | 40 => ⟨S16x2048x512, .f32⟩
  | 41 => ⟨S16x2048x512, .f32⟩
  | 42 => ⟨S16x2048x64, .f32⟩
  | 43 => ⟨S_, .f32⟩
  | 44 => ⟨S16x64, .f32⟩
  | 45 => ⟨S2048x16x64, .f32⟩
  | 46 => ⟨S_, .f32⟩
  | 47 => ⟨S2048x16x64, .f32⟩
  | 48 => ⟨S_, .i32⟩
  | 49 => ⟨S2048x16x64, .f32⟩
  | 50 => ⟨S64, .f32⟩
  | 51 => ⟨S_, .i32⟩
  | 52 => ⟨S16x64, .f32⟩
  | 53 => ⟨S2048x16x64, .f32⟩
  | 54 => ⟨S_, .i32⟩
  | 55 => ⟨S_, .i1⟩
  | 56 => ⟨S_, .i32⟩
  | 57 => ⟨S_, .i32⟩
  | 58 => ⟨S1x16x64, .f32⟩
  | 59 => ⟨S16x64, .f32⟩
  | 60 => ⟨S1x64, .f32⟩
  | 61 => ⟨S16x64, .f32⟩
  | 62 => ⟨S16x64, .f32⟩
  | 63 => ⟨S16x64, .f32⟩
  | 64 => ⟨S1x16x64, .f32⟩
  | 65 => ⟨S_, .i32⟩
  | 66 => ⟨S_, .i32⟩
  | 67 => ⟨S2048x16x64, .f32⟩
  | 68 => ⟨S_, .i32⟩
  | 69 => ⟨S_, .i32⟩
  | 70 => ⟨S16x2048x64, .f32⟩
  | 71 => ⟨S16x2048x64, .f32⟩
  | 72 => ⟨S_, .f32⟩
  | 73 => ⟨S16x64, .f32⟩
  | 74 => ⟨S2048x16x64, .f32⟩
  | 75 => ⟨S_, .f32⟩
  | 76 => ⟨S2048x16x64, .f32⟩
  | 77 => ⟨S_, .i32⟩
  | 78 => ⟨S2048x16x64, .f32⟩
  | 79 => ⟨S64, .f32⟩
  | 80 => ⟨S_, .i32⟩
  | 81 => ⟨S16x64, .f32⟩
  | 82 => ⟨S2048x16x64, .f32⟩
  | 83 => ⟨S_, .i32⟩
  | 84 => ⟨S_, .i1⟩
  | 85 => ⟨S_, .i32⟩
  | 86 => ⟨S_, .i32⟩
  | 87 => ⟨S1x16x64, .f32⟩
  | 88 => ⟨S16x64, .f32⟩
  | 89 => ⟨S1x64, .f32⟩
  | 90 => ⟨S16x64, .f32⟩
  | 91 => ⟨S16x64, .f32⟩
  | 92 => ⟨S16x64, .f32⟩
  | 93 => ⟨S1x16x64, .f32⟩
  | 94 => ⟨S_, .i32⟩
  | 95 => ⟨S_, .i32⟩
  | 96 => ⟨S2048x16x64, .f32⟩
  | 97 => ⟨S_, .i32⟩
  | 98 => ⟨S_, .i32⟩
  | 99 => ⟨S16x2048x64, .f32⟩
  | 100 => ⟨S16x2048x64, .f32⟩
  | 101 => ⟨S16x2048x512, .f32⟩
  | 102 => ⟨S16x2048x512, .f32⟩
  | 103 => ⟨S16x2048x512, .f32⟩
  | 104 => ⟨S1x1x512, .f32⟩
  | 105 => ⟨S16x2048x512, .f32⟩
  | 106 => ⟨S16x2048x512, .f32⟩
  | 107 => ⟨S16x2048x512, .f32⟩
  | 108 => ⟨S16x2048x512, .f32⟩
  | 109 => ⟨S16x2048x512, .f32⟩
  | 110 => ⟨S_, .f32⟩
  | 111 => ⟨S16x2048x512, .f32⟩
  | 112 => ⟨S16x2048x512, .f32⟩
  | 113 => ⟨S16x2048x512, .f32⟩
  | 114 => ⟨S_, .f32⟩
  | 115 => ⟨S16x2048x512, .f32⟩
  | 116 => ⟨S16x2048x512, .f32⟩
  | 117 => ⟨S16x2048x512, .f32⟩
  | 118 => ⟨S_, .f32⟩
  | 119 => ⟨S16x2048x512, .f32⟩
  | 120 => ⟨S16x2048x512, .f32⟩
  | 121 => ⟨S_, .f32⟩
  | 122 => ⟨S16x2048x512, .f32⟩
  | 123 => ⟨S16x2048x512, .f32⟩
  | 124 => ⟨S16x2048x512, .f32⟩
  | 125 => ⟨S16x2048x512, .f32⟩
  | 126 => ⟨S16x2048x512, .f32⟩
  | 127 => ⟨S16x2048x512, .f32⟩
  | _ => ⟨S16x2048x128, .f32⟩

abbrev hbmTy0_4 (i : Nat) : BufTy := match i % 128 with
  | 0 => ⟨S_, .f32⟩
  | 1 => ⟨S16x2048, .f32⟩
  | 2 => ⟨S16x2048x1, .f32⟩
  | 3 => ⟨S_, .f32⟩
  | 4 => ⟨S16x2048x1, .f32⟩
  | 5 => ⟨S16x2048x1, .f32⟩
  | 6 => ⟨S_, .i32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S16x2048x512, .f32⟩
  | 14 => ⟨S16x2048x512, .f32⟩
  | 15 => ⟨S16x2048x512, .f32⟩
  | 16 => ⟨S_, .f32⟩
  | 17 => ⟨S_, .f32⟩
  | 18 => ⟨S_, .f32⟩
  | 19 => ⟨S_, .f32⟩
  | 20 => ⟨S16x2048, .f32⟩
  | 21 => ⟨S16x2048x1, .f32⟩
  | 22 => ⟨S16x2048x1, .f32⟩
  | 23 => ⟨S16x2048x1, .f32⟩
  | 24 => ⟨S_, .f32⟩
  | 25 => ⟨S_, .i1⟩
  | 26 => ⟨S_, .f32⟩
  | 27 => ⟨S_, .f32⟩
  | 28 => ⟨S16x2048x1, .f32⟩
  | 29 => ⟨S16x2048x1, .f32⟩
  | 30 => ⟨S16x2048x512, .f32⟩
  | 31 => ⟨S16x2048x512, .f32⟩
  | 32 => ⟨S_, .f32⟩
  | 33 => ⟨S16x2048x1, .f32⟩
  | 34 => ⟨S16x2048x1, .f32⟩
  | 35 => ⟨S16x2048x1, .f32⟩
  | 36 => ⟨S16x2048x512, .f32⟩
  | 37 => ⟨S16x2048x512, .f32⟩
  | 38 => ⟨S1x1x512, .f32⟩
  | 39 => ⟨S16x2048x512, .f32⟩
  | 40 => ⟨S16x2048x512, .f32⟩
  | 41 => ⟨S1x1x512, .f32⟩
  | 42 => ⟨S16x2048x512, .f32⟩
  | 43 => ⟨S16x2048x512, .f32⟩
  | 44 => ⟨S16x2048x1024, .f32⟩
  | 45 => ⟨S1x1x1024, .f32⟩
  | 46 => ⟨S16x2048x1024, .f32⟩
  | 47 => ⟨S16x2048x1024, .f32⟩
  | 48 => ⟨S16x2048x1024, .f32⟩
  | 49 => ⟨S16x2048x1024, .f32⟩
  | 50 => ⟨S_, .f32⟩
  | 51 => ⟨S16x2048x1024, .f32⟩
  | 52 => ⟨S16x2048x1024, .f32⟩
  | 53 => ⟨S16x2048x1024, .f32⟩
  | 54 => ⟨S_, .f32⟩
  | 55 => ⟨S16x2048x1024, .f32⟩
  | 56 => ⟨S16x2048x1024, .f32⟩
  | 57 => ⟨S16x2048x1024, .f32⟩
  | 58 => ⟨S_, .f32⟩
  | 59 => ⟨S16x2048x1024, .f32⟩
  | 60 => ⟨S16x2048x1024, .f32⟩
  | 61 => ⟨S_, .f32⟩
  | 62 => ⟨S16x2048x1024, .f32⟩
  | 63 => ⟨S16x2048x1024, .f32⟩
  | 64 => ⟨S16x2048x1024, .f32⟩
  | 65 => ⟨S16x2048x512, .f32⟩
  | 66 => ⟨S1x1x512, .f32⟩
  | 67 => ⟨S16x2048x512, .f32⟩
  | 68 => ⟨S16x2048x512, .f32⟩
  | 69 => ⟨S16x2048x512, .f32⟩
  | 70 => ⟨S16x2048x512, .f32⟩
  | 71 => ⟨S16x2048x512, .f32⟩
  | 72 => ⟨S1x512, .f32⟩
  | 73 => ⟨S512, .f32⟩
  | 74 => ⟨S1x512, .f32⟩
  | 75 => ⟨S512, .f32⟩
  | 76 => ⟨S1x64, .f32⟩
  | 77 => ⟨S64, .f32⟩
  | 78 => ⟨S1x512x64, .f32⟩
  | 79 => ⟨S512x64, .f32⟩
  | 80 => ⟨S1x64x512, .f32⟩
  | 81 => ⟨S64x512, .f32⟩
  | 82 => ⟨S1x64x512, .f32⟩
  | 83 => ⟨S64x512, .f32⟩
  | 84 => ⟨S1x512, .f32⟩
  | 85 => ⟨S512, .f32⟩
  | 86 => ⟨S1x512, .f32⟩
  | 87 => ⟨S512, .f32⟩
  | 88 => ⟨S1x512, .f32⟩
  | 89 => ⟨S512, .f32⟩
  | 90 => ⟨S1x512x1024, .f32⟩
  | 91 => ⟨S512x1024, .f32⟩
  | 92 => ⟨S1x1024, .f32⟩
  | 93 => ⟨S1024, .f32⟩
  | 94 => ⟨S1x1024x512, .f32⟩
  | 95 => ⟨S1024x512, .f32⟩
  | 96 => ⟨S1x512, .f32⟩
  | 97 => ⟨S512, .f32⟩
  | 98 => ⟨S_, .f32⟩
  | 99 => ⟨S16x2048, .f32⟩
  | 100 => ⟨S16x2048x1, .f32⟩
  | 101 => ⟨S_, .f32⟩
  | 102 => ⟨S16x2048x1, .f32⟩
  | 103 => ⟨S16x2048x1, .f32⟩
  | 104 => ⟨S_, .i32⟩
  | 105 => ⟨S_, .f32⟩
  | 106 => ⟨S16x2048, .f32⟩
  | 107 => ⟨S16x2048x1, .f32⟩
  | 108 => ⟨S_, .f32⟩
  | 109 => ⟨S16x2048x1, .f32⟩
  | 110 => ⟨S16x2048x1, .f32⟩
  | 111 => ⟨S16x2048x512, .f32⟩
  | 112 => ⟨S16x2048x512, .f32⟩
  | 113 => ⟨S16x2048x512, .f32⟩
  | 114 => ⟨S_, .f32⟩
  | 115 => ⟨S_, .f32⟩
  | 116 => ⟨S_, .f32⟩
  | 117 => ⟨S_, .f32⟩
  | 118 => ⟨S16x2048, .f32⟩
  | 119 => ⟨S16x2048x1, .f32⟩
  | 120 => ⟨S16x2048x1, .f32⟩
  | 121 => ⟨S16x2048x1, .f32⟩
  | 122 => ⟨S_, .f32⟩
  | 123 => ⟨S_, .i1⟩
  | 124 => ⟨S_, .f32⟩
  | 125 => ⟨S_, .f32⟩
  | 126 => ⟨S16x2048x1, .f32⟩
  | 127 => ⟨S16x2048x1, .f32⟩
  | _ => ⟨S16x2048x128, .f32⟩

abbrev hbmTy0_5 (i : Nat) : BufTy := match i % 128 with
  | 0 => ⟨S16x2048x512, .f32⟩
  | 1 => ⟨S16x2048x512, .f32⟩
  | 2 => ⟨S_, .f32⟩
  | 3 => ⟨S16x2048x1, .f32⟩
  | 4 => ⟨S16x2048x1, .f32⟩
  | 5 => ⟨S16x2048x1, .f32⟩
  | 6 => ⟨S16x2048x512, .f32⟩
  | 7 => ⟨S16x2048x512, .f32⟩
  | 8 => ⟨S1x1x512, .f32⟩
  | 9 => ⟨S16x2048x512, .f32⟩
  | 10 => ⟨S16x2048x512, .f32⟩
  | 11 => ⟨S1x1x512, .f32⟩
  | 12 => ⟨S16x2048x512, .f32⟩
  | 13 => ⟨S16x2048x512, .f32⟩
  | 14 => ⟨S16x2048x64, .f32⟩
  | 15 => ⟨S_, .f32⟩
  | 16 => ⟨S16x64, .f32⟩
  | 17 => ⟨S2048x16x64, .f32⟩
  | 18 => ⟨S_, .f32⟩
  | 19 => ⟨S2048x16x64, .f32⟩
  | 20 => ⟨S_, .i32⟩
  | 21 => ⟨S2048x16x64, .f32⟩
  | 22 => ⟨S64, .f32⟩
  | 23 => ⟨S_, .i32⟩
  | 24 => ⟨S16x64, .f32⟩
  | 25 => ⟨S2048x16x64, .f32⟩
  | 26 => ⟨S_, .i32⟩
  | 27 => ⟨S_, .i1⟩
  | 28 => ⟨S_, .i32⟩
  | 29 => ⟨S_, .i32⟩
  | 30 => ⟨S1x16x64, .f32⟩
  | 31 => ⟨S16x64, .f32⟩
  | 32 => ⟨S1x64, .f32⟩
  | 33 => ⟨S16x64, .f32⟩
  | 34 => ⟨S16x64, .f32⟩
  | 35 => ⟨S16x64, .f32⟩
  | 36 => ⟨S1x16x64, .f32⟩
  | 37 => ⟨S_, .i32⟩
  | 38 => ⟨S_, .i32⟩
  | 39 => ⟨S2048x16x64, .f32⟩
  | 40 => ⟨S_, .i32⟩
  | 41 => ⟨S_, .i32⟩
  | 42 => ⟨S16x2048x64, .f32⟩
  | 43 => ⟨S16x2048x64, .f32⟩
  | 44 => ⟨S_, .f32⟩
  | 45 => ⟨S16x64, .f32⟩
  | 46 => ⟨S2048x16x64, .f32⟩
  | 47 => ⟨S_, .f32⟩
  | 48 => ⟨S2048x16x64, .f32⟩
  | 49 => ⟨S_, .i32⟩
  | 50 => ⟨S2048x16x64, .f32⟩
  | 51 => ⟨S64, .f32⟩
  | 52 => ⟨S_, .i32⟩
  | 53 => ⟨S16x64, .f32⟩
  | 54 => ⟨S2048x16x64, .f32⟩
  | 55 => ⟨S_, .i32⟩
  | 56 => ⟨S_, .i1⟩
  | 57 => ⟨S_, .i32⟩
  | 58 => ⟨S_, .i32⟩
  | 59 => ⟨S1x16x64, .f32⟩
  | 60 => ⟨S16x64, .f32⟩
  | 61 => ⟨S1x64, .f32⟩
  | 62 => ⟨S16x64, .f32⟩
  | 63 => ⟨S16x64, .f32⟩
  | 64 => ⟨S16x64, .f32⟩
  | 65 => ⟨S1x16x64, .f32⟩
  | 66 => ⟨S_, .i32⟩
  | 67 => ⟨S_, .i32⟩
  | 68 => ⟨S2048x16x64, .f32⟩
  | 69 => ⟨S_, .i32⟩
  | 70 => ⟨S_, .i32⟩
  | 71 => ⟨S16x2048x64, .f32⟩
  | 72 => ⟨S16x2048x64, .f32⟩
  | 73 => ⟨S16x2048x512, .f32⟩
  | 74 => ⟨S16x2048x512, .f32⟩
  | 75 => ⟨S16x2048x512, .f32⟩
  | 76 => ⟨S1x1x512, .f32⟩
  | 77 => ⟨S16x2048x512, .f32⟩
  | 78 => ⟨S16x2048x512, .f32⟩
  | 79 => ⟨S16x2048x512, .f32⟩
  | 80 => ⟨S16x2048x512, .f32⟩
  | 81 => ⟨S16x2048x512, .f32⟩
  | 82 => ⟨S_, .f32⟩
  | 83 => ⟨S16x2048x512, .f32⟩
  | 84 => ⟨S16x2048x512, .f32⟩
  | 85 => ⟨S16x2048x512, .f32⟩
  | 86 => ⟨S_, .f32⟩
  | 87 => ⟨S16x2048x512, .f32⟩
  | 88 => ⟨S16x2048x512, .f32⟩
  | 89 => ⟨S16x2048x512, .f32⟩
  | 90 => ⟨S_, .f32⟩
  | 91 => ⟨S16x2048x512, .f32⟩
  | 92 => ⟨S16x2048x512, .f32⟩
  | 93 => ⟨S_, .f32⟩
  | 94 => ⟨S16x2048x512, .f32⟩
  | 95 => ⟨S16x2048x512, .f32⟩
  | 96 => ⟨S16x2048x512, .f32⟩
  | 97 => ⟨S16x2048x512, .f32⟩
  | 98 => ⟨S16x2048x512, .f32⟩
  | 99 => ⟨S16x2048x512, .f32⟩
  | 100 => ⟨S_, .f32⟩
  | 101 => ⟨S16x2048, .f32⟩
  | 102 => ⟨S16x2048x1, .f32⟩
  | 103 => ⟨S_, .f32⟩
  | 104 => ⟨S16x2048x1, .f32⟩
  | 105 => ⟨S16x2048x1, .f32⟩
  | 106 => ⟨S_, .i32⟩
  | 107 => ⟨S_, .f32⟩
  | 108 => ⟨S16x2048, .f32⟩
  | 109 => ⟨S16x2048x1, .f32⟩
  | 110 => ⟨S_, .f32⟩
  | 111 => ⟨S16x2048x1, .f32⟩
  | 112 => ⟨S16x2048x1, .f32⟩
  | 113 => ⟨S16x2048x512, .f32⟩
  | 114 => ⟨S16x2048x512, .f32⟩
  | 115 => ⟨S16x2048x512, .f32⟩
  | 116 => ⟨S_, .f32⟩
  | 117 => ⟨S_, .f32⟩
  | 118 => ⟨S_, .f32⟩
  | 119 => ⟨S_, .f32⟩
  | 120 => ⟨S16x2048, .f32⟩
  | 121 => ⟨S16x2048x1, .f32⟩
  | 122 => ⟨S16x2048x1, .f32⟩
  | 123 => ⟨S16x2048x1, .f32⟩
  | 124 => ⟨S_, .f32⟩
  | 125 => ⟨S_, .i1⟩
  | 126 => ⟨S_, .f32⟩
  | 127 => ⟨S_, .f32⟩
  | _ => ⟨S16x2048x128, .f32⟩

abbrev hbmTy0_6 (i : Nat) : BufTy := match i % 128 with
  | 0 => ⟨S16x2048x1, .f32⟩
  | 1 => ⟨S16x2048x1, .f32⟩
  | 2 => ⟨S16x2048x512, .f32⟩
  | 3 => ⟨S16x2048x512, .f32⟩
  | 4 => ⟨S_, .f32⟩
  | 5 => ⟨S16x2048x1, .f32⟩
  | 6 => ⟨S16x2048x1, .f32⟩
  | 7 => ⟨S16x2048x1, .f32⟩
  | 8 => ⟨S16x2048x512, .f32⟩
  | 9 => ⟨S16x2048x512, .f32⟩
  | 10 => ⟨S1x1x512, .f32⟩
  | 11 => ⟨S16x2048x512, .f32⟩
  | 12 => ⟨S16x2048x512, .f32⟩
  | 13 => ⟨S1x1x512, .f32⟩
  | 14 => ⟨S16x2048x512, .f32⟩
  | 15 => ⟨S16x2048x512, .f32⟩
  | 16 => ⟨S16x2048x1024, .f32⟩
  | 17 => ⟨S1x1x1024, .f32⟩
  | 18 => ⟨S16x2048x1024, .f32⟩
  | 19 => ⟨S16x2048x1024, .f32⟩
  | 20 => ⟨S16x2048x1024, .f32⟩
  | 21 => ⟨S16x2048x1024, .f32⟩
  | 22 => ⟨S_, .f32⟩
  | 23 => ⟨S16x2048x1024, .f32⟩
  | 24 => ⟨S16x2048x1024, .f32⟩
  | 25 => ⟨S16x2048x1024, .f32⟩
  | 26 => ⟨S_, .f32⟩
  | 27 => ⟨S16x2048x1024, .f32⟩
  | 28 => ⟨S16x2048x1024, .f32⟩
  | 29 => ⟨S16x2048x1024, .f32⟩
  | 30 => ⟨S_, .f32⟩
  | 31 => ⟨S16x2048x1024, .f32⟩
  | 32 => ⟨S16x2048x1024, .f32⟩
  | 33 => ⟨S_, .f32⟩
  | 34 => ⟨S16x2048x1024, .f32⟩
  | 35 => ⟨S16x2048x1024, .f32⟩
  | 36 => ⟨S16x2048x1024, .f32⟩
  | 37 => ⟨S16x2048x512, .f32⟩
  | 38 => ⟨S1x1x512, .f32⟩
  | 39 => ⟨S16x2048x512, .f32⟩
  | 40 => ⟨S16x2048x512, .f32⟩
  | 41 => ⟨S16x2048x512, .f32⟩
  | 42 => ⟨S16x2048x512, .f32⟩
  | 43 => ⟨S16x2048x512, .f32⟩
  | 44 => ⟨S1x512, .f32⟩
  | 45 => ⟨S512, .f32⟩
  | 46 => ⟨S1x512, .f32⟩
  | 47 => ⟨S512, .f32⟩
  | 48 => ⟨S1x64, .f32⟩
  | 49 => ⟨S64, .f32⟩
  | 50 => ⟨S1x512x64, .f32⟩
  | 51 => ⟨S512x64, .f32⟩
  | 52 => ⟨S1x64x512, .f32⟩
  | 53 => ⟨S64x512, .f32⟩
  | 54 => ⟨S1x64x512, .f32⟩
  | 55 => ⟨S64x512, .f32⟩
  | 56 => ⟨S1x512, .f32⟩
  | 57 => ⟨S512, .f32⟩
  | 58 => ⟨S1x512, .f32⟩
  | 59 => ⟨S512, .f32⟩
  | 60 => ⟨S1x512, .f32⟩
  | 61 => ⟨S512, .f32⟩
  | 62 => ⟨S1x512x1024, .f32⟩
  | 63 => ⟨S512x1024, .f32⟩
  | 64 => ⟨S1x1024, .f32⟩
  | 65 => ⟨S1024, .f32⟩
  | 66 => ⟨S1x1024x512, .f32⟩
  | 67 => ⟨S1024x512, .f32⟩
  | 68 => ⟨S1x512, .f32⟩
  | 69 => ⟨S512, .f32⟩
  | 70 => ⟨S_, .f32⟩
  | 71 => ⟨S16x2048, .f32⟩
  | 72 => ⟨S16x2048x1, .f32⟩
  | 73 => ⟨S_, .f32⟩
  | 74 => ⟨S16x2048x1, .f32⟩
  | 75 => ⟨S16x2048x1, .f32⟩
  | 76 => ⟨S_, .i32⟩
  | 77 => ⟨S_, .f32⟩
  | 78 => ⟨S16x2048, .f32⟩
  | 79 => ⟨S16x2048x1, .f32⟩
  | 80 => ⟨S_, .f32⟩
  | 81 => ⟨S16x2048x1, .f32⟩
  | 82 => ⟨S16x2048x1, .f32⟩
  | 83 => ⟨S16x2048x512, .f32⟩
  | 84 => ⟨S16x2048x512, .f32⟩
  | 85 => ⟨S16x2048x512, .f32⟩
  | 86 => ⟨S_, .f32⟩
  | 87 => ⟨S_, .f32⟩
  | 88 => ⟨S_, .f32⟩
  | 89 => ⟨S_, .f32⟩
  | 90 => ⟨S16x2048, .f32⟩
  | 91 => ⟨S16x2048x1, .f32⟩
  | 92 => ⟨S16x2048x1, .f32⟩
  | 93 => ⟨S16x2048x1, .f32⟩
  | 94 => ⟨S_, .f32⟩
  | 95 => ⟨S_, .i1⟩
  | 96 => ⟨S_, .f32⟩
  | 97 => ⟨S_, .f32⟩
  | 98 => ⟨S16x2048x1, .f32⟩
  | 99 => ⟨S16x2048x1, .f32⟩
  | 100 => ⟨S16x2048x512, .f32⟩
  | 101 => ⟨S16x2048x512, .f32⟩
  | 102 => ⟨S_, .f32⟩
  | 103 => ⟨S16x2048x1, .f32⟩
  | 104 => ⟨S16x2048x1, .f32⟩
  | 105 => ⟨S16x2048x1, .f32⟩
  | 106 => ⟨S16x2048x512, .f32⟩
  | 107 => ⟨S16x2048x512, .f32⟩
  | 108 => ⟨S1x1x512, .f32⟩
  | 109 => ⟨S16x2048x512, .f32⟩
  | 110 => ⟨S16x2048x512, .f32⟩
  | 111 => ⟨S1x1x512, .f32⟩
  | 112 => ⟨S16x2048x512, .f32⟩
  | 113 => ⟨S16x2048x512, .f32⟩
  | 114 => ⟨S16x2048x64, .f32⟩
  | 115 => ⟨S_, .f32⟩
  | 116 => ⟨S16x64, .f32⟩
  | 117 => ⟨S2048x16x64, .f32⟩
  | 118 => ⟨S_, .f32⟩
  | 119 => ⟨S2048x16x64, .f32⟩
  | 120 => ⟨S_, .i32⟩
  | 121 => ⟨S2048x16x64, .f32⟩
  | 122 => ⟨S64, .f32⟩
  | 123 => ⟨S_, .i32⟩
  | 124 => ⟨S16x64, .f32⟩
  | 125 => ⟨S2048x16x64, .f32⟩
  | 126 => ⟨S_, .i32⟩
  | 127 => ⟨S_, .i1⟩
  | _ => ⟨S16x2048x128, .f32⟩

abbrev hbmTy0_7 (i : Nat) : BufTy := match i % 128 with
  | 0 => ⟨S_, .i32⟩
  | 1 => ⟨S_, .i32⟩
  | 2 => ⟨S1x16x64, .f32⟩
  | 3 => ⟨S16x64, .f32⟩
  | 4 => ⟨S1x64, .f32⟩
  | 5 => ⟨S16x64, .f32⟩
  | 6 => ⟨S16x64, .f32⟩
  | 7 => ⟨S16x64, .f32⟩
  | 8 => ⟨S1x16x64, .f32⟩
  | 9 => ⟨S_, .i32⟩
  | 10 => ⟨S_, .i32⟩
  | 11 => ⟨S2048x16x64, .f32⟩
  | 12 => ⟨S_, .i32⟩
  | 13 => ⟨S_, .i32⟩
  | 14 => ⟨S16x2048x64, .f32⟩
  | 15 => ⟨S16x2048x64, .f32⟩
  | 16 => ⟨S_, .f32⟩
  | 17 => ⟨S16x64, .f32⟩
  | 18 => ⟨S2048x16x64, .f32⟩
  | 19 => ⟨S_, .f32⟩
  | 20 => ⟨S2048x16x64, .f32⟩
  | 21 => ⟨S_, .i32⟩
  | 22 => ⟨S2048x16x64, .f32⟩
  | 23 => ⟨S64, .f32⟩
  | 24 => ⟨S_, .i32⟩
  | 25 => ⟨S16x64, .f32⟩
  | 26 => ⟨S2048x16x64, .f32⟩
  | 27 => ⟨S_, .i32⟩
  | 28 => ⟨S_, .i1⟩
  | 29 => ⟨S_, .i32⟩
  | 30 => ⟨S_, .i32⟩
  | 31 => ⟨S1x16x64, .f32⟩
  | 32 => ⟨S16x64, .f32⟩
  | 33 => ⟨S1x64, .f32⟩
  | 34 => ⟨S16x64, .f32⟩
  | 35 => ⟨S16x64, .f32⟩
  | 36 => ⟨S16x64, .f32⟩
  | 37 => ⟨S1x16x64, .f32⟩
  | 38 => ⟨S_, .i32⟩
  | 39 => ⟨S_, .i32⟩
  | 40 => ⟨S2048x16x64, .f32⟩
  | 41 => ⟨S_, .i32⟩
  | 42 => ⟨S_, .i32⟩
  | 43 => ⟨S16x2048x64, .f32⟩
  | 44 => ⟨S16x2048x64, .f32⟩
  | 45 => ⟨S16x2048x512, .f32⟩
  | 46 => ⟨S16x2048x512, .f32⟩
  | 47 => ⟨S16x2048x512, .f32⟩
  | 48 => ⟨S1x1x512, .f32⟩
  | 49 => ⟨S16x2048x512, .f32⟩
  | 50 => ⟨S16x2048x512, .f32⟩
  | 51 => ⟨S16x2048x512, .f32⟩
  | 52 => ⟨S16x2048x512, .f32⟩
  | 53 => ⟨S16x2048x512, .f32⟩
  | 54 => ⟨S_, .f32⟩
  | 55 => ⟨S16x2048x512, .f32⟩
  | 56 => ⟨S16x2048x512, .f32⟩
  | 57 => ⟨S16x2048x512, .f32⟩
  | 58 => ⟨S_, .f32⟩
  | 59 => ⟨S16x2048x512, .f32⟩
  | 60 => ⟨S16x2048x512, .f32⟩
  | 61 => ⟨S16x2048x512, .f32⟩
  | 62 => ⟨S_, .f32⟩
  | 63 => ⟨S16x2048x512, .f32⟩
  | 64 => ⟨S16x2048x512, .f32⟩
  | 65 => ⟨S_, .f32⟩
  | 66 => ⟨S16x2048x512, .f32⟩
  | 67 => ⟨S16x2048x512, .f32⟩
  | 68 => ⟨S16x2048x512, .f32⟩
  | 69 => ⟨S16x2048x512, .f32⟩
  | 70 => ⟨S16x2048x512, .f32⟩
  | 71 => ⟨S16x2048x512, .f32⟩
  | 72 => ⟨S_, .f32⟩
  | 73 => ⟨S16x2048, .f32⟩
  | 74 => ⟨S16x2048x1, .f32⟩
  | 75 => ⟨S_, .f32⟩
  | 76 => ⟨S16x2048x1, .f32⟩
  | 77 => ⟨S16x2048x1, .f32⟩
  | 78 => ⟨S_, .i32⟩
  | 79 => ⟨S_, .f32⟩
  | 80 => ⟨S16x2048, .f32⟩
  | 81 => ⟨S16x2048x1, .f32⟩
  | 82 => ⟨S_, .f32⟩
  | 83 => ⟨S16x2048x1, .f32⟩
  | 84 => ⟨S16x2048x1, .f32⟩
  | 85 => ⟨S16x2048x512, .f32⟩
  | 86 => ⟨S16x2048x512, .f32⟩
  | 87 => ⟨S16x2048x512, .f32⟩
  | 88 => ⟨S_, .f32⟩
  | 89 => ⟨S_, .f32⟩
  | 90 => ⟨S_, .f32⟩
  | 91 => ⟨S_, .f32⟩
  | 92 => ⟨S16x2048, .f32⟩
  | 93 => ⟨S16x2048x1, .f32⟩
  | 94 => ⟨S16x2048x1, .f32⟩
  | 95 => ⟨S16x2048x1, .f32⟩
  | 96 => ⟨S_, .f32⟩
  | 97 => ⟨S_, .i1⟩
  | 98 => ⟨S_, .f32⟩
  | 99 => ⟨S_, .f32⟩
  | 100 => ⟨S16x2048x1, .f32⟩
  | 101 => ⟨S16x2048x1, .f32⟩
  | 102 => ⟨S16x2048x512, .f32⟩
  | 103 => ⟨S16x2048x512, .f32⟩
  | 104 => ⟨S_, .f32⟩
  | 105 => ⟨S16x2048x1, .f32⟩
  | 106 => ⟨S16x2048x1, .f32⟩
  | 107 => ⟨S16x2048x1, .f32⟩
  | 108 => ⟨S16x2048x512, .f32⟩
  | 109 => ⟨S16x2048x512, .f32⟩
  | 110 => ⟨S1x1x512, .f32⟩
  | 111 => ⟨S16x2048x512, .f32⟩
  | 112 => ⟨S16x2048x512, .f32⟩
  | 113 => ⟨S1x1x512, .f32⟩
  | 114 => ⟨S16x2048x512, .f32⟩
  | 115 => ⟨S16x2048x512, .f32⟩
  | 116 => ⟨S16x2048x1024, .f32⟩
  | 117 => ⟨S1x1x1024, .f32⟩
  | 118 => ⟨S16x2048x1024, .f32⟩
  | 119 => ⟨S16x2048x1024, .f32⟩
  | 120 => ⟨S16x2048x1024, .f32⟩
  | 121 => ⟨S16x2048x1024, .f32⟩
  | 122 => ⟨S_, .f32⟩
  | 123 => ⟨S16x2048x1024, .f32⟩
  | 124 => ⟨S16x2048x1024, .f32⟩
  | 125 => ⟨S16x2048x1024, .f32⟩
  | 126 => ⟨S_, .f32⟩
  | 127 => ⟨S16x2048x1024, .f32⟩
  | _ => ⟨S16x2048x128, .f32⟩

abbrev hbmTy0_8 (i : Nat) : BufTy := match i % 128 with
  | 0 => ⟨S16x2048x1024, .f32⟩
  | 1 => ⟨S16x2048x1024, .f32⟩
  | 2 => ⟨S_, .f32⟩
  | 3 => ⟨S16x2048x1024, .f32⟩
  | 4 => ⟨S16x2048x1024, .f32⟩
  | 5 => ⟨S_, .f32⟩
  | 6 => ⟨S16x2048x1024, .f32⟩
  | 7 => ⟨S16x2048x1024, .f32⟩
  | 8 => ⟨S16x2048x1024, .f32⟩
  | 9 => ⟨S16x2048x512, .f32⟩
  | 10 => ⟨S1x1x512, .f32⟩
  | 11 => ⟨S16x2048x512, .f32⟩
  | 12 => ⟨S16x2048x512, .f32⟩
  | 13 => ⟨S16x2048x512, .f32⟩
  | 14 => ⟨S16x2048x512, .f32⟩
  | 15 => ⟨S16x2048x512, .f32⟩
  | 16 => ⟨S1x512, .f32⟩
  | 17 => ⟨S512, .f32⟩
  | 18 => ⟨S1x512, .f32⟩
  | 19 => ⟨S512, .f32⟩
  | 20 => ⟨S1x64, .f32⟩
  | 21 => ⟨S64, .f32⟩
  | 22 => ⟨S1x512x64, .f32⟩
  | 23 => ⟨S512x64, .f32⟩
  | 24 => ⟨S1x64x512, .f32⟩
  | 25 => ⟨S64x512, .f32⟩
  | 26 => ⟨S1x64x512, .f32⟩
  | 27 => ⟨S64x512, .f32⟩
  | 28 => ⟨S1x512, .f32⟩
  | 29 => ⟨S512, .f32⟩
  | 30 => ⟨S1x512, .f32⟩
  | 31 => ⟨S512, .f32⟩
  | 32 => ⟨S1x512, .f32⟩
  | 33 => ⟨S512, .f32⟩
  | 34 => ⟨S1x512x1024, .f32⟩
  | 35 => ⟨S512x1024, .f32⟩
  | 36 => ⟨S1x1024, .f32⟩
  | 37 => ⟨S1024, .f32⟩
  | 38 => ⟨S1x1024x512, .f32⟩
  | 39 => ⟨S1024x512, .f32⟩
  | 40 => ⟨S1x512, .f32⟩
  | 41 => ⟨S512, .f32⟩
  | 42 => ⟨S_, .f32⟩
  | 43 => ⟨S16x2048, .f32⟩
  | 44 => ⟨S16x2048x1, .f32⟩
  | 45 => ⟨S_, .f32⟩
  | 46 => ⟨S16x2048x1, .f32⟩
  | 47 => ⟨S16x2048x1, .f32⟩
  | 48 => ⟨S_, .i32⟩
  | 49 => ⟨S_, .f32⟩
  | 50 => ⟨S16x2048, .f32⟩
  | 51 => ⟨S16x2048x1, .f32⟩
  | 52 => ⟨S_, .f32⟩
  | 53 => ⟨S16x2048x1, .f32⟩
  | 54 => ⟨S16x2048x1, .f32⟩
  | 55 => ⟨S16x2048x512, .f32⟩
  | 56 => ⟨S16x2048x512, .f32⟩
  | 57 => ⟨S16x2048x512, .f32⟩
  | 58 => ⟨S_, .f32⟩
  | 59 => ⟨S_, .f32⟩
  | 60 => ⟨S_, .f32⟩
  | 61 => ⟨S_, .f32⟩
  | 62 => ⟨S16x2048, .f32⟩
  | 63 => ⟨S16x2048x1, .f32⟩
  | 64 => ⟨S16x2048x1, .f32⟩
  | 65 => ⟨S16x2048x1, .f32⟩
  | 66 => ⟨S_, .f32⟩
  | 67 => ⟨S_, .i1⟩
  | 68 => ⟨S_, .f32⟩
  | 69 => ⟨S_, .f32⟩
  | 70 => ⟨S16x2048x1, .f32⟩
  | 71 => ⟨S16x2048x1, .f32⟩
  | 72 => ⟨S16x2048x512, .f32⟩
  | 73 => ⟨S16x2048x512, .f32⟩
  | 74 => ⟨S_, .f32⟩
  | 75 => ⟨S16x2048x1, .f32⟩
  | 76 => ⟨S16x2048x1, .f32⟩
  | 77 => ⟨S16x2048x1, .f32⟩
  | 78 => ⟨S16x2048x512, .f32⟩
  | 79 => ⟨S16x2048x512, .f32⟩
  | 80 => ⟨S1x1x512, .f32⟩
  | 81 => ⟨S16x2048x512, .f32⟩
  | 82 => ⟨S16x2048x512, .f32⟩
  | 83 => ⟨S1x1x512, .f32⟩
  | 84 => ⟨S16x2048x512, .f32⟩
  | 85 => ⟨S16x2048x512, .f32⟩
  | 86 => ⟨S16x2048x64, .f32⟩
  | 87 => ⟨S_, .f32⟩
  | 88 => ⟨S16x64, .f32⟩
  | 89 => ⟨S2048x16x64, .f32⟩
  | 90 => ⟨S_, .f32⟩
  | 91 => ⟨S2048x16x64, .f32⟩
  | 92 => ⟨S_, .i32⟩
  | 93 => ⟨S2048x16x64, .f32⟩
  | 94 => ⟨S64, .f32⟩
  | 95 => ⟨S_, .i32⟩
  | 96 => ⟨S16x64, .f32⟩
  | 97 => ⟨S2048x16x64, .f32⟩
  | 98 => ⟨S_, .i32⟩
  | 99 => ⟨S_, .i1⟩
  | 100 => ⟨S_, .i32⟩
  | 101 => ⟨S_, .i32⟩
  | 102 => ⟨S1x16x64, .f32⟩
  | 103 => ⟨S16x64, .f32⟩
  | 104 => ⟨S1x64, .f32⟩
  | 105 => ⟨S16x64, .f32⟩
  | 106 => ⟨S16x64, .f32⟩
  | 107 => ⟨S16x64, .f32⟩
  | 108 => ⟨S1x16x64, .f32⟩
  | 109 => ⟨S_, .i32⟩
  | 110 => ⟨S_, .i32⟩
  | 111 => ⟨S2048x16x64, .f32⟩
  | 112 => ⟨S_, .i32⟩
  | 113 => ⟨S_, .i32⟩
  | 114 => ⟨S16x2048x64, .f32⟩
  | 115 => ⟨S16x2048x64, .f32⟩
  | 116 => ⟨S_, .f32⟩
  | 117 => ⟨S16x64, .f32⟩
  | 118 => ⟨S2048x16x64, .f32⟩
  | 119 => ⟨S_, .f32⟩
  | 120 => ⟨S2048x16x64, .f32⟩
  | 121 => ⟨S_, .i32⟩
  | 122 => ⟨S2048x16x64, .f32⟩
  | 123 => ⟨S64, .f32⟩
  | 124 => ⟨S_, .i32⟩
  | 125 => ⟨S16x64, .f32⟩
  | 126 => ⟨S2048x16x64, .f32⟩
  | 127 => ⟨S_, .i32⟩
  | _ => ⟨S16x2048x128, .f32⟩

abbrev hbmTy0_9 (i : Nat) : BufTy := match i % 128 with
  | 0 => ⟨S_, .i1⟩
  | 1 => ⟨S_, .i32⟩
  | 2 => ⟨S_, .i32⟩
  | 3 => ⟨S1x16x64, .f32⟩
  | 4 => ⟨S16x64, .f32⟩
  | 5 => ⟨S1x64, .f32⟩
  | 6 => ⟨S16x64, .f32⟩
  | 7 => ⟨S16x64, .f32⟩
  | 8 => ⟨S16x64, .f32⟩
  | 9 => ⟨S1x16x64, .f32⟩
  | 10 => ⟨S_, .i32⟩
  | 11 => ⟨S_, .i32⟩
  | 12 => ⟨S2048x16x64, .f32⟩
  | 13 => ⟨S_, .i32⟩
  | 14 => ⟨S_, .i32⟩
  | 15 => ⟨S16x2048x64, .f32⟩
  | 16 => ⟨S16x2048x64, .f32⟩
  | 17 => ⟨S16x2048x512, .f32⟩
  | 18 => ⟨S16x2048x512, .f32⟩
  | 19 => ⟨S16x2048x512, .f32⟩
  | 20 => ⟨S1x1x512, .f32⟩
  | 21 => ⟨S16x2048x512, .f32⟩
  | 22 => ⟨S16x2048x512, .f32⟩
  | 23 => ⟨S16x2048x512, .f32⟩
  | 24 => ⟨S16x2048x512, .f32⟩
  | 25 => ⟨S16x2048x512, .f32⟩
  | 26 => ⟨S_, .f32⟩
  | 27 => ⟨S16x2048x512, .f32⟩
  | 28 => ⟨S16x2048x512, .f32⟩
  | 29 => ⟨S16x2048x512, .f32⟩
  | 30 => ⟨S_, .f32⟩
  | 31 => ⟨S16x2048x512, .f32⟩
  | 32 => ⟨S16x2048x512, .f32⟩
  | 33 => ⟨S16x2048x512, .f32⟩
  | 34 => ⟨S_, .f32⟩
  | 35 => ⟨S16x2048x512, .f32⟩
  | 36 => ⟨S16x2048x512, .f32⟩
  | 37 => ⟨S_, .f32⟩
  | 38 => ⟨S16x2048x512, .f32⟩
  | 39 => ⟨S16x2048x512, .f32⟩
  | 40 => ⟨S16x2048x512, .f32⟩
  | 41 => ⟨S16x2048x512, .f32⟩
  | 42 => ⟨S16x2048x512, .f32⟩
  | 43 => ⟨S16x2048x512, .f32⟩
  | 44 => ⟨S_, .f32⟩
  | 45 => ⟨S16x2048, .f32⟩
  | 46 => ⟨S16x2048x1, .f32⟩
  | 47 => ⟨S_, .f32⟩
  | 48 => ⟨S16x2048x1, .f32⟩
  | 49 => ⟨S16x2048x1, .f32⟩
  | 50 => ⟨S_, .i32⟩
  | 51 => ⟨S_, .f32⟩
  | 52 => ⟨S16x2048, .f32⟩
  | 53 => ⟨S16x2048x1, .f32⟩
  | 54 => ⟨S_, .f32⟩
  | 55 => ⟨S16x2048x1, .f32⟩
  | 56 => ⟨S16x2048x1, .f32⟩
  | 57 => ⟨S16x2048x512, .f32⟩
  | 58 => ⟨S16x2048x512, .f32⟩
  | 59 => ⟨S16x2048x512, .f32⟩
  | 60 => ⟨S_, .f32⟩
  | 61 => ⟨S_, .f32⟩
  | 62 => ⟨S_, .f32⟩
  | 63 => ⟨S_, .f32⟩
  | 64 => ⟨S16x2048, .f32⟩
  | 65 => ⟨S16x2048x1, .f32⟩
  | 66 => ⟨S16x2048x1, .f32⟩
  | 67 => ⟨S16x2048x1, .f32⟩
  | 68 => ⟨S_, .f32⟩
  | 69 => ⟨S_, .i1⟩
  | 70 => ⟨S_, .f32⟩
  | 71 => ⟨S_, .f32⟩
  | 72 => ⟨S16x2048x1, .f32⟩
  | 73 => ⟨S16x2048x1, .f32⟩
  | 74 => ⟨S16x2048x512, .f32⟩
  | 75 => ⟨S16x2048x512, .f32⟩
  | 76 => ⟨S_, .f32⟩
  | 77 => ⟨S16x2048x1, .f32⟩
  | 78 => ⟨S16x2048x1, .f32⟩
  | 79 => ⟨S16x2048x1, .f32⟩
  | 80 => ⟨S16x2048x512, .f32⟩
  | 81 => ⟨S16x2048x512, .f32⟩
  | 82 => ⟨S1x1x512, .f32⟩
  | 83 => ⟨S16x2048x512, .f32⟩
  | 84 => ⟨S16x2048x512, .f32⟩
  | 85 => ⟨S1x1x512, .f32⟩
  | 86 => ⟨S16x2048x512, .f32⟩
  | 87 => ⟨S16x2048x512, .f32⟩
  | 88 => ⟨S16x2048x1024, .f32⟩
  | 89 => ⟨S1x1x1024, .f32⟩
  | 90 => ⟨S16x2048x1024, .f32⟩
  | 91 => ⟨S16x2048x1024, .f32⟩
  | 92 => ⟨S16x2048x1024, .f32⟩
  | 93 => ⟨S16x2048x1024, .f32⟩
  | 94 => ⟨S_, .f32⟩
  | 95 => ⟨S16x2048x1024, .f32⟩
  | 96 => ⟨S16x2048x1024, .f32⟩
  | 97 => ⟨S16x2048x1024, .f32⟩
  | 98 => ⟨S_, .f32⟩
  | 99 => ⟨S16x2048x1024, .f32⟩
  | 100 => ⟨S16x2048x1024, .f32⟩
  | 101 => ⟨S16x2048x1024, .f32⟩
  | 102 => ⟨S_, .f32⟩
  | 103 => ⟨S16x2048x1024, .f32⟩
  | 104 => ⟨S16x2048x1024, .f32⟩
  | 105 => ⟨S_, .f32⟩
  | 106 => ⟨S16x2048x1024, .f32⟩
  | 107 => ⟨S16x2048x1024, .f32⟩
  | 108 => ⟨S16x2048x1024, .f32⟩
  | 109 => ⟨S16x2048x512, .f32⟩
  | 110 => ⟨S1x1x512, .f32⟩
  | 111 => ⟨S16x2048x512, .f32⟩
  | 112 => ⟨S16x2048x512, .f32⟩
  | 113 => ⟨S16x2048x512, .f32⟩
  | 114 => ⟨S16x2048x512, .f32⟩
  | 115 => ⟨S16x2048x512, .f32⟩
  | 116 => ⟨S1x512, .f32⟩
  | 117 => ⟨S512, .f32⟩
  | 118 => ⟨S1x512, .f32⟩
  | 119 => ⟨S512, .f32⟩
  | 120 => ⟨S1x64, .f32⟩
  | 121 => ⟨S64, .f32⟩
  | 122 => ⟨S1x512x64, .f32⟩
  | 123 => ⟨S512x64, .f32⟩
  | 124 => ⟨S1x64x512, .f32⟩
  | 125 => ⟨S64x512, .f32⟩
  | 126 => ⟨S1x64x512, .f32⟩
  | 127 => ⟨S64x512, .f32⟩
  | _ => ⟨S16x2048x128, .f32⟩

abbrev hbmTy0_10 (i : Nat) : BufTy := match i % 128 with
  | 0 => ⟨S1x512, .f32⟩
  | 1 => ⟨S512, .f32⟩
  | 2 => ⟨S1x512, .f32⟩
  | 3 => ⟨S512, .f32⟩
  | 4 => ⟨S1x512, .f32⟩
  | 5 => ⟨S512, .f32⟩
  | 6 => ⟨S1x512x1024, .f32⟩
  | 7 => ⟨S512x1024, .f32⟩
  | 8 => ⟨S1x1024, .f32⟩
  | 9 => ⟨S1024, .f32⟩
  | 10 => ⟨S1x1024x512, .f32⟩
  | 11 => ⟨S1024x512, .f32⟩
  | 12 => ⟨S1x512, .f32⟩
  | 13 => ⟨S512, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S_, .i32⟩
  | 21 => ⟨S_, .f32⟩
  | 22 => ⟨S16x2048, .f32⟩
  | 23 => ⟨S16x2048x1, .f32⟩
  | 24 => ⟨S_, .f32⟩
  | 25 => ⟨S16x2048x1, .f32⟩
  | 26 => ⟨S16x2048x1, .f32⟩
  | 27 => ⟨S16x2048x512, .f32⟩
  | 28 => ⟨S16x2048x512, .f32⟩
  | 29 => ⟨S16x2048x512, .f32⟩
  | 30 => ⟨S_, .f32⟩
  | 31 => ⟨S_, .f32⟩
  | 32 => ⟨S_, .f32⟩
  | 33 => ⟨S_, .f32⟩
  | 34 => ⟨S16x2048, .f32⟩
  | 35 => ⟨S16x2048x1, .f32⟩
  | 36 => ⟨S16x2048x1, .f32⟩
  | 37 => ⟨S16x2048x1, .f32⟩
  | 38 => ⟨S_, .f32⟩
  | 39 => ⟨S_, .i1⟩
  | 40 => ⟨S_, .f32⟩
  | 41 => ⟨S_, .f32⟩
  | 42 => ⟨S16x2048x1, .f32⟩
  | 43 => ⟨S16x2048x1, .f32⟩
  | 44 => ⟨S16x2048x512, .f32⟩
  | 45 => ⟨S16x2048x512, .f32⟩
  | 46 => ⟨S_, .f32⟩
  | 47 => ⟨S16x2048x1, .f32⟩
  | 48 => ⟨S16x2048x1, .f32⟩
  | 49 => ⟨S16x2048x1, .f32⟩
  | 50 => ⟨S16x2048x512, .f32⟩
  | 51 => ⟨S16x2048x512, .f32⟩
  | 52 => ⟨S1x1x512, .f32⟩
  | 53 => ⟨S16x2048x512, .f32⟩
  | 54 => ⟨S16x2048x512, .f32⟩
  | 55 => ⟨S1x1x512, .f32⟩
  | 56 => ⟨S16x2048x512, .f32⟩
  | 57 => ⟨S16x2048x512, .f32⟩
  | 58 => ⟨S16x2048x64, .f32⟩
  | 59 => ⟨S_, .f32⟩
  | 60 => ⟨S16x64, .f32⟩
  | 61 => ⟨S2048x16x64, .f32⟩
  | 62 => ⟨S_, .f32⟩
  | 63 => ⟨S2048x16x64, .f32⟩
  | 64 => ⟨S_, .i32⟩
  | 65 => ⟨S2048x16x64, .f32⟩
  | 66 => ⟨S64, .f32⟩
  | 67 => ⟨S_, .i32⟩
  | 68 => ⟨S16x64, .f32⟩
  | 69 => ⟨S2048x16x64, .f32⟩
  | 70 => ⟨S_, .i32⟩
  | 71 => ⟨S_, .i1⟩
  | 72 => ⟨S_, .i32⟩
  | 73 => ⟨S_, .i32⟩
  | 74 => ⟨S1x16x64, .f32⟩
  | 75 => ⟨S16x64, .f32⟩
  | 76 => ⟨S1x64, .f32⟩
  | 77 => ⟨S16x64, .f32⟩
  | 78 => ⟨S16x64, .f32⟩
  | 79 => ⟨S16x64, .f32⟩
  | 80 => ⟨S1x16x64, .f32⟩
  | 81 => ⟨S_, .i32⟩
  | 82 => ⟨S_, .i32⟩
  | 83 => ⟨S2048x16x64, .f32⟩
  | 84 => ⟨S_, .i32⟩
  | 85 => ⟨S_, .i32⟩
  | 86 => ⟨S16x2048x64, .f32⟩
  | 87 => ⟨S16x2048x64, .f32⟩
  | 88 => ⟨S_, .f32⟩
  | 89 => ⟨S16x64, .f32⟩
  | 90 => ⟨S2048x16x64, .f32⟩
  | 91 => ⟨S_, .f32⟩
  | 92 => ⟨S2048x16x64, .f32⟩
  | 93 => ⟨S_, .i32⟩
  | 94 => ⟨S2048x16x64, .f32⟩
  | 95 => ⟨S64, .f32⟩
  | 96 => ⟨S_, .i32⟩
  | 97 => ⟨S16x64, .f32⟩
  | 98 => ⟨S2048x16x64, .f32⟩
  | 99 => ⟨S_, .i32⟩
  | 100 => ⟨S_, .i1⟩
  | 101 => ⟨S_, .i32⟩
  | 102 => ⟨S_, .i32⟩
  | 103 => ⟨S1x16x64, .f32⟩
  | 104 => ⟨S16x64, .f32⟩
  | 105 => ⟨S1x64, .f32⟩
  | 106 => ⟨S16x64, .f32⟩
  | 107 => ⟨S16x64, .f32⟩
  | 108 => ⟨S16x64, .f32⟩
  | 109 => ⟨S1x16x64, .f32⟩
  | 110 => ⟨S_, .i32⟩
  | 111 => ⟨S_, .i32⟩
  | 112 => ⟨S2048x16x64, .f32⟩
  | 113 => ⟨S_, .i32⟩
  | 114 => ⟨S_, .i32⟩
  | 115 => ⟨S16x2048x64, .f32⟩
  | 116 => ⟨S16x2048x64, .f32⟩
  | 117 => ⟨S16x2048x512, .f32⟩
  | 118 => ⟨S16x2048x512, .f32⟩
  | 119 => ⟨S16x2048x512, .f32⟩
  | 120 => ⟨S1x1x512, .f32⟩
  | 121 => ⟨S16x2048x512, .f32⟩
  | 122 => ⟨S16x2048x512, .f32⟩
  | 123 => ⟨S16x2048x512, .f32⟩
  | 124 => ⟨S16x2048x512, .f32⟩
  | 125 => ⟨S16x2048x512, .f32⟩
  | 126 => ⟨S_, .f32⟩
  | 127 => ⟨S16x2048x512, .f32⟩
  | _ => ⟨S16x2048x128, .f32⟩

abbrev hbmTy0_11 (i : Nat) : BufTy := match i % 128 with
  | 0 => ⟨S16x2048x512, .f32⟩
  | 1 => ⟨S16x2048x512, .f32⟩
  | 2 => ⟨S_, .f32⟩
  | 3 => ⟨S16x2048x512, .f32⟩
  | 4 => ⟨S16x2048x512, .f32⟩
  | 5 => ⟨S16x2048x512, .f32⟩
  | 6 => ⟨S_, .f32⟩
  | 7 => ⟨S16x2048x512, .f32⟩
  | 8 => ⟨S16x2048x512, .f32⟩
  | 9 => ⟨S_, .f32⟩
  | 10 => ⟨S16x2048x512, .f32⟩
  | 11 => ⟨S16x2048x512, .f32⟩
  | 12 => ⟨S16x2048x512, .f32⟩
  | 13 => ⟨S16x2048x512, .f32⟩
  | 14 => ⟨S16x2048x512, .f32⟩
  | 15 => ⟨S16x2048x512, .f32⟩
  | 16 => ⟨S_, .f32⟩
  | 17 => ⟨S16x2048, .f32⟩
  | 18 => ⟨S16x2048x1, .f32⟩
  | 19 => ⟨S_, .f32⟩
  | 20 => ⟨S16x2048x1, .f32⟩
  | 21 => ⟨S16x2048x1, .f32⟩
  | 22 => ⟨S_, .i32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S16x2048x512, .f32⟩
  | 30 => ⟨S16x2048x512, .f32⟩
  | 31 => ⟨S16x2048x512, .f32⟩
  | 32 => ⟨S_, .f32⟩
  | 33 => ⟨S_, .f32⟩
  | 34 => ⟨S_, .f32⟩
  | 35 => ⟨S_, .f32⟩
  | 36 => ⟨S16x2048, .f32⟩
  | 37 => ⟨S16x2048x1, .f32⟩
  | 38 => ⟨S16x2048x1, .f32⟩
  | 39 => ⟨S16x2048x1, .f32⟩
  | 40 => ⟨S_, .f32⟩
  | 41 => ⟨S_, .i1⟩
  | 42 => ⟨S_, .f32⟩
  | 43 => ⟨S_, .f32⟩
  | 44 => ⟨S16x2048x1, .f32⟩
  | 45 => ⟨S16x2048x1, .f32⟩
  | 46 => ⟨S16x2048x512, .f32⟩
  | 47 => ⟨S16x2048x512, .f32⟩
  | 48 => ⟨S_, .f32⟩
  | 49 => ⟨S16x2048x1, .f32⟩
  | 50 => ⟨S16x2048x1, .f32⟩
  | 51 => ⟨S16x2048x1, .f32⟩
  | 52 => ⟨S16x2048x512, .f32⟩
  | 53 => ⟨S16x2048x512, .f32⟩
  | 54 => ⟨S1x1x512, .f32⟩
  | 55 => ⟨S16x2048x512, .f32⟩
  | 56 => ⟨S16x2048x512, .f32⟩
  | 57 => ⟨S1x1x512, .f32⟩
  | 58 => ⟨S16x2048x512, .f32⟩
  | 59 => ⟨S16x2048x512, .f32⟩
  | 60 => ⟨S16x2048x1024, .f32⟩
  | 61 => ⟨S1x1x1024, .f32⟩
  | 62 => ⟨S16x2048x1024, .f32⟩
  | 63 => ⟨S16x2048x1024, .f32⟩
  | 64 => ⟨S16x2048x1024, .f32⟩
  | 65 => ⟨S16x2048x1024, .f32⟩
  | 66 => ⟨S_, .f32⟩
  | 67 => ⟨S16x2048x1024, .f32⟩
  | 68 => ⟨S16x2048x1024, .f32⟩
  | 69 => ⟨S16x2048x1024, .f32⟩
  | 70 => ⟨S_, .f32⟩
  | 71 => ⟨S16x2048x1024, .f32⟩
  | 72 => ⟨S16x2048x1024, .f32⟩
  | 73 => ⟨S16x2048x1024, .f32⟩
  | 74 => ⟨S_, .f32⟩
  | 75 => ⟨S16x2048x1024, .f32⟩
  | 76 => ⟨S16x2048x1024, .f32⟩
  | 77 => ⟨S_, .f32⟩
  | 78 => ⟨S16x2048x1024, .f32⟩
  | 79 => ⟨S16x2048x1024, .f32⟩
  | 80 => ⟨S16x2048x1024, .f32⟩
  | 81 => ⟨S16x2048x512, .f32⟩
  | 82 => ⟨S1x1x512, .f32⟩
  | 83 => ⟨S16x2048x512, .f32⟩
  | 84 => ⟨S16x2048x512, .f32⟩
  | 85 => ⟨S16x2048x512, .f32⟩
  | 86 => ⟨S16x2048x512, .f32⟩
  | 87 => ⟨S16x2048x512, .f32⟩
  | _ => ⟨S16x2048x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S16x2048x128, .f32⟩

abbrev bufTy : (tb : Table) → Fin (tcTables nBuf tb) → BufTy
  | .hbm, ⟨i, _⟩ => hbmTy i
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_c : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_cst_0 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_cst_1 : Ref sig .tc := ⟨.hbm, 49, rfl⟩
abbrev main_call0_call0_v8 : Ref sig .tc := ⟨.hbm, 50, rfl⟩
abbrev main_call0_call0_cst_2 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_cst_3 : Ref sig .tc := ⟨.hbm, 56, rfl⟩
abbrev main_call0_call0_v13 : Ref sig .tc := ⟨.hbm, 57, rfl⟩
abbrev main_call0_call0_cst_4 : Ref sig .tc := ⟨.hbm, 58, rfl⟩
abbrev main_call0_call0_call0_v0 : Ref sig .tc := ⟨.hbm, 59, rfl⟩
abbrev main_call0_call0_call0_v1 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_cst_1 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_call0_v15 : Ref sig .tc := ⟨.hbm, 73, rfl⟩
abbrev main_call0_v16 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_c : Ref sig .tc := ⟨.hbm, 86, rfl⟩
abbrev main_call1_call0_cst : Ref sig .tc := ⟨.hbm, 87, rfl⟩
abbrev main_call1_call0_v0 : Ref sig .tc := ⟨.hbm, 88, rfl⟩
abbrev main_call1_call0_v1 : Ref sig .tc := ⟨.hbm, 89, rfl⟩
abbrev main_call1_call0_cst_0 : Ref sig .tc := ⟨.hbm, 90, rfl⟩
abbrev main_call1_call0_v2 : Ref sig .tc := ⟨.hbm, 91, rfl⟩
abbrev main_call1_call0_v3 : Ref sig .tc := ⟨.hbm, 92, rfl⟩
abbrev main_call1_call0_v4 : Ref sig .tc := ⟨.hbm, 93, rfl⟩
abbrev main_call1_call0_v5 : Ref sig .tc := ⟨.hbm, 94, rfl⟩
abbrev main_call1_call0_v6 : Ref sig .tc := ⟨.hbm, 95, rfl⟩
abbrev main_call1_call0_v7 : Ref sig .tc := ⟨.hbm, 96, rfl⟩
abbrev main_call1_call0_cst_1 : Ref sig .tc := ⟨.hbm, 97, rfl⟩
abbrev main_call1_call0_v8 : Ref sig .tc := ⟨.hbm, 98, rfl⟩
abbrev main_call1_call0_cst_2 : Ref sig .tc := ⟨.hbm, 99, rfl⟩
abbrev main_call1_call0_v9 : Ref sig .tc := ⟨.hbm, 100, rfl⟩
abbrev main_call1_call0_v10 : Ref sig .tc := ⟨.hbm, 101, rfl⟩
abbrev main_call1_call0_v11 : Ref sig .tc := ⟨.hbm, 102, rfl⟩
abbrev main_call1_call0_v12 : Ref sig .tc := ⟨.hbm, 103, rfl⟩
abbrev main_call1_call0_cst_3 : Ref sig .tc := ⟨.hbm, 104, rfl⟩
abbrev main_call1_call0_v13 : Ref sig .tc := ⟨.hbm, 105, rfl⟩
abbrev main_call1_call0_cst_4 : Ref sig .tc := ⟨.hbm, 106, rfl⟩
abbrev main_call1_call0_call0_v0 : Ref sig .tc := ⟨.hbm, 107, rfl⟩
abbrev main_call1_call0_call0_v1 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_cst_1 : Ref sig .tc := ⟨.hbm, 112, rfl⟩
abbrev main_call1_v7 : Ref sig .tc := ⟨.hbm, 113, rfl⟩
abbrev main_call1_v8 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_v12 : Ref sig .tc := ⟨.hbm, 118, rfl⟩
abbrev main_call1_v13 : Ref sig .tc := ⟨.hbm, 119, rfl⟩
abbrev main_call1_v14 : Ref sig .tc := ⟨.hbm, 120, rfl⟩
abbrev main_call1_v15 : Ref sig .tc := ⟨.hbm, 121, rfl⟩
abbrev main_call1_v16 : Ref sig .tc := ⟨.hbm, 122, rfl⟩
abbrev main_v15 : Ref sig .tc := ⟨.hbm, 123, rfl⟩
abbrev main_v16 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_v20 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_v26 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_call2_call0_cst : Ref sig .tc := ⟨.hbm, 154, rfl⟩
abbrev main_call2_call0_v0 : Ref sig .tc := ⟨.hbm, 155, rfl⟩
abbrev main_call2_call0_v1 : Ref sig .tc := ⟨.hbm, 156, rfl⟩
abbrev main_call2_call0_cst_0 : Ref sig .tc := ⟨.hbm, 157, rfl⟩
abbrev main_call2_call0_v2 : Ref sig .tc := ⟨.hbm, 158, rfl⟩
abbrev main_call2_call0_v3 : Ref sig .tc := ⟨.hbm, 159, rfl⟩
abbrev main_call2_call0_c : Ref sig .tc := ⟨.hbm, 160, rfl⟩
abbrev main_call2_call0_call0_cst : Ref sig .tc := ⟨.hbm, 161, rfl⟩
abbrev main_call2_call0_call0_v0 : Ref sig .tc := ⟨.hbm, 162, rfl⟩
abbrev main_call2_call0_call0_v1 : Ref sig .tc := ⟨.hbm, 163, rfl⟩
abbrev main_call2_call0_call0_cst_0 : Ref sig .tc := ⟨.hbm, 164, rfl⟩
abbrev main_call2_call0_call0_v2 : Ref sig .tc := ⟨.hbm, 165, rfl⟩
abbrev main_call2_call0_call0_v3 : Ref sig .tc := ⟨.hbm, 166, rfl⟩
abbrev main_call2_call0_call0_v4 : Ref sig .tc := ⟨.hbm, 167, rfl⟩
abbrev main_call2_call0_call0_v5 : Ref sig .tc := ⟨.hbm, 168, rfl⟩
abbrev main_call2_call0_call0_v6 : Ref sig .tc := ⟨.hbm, 169, rfl⟩
abbrev main_call2_call0_call0_v7 : Ref sig .tc := ⟨.hbm, 170, rfl⟩
abbrev main_call2_call0_call0_cst_1 : Ref sig .tc := ⟨.hbm, 171, rfl⟩
abbrev main_call2_call0_call0_v8 : Ref sig .tc := ⟨.hbm, 172, rfl⟩
abbrev main_call2_call0_call0_cst_2 : Ref sig .tc := ⟨.hbm, 173, rfl⟩
abbrev main_call2_call0_call0_v9 : Ref sig .tc := ⟨.hbm, 174, rfl⟩
abbrev main_call2_call0_call0_v10 : Ref sig .tc := ⟨.hbm, 175, rfl⟩
abbrev main_call2_call0_call0_v11 : Ref sig .tc := ⟨.hbm, 176, rfl⟩
abbrev main_call2_call0_call0_v12 : Ref sig .tc := ⟨.hbm, 177, rfl⟩
abbrev main_call2_call0_call0_cst_3 : Ref sig .tc := ⟨.hbm, 178, rfl⟩
abbrev main_call2_call0_call0_v13 : Ref sig .tc := ⟨.hbm, 179, rfl⟩
abbrev main_call2_call0_call0_cst_4 : Ref sig .tc := ⟨.hbm, 180, rfl⟩
abbrev main_call2_call0_call0_call0_v0 : Ref sig .tc := ⟨.hbm, 181, rfl⟩
abbrev main_call2_call0_call0_call0_v1 : Ref sig .tc := ⟨.hbm, 182, rfl⟩
abbrev main_call2_call0_v4 : Ref sig .tc := ⟨.hbm, 183, rfl⟩
abbrev main_call2_call0_v5 : Ref sig .tc := ⟨.hbm, 184, rfl⟩
abbrev main_call2_call0_v6 : Ref sig .tc := ⟨.hbm, 185, rfl⟩
abbrev main_call2_call0_cst_1 : Ref sig .tc := ⟨.hbm, 186, rfl⟩
abbrev main_call2_call0_v7 : Ref sig .tc := ⟨.hbm, 187, rfl⟩
abbrev main_call2_call0_v8 : Ref sig .tc := ⟨.hbm, 188, rfl⟩
abbrev main_call2_call0_v9 : Ref sig .tc := ⟨.hbm, 189, rfl⟩
abbrev main_call2_call0_v10 : Ref sig .tc := ⟨.hbm, 190, rfl⟩
abbrev main_call2_call0_v11 : Ref sig .tc := ⟨.hbm, 191, rfl⟩
abbrev main_call2_call0_v12 : Ref sig .tc := ⟨.hbm, 192, rfl⟩
abbrev main_call2_call0_v13 : Ref sig .tc := ⟨.hbm, 193, rfl⟩
abbrev main_call2_call0_v14 : Ref sig .tc := ⟨.hbm, 194, rfl⟩
abbrev main_call2_call0_v15 : Ref sig .tc := ⟨.hbm, 195, rfl⟩
abbrev main_call2_call0_v16 : Ref sig .tc := ⟨.hbm, 196, rfl⟩
abbrev main_call2_v0 : Ref sig .tc := ⟨.hbm, 197, rfl⟩
abbrev main_call2_v1 : Ref sig .tc := ⟨.hbm, 198, rfl⟩
abbrev main_call2_call1_cst : Ref sig .tc := ⟨.hbm, 199, rfl⟩
abbrev main_call2_call1_v0 : Ref sig .tc := ⟨.hbm, 200, rfl⟩
abbrev main_call2_call1_v1 : Ref sig .tc := ⟨.hbm, 201, rfl⟩
abbrev main_call2_call1_cst_0 : Ref sig .tc := ⟨.hbm, 202, rfl⟩
abbrev main_call2_call1_v2 : Ref sig .tc := ⟨.hbm, 203, rfl⟩
abbrev main_call2_call1_c : Ref sig .tc := ⟨.hbm, 204, rfl⟩
abbrev main_call2_call1_v3_0 : Ref sig .tc := ⟨.hbm, 205, rfl⟩
abbrev main_call2_call1_v3_1 : Ref sig .tc := ⟨.hbm, 206, rfl⟩
abbrev main_call2_call1_v3_2 : Ref sig .tc := ⟨.hbm, 207, rfl⟩
abbrev main_call2_call1_v3_3 : Ref sig .tc := ⟨.hbm, 208, rfl⟩
abbrev main_call2_call1_v3_4 : Ref sig .tc := ⟨.hbm, 209, rfl⟩
abbrev main_call2_call1_while0c_c_5 : Ref sig .tc := ⟨.hbm, 210, rfl⟩
abbrev main_call2_call1_while0c_v5 : Ref sig .tc := ⟨.hbm, 211, rfl⟩
abbrev main_call2_call1_while0b_call0_c : Ref sig .tc := ⟨.hbm, 212, rfl⟩
abbrev main_call2_call1_while0b_call0_c_0 : Ref sig .tc := ⟨.hbm, 213, rfl⟩
abbrev main_call2_call1_while0b_call0_v0 : Ref sig .tc := ⟨.hbm, 214, rfl⟩
abbrev main_call2_call1_while0b_v5 : Ref sig .tc := ⟨.hbm, 215, rfl⟩
abbrev main_call2_call1_while0b_v6 : Ref sig .tc := ⟨.hbm, 216, rfl⟩
abbrev main_call2_call1_while0b_v7 : Ref sig .tc := ⟨.hbm, 217, rfl⟩
abbrev main_call2_call1_while0b_v8 : Ref sig .tc := ⟨.hbm, 218, rfl⟩
abbrev main_call2_call1_while0b_v9 : Ref sig .tc := ⟨.hbm, 219, rfl⟩
abbrev main_call2_call1_while0b_call1_v0 : Ref sig .tc := ⟨.hbm, 220, rfl⟩
abbrev main_call2_call1_while0b_call1_c : Ref sig .tc := ⟨.hbm, 221, rfl⟩
abbrev main_call2_call1_while0b_call1_c_0 : Ref sig .tc := ⟨.hbm, 222, rfl⟩
abbrev main_call2_call1_while0b_v10 : Ref sig .tc := ⟨.hbm, 223, rfl⟩
abbrev main_call2_call1_while0b_c_5 : Ref sig .tc := ⟨.hbm, 224, rfl⟩
abbrev main_call2_call1_while0b_v11 : Ref sig .tc := ⟨.hbm, 225, rfl⟩
abbrev main_call2_v2 : Ref sig .tc := ⟨.hbm, 226, rfl⟩
abbrev main_call2_v3 : Ref sig .tc := ⟨.hbm, 227, rfl⟩
abbrev main_call2_call3_cst : Ref sig .tc := ⟨.hbm, 228, rfl⟩
abbrev main_call2_call3_v0 : Ref sig .tc := ⟨.hbm, 229, rfl⟩
abbrev main_call2_call3_v1 : Ref sig .tc := ⟨.hbm, 230, rfl⟩
abbrev main_call2_call3_cst_0 : Ref sig .tc := ⟨.hbm, 231, rfl⟩
abbrev main_call2_call3_v2 : Ref sig .tc := ⟨.hbm, 232, rfl⟩
abbrev main_call2_call3_c : Ref sig .tc := ⟨.hbm, 233, rfl⟩
abbrev main_call2_call3_v3_0 : Ref sig .tc := ⟨.hbm, 234, rfl⟩
abbrev main_call2_call3_v3_1 : Ref sig .tc := ⟨.hbm, 235, rfl⟩
abbrev main_call2_call3_v3_2 : Ref sig .tc := ⟨.hbm, 236, rfl⟩
abbrev main_call2_call3_v3_3 : Ref sig .tc := ⟨.hbm, 237, rfl⟩
abbrev main_call2_call3_v3_4 : Ref sig .tc := ⟨.hbm, 238, rfl⟩
abbrev main_call2_call3_while0c_c_5 : Ref sig .tc := ⟨.hbm, 239, rfl⟩
abbrev main_call2_call3_while0c_v5 : Ref sig .tc := ⟨.hbm, 240, rfl⟩
abbrev main_call2_call3_while0b_call0_c : Ref sig .tc := ⟨.hbm, 241, rfl⟩
abbrev main_call2_call3_while0b_call0_c_0 : Ref sig .tc := ⟨.hbm, 242, rfl⟩
abbrev main_call2_call3_while0b_call0_v0 : Ref sig .tc := ⟨.hbm, 243, rfl⟩
abbrev main_call2_call3_while0b_v5 : Ref sig .tc := ⟨.hbm, 244, rfl⟩
abbrev main_call2_call3_while0b_v6 : Ref sig .tc := ⟨.hbm, 245, rfl⟩
abbrev main_call2_call3_while0b_v7 : Ref sig .tc := ⟨.hbm, 246, rfl⟩
abbrev main_call2_call3_while0b_v8 : Ref sig .tc := ⟨.hbm, 247, rfl⟩
abbrev main_call2_call3_while0b_v9 : Ref sig .tc := ⟨.hbm, 248, rfl⟩
abbrev main_call2_call3_while0b_call1_v0 : Ref sig .tc := ⟨.hbm, 249, rfl⟩
abbrev main_call2_call3_while0b_call1_c : Ref sig .tc := ⟨.hbm, 250, rfl⟩
abbrev main_call2_call3_while0b_call1_c_0 : Ref sig .tc := ⟨.hbm, 251, rfl⟩
abbrev main_call2_call3_while0b_v10 : Ref sig .tc := ⟨.hbm, 252, rfl⟩
abbrev main_call2_call3_while0b_c_5 : Ref sig .tc := ⟨.hbm, 253, rfl⟩
abbrev main_call2_call3_while0b_v11 : Ref sig .tc := ⟨.hbm, 254, rfl⟩
abbrev main_call2_v4 : Ref sig .tc := ⟨.hbm, 255, rfl⟩
abbrev main_call2_v5 : Ref sig .tc := ⟨.hbm, 256, rfl⟩
abbrev main_call2_v6 : Ref sig .tc := ⟨.hbm, 257, rfl⟩
abbrev main_call2_v7 : Ref sig .tc := ⟨.hbm, 258, rfl⟩
abbrev main_call2_v8 : Ref sig .tc := ⟨.hbm, 259, rfl⟩
abbrev main_call2_v9 : Ref sig .tc := ⟨.hbm, 260, rfl⟩
abbrev main_call2_v10 : Ref sig .tc := ⟨.hbm, 261, rfl⟩
abbrev main_call2_v11 : Ref sig .tc := ⟨.hbm, 262, rfl⟩
abbrev main_call2_v12 : Ref sig .tc := ⟨.hbm, 263, rfl⟩
abbrev main_call2_v13 : Ref sig .tc := ⟨.hbm, 264, rfl⟩
abbrev main_call2_v14 : Ref sig .tc := ⟨.hbm, 265, rfl⟩
abbrev main_call2_cst : Ref sig .tc := ⟨.hbm, 266, rfl⟩
abbrev main_call2_v15 : Ref sig .tc := ⟨.hbm, 267, rfl⟩
abbrev main_call2_v16 : Ref sig .tc := ⟨.hbm, 268, rfl⟩
abbrev main_call2_v17 : Ref sig .tc := ⟨.hbm, 269, rfl⟩
abbrev main_call2_cst_0 : Ref sig .tc := ⟨.hbm, 270, rfl⟩
abbrev main_call2_v18 : Ref sig .tc := ⟨.hbm, 271, rfl⟩
abbrev main_call2_v19 : Ref sig .tc := ⟨.hbm, 272, rfl⟩
abbrev main_call2_v20 : Ref sig .tc := ⟨.hbm, 273, rfl⟩
abbrev main_call2_cst_1 : Ref sig .tc := ⟨.hbm, 274, rfl⟩
abbrev main_call2_v21 : Ref sig .tc := ⟨.hbm, 275, rfl⟩
abbrev main_call2_v22 : Ref sig .tc := ⟨.hbm, 276, rfl⟩
abbrev main_call2_cst_2 : Ref sig .tc := ⟨.hbm, 277, rfl⟩
abbrev main_call2_v23 : Ref sig .tc := ⟨.hbm, 278, rfl⟩
abbrev main_call2_v24 : Ref sig .tc := ⟨.hbm, 279, rfl⟩
abbrev main_call2_v25 : Ref sig .tc := ⟨.hbm, 280, rfl⟩
abbrev main_call2_v26 : Ref sig .tc := ⟨.hbm, 281, rfl⟩
abbrev main_call2_v27 : Ref sig .tc := ⟨.hbm, 282, rfl⟩
abbrev main_call2_v28 : Ref sig .tc := ⟨.hbm, 283, rfl⟩
abbrev main_call2_call5_cst : Ref sig .tc := ⟨.hbm, 284, rfl⟩
abbrev main_call2_call5_v0 : Ref sig .tc := ⟨.hbm, 285, rfl⟩
abbrev main_call2_call5_v1 : Ref sig .tc := ⟨.hbm, 286, rfl⟩
abbrev main_call2_call5_cst_0 : Ref sig .tc := ⟨.hbm, 287, rfl⟩
abbrev main_call2_call5_v2 : Ref sig .tc := ⟨.hbm, 288, rfl⟩
abbrev main_call2_call5_v3 : Ref sig .tc := ⟨.hbm, 289, rfl⟩
abbrev main_call2_call5_c : Ref sig .tc := ⟨.hbm, 290, rfl⟩
abbrev main_call2_call5_call0_cst : Ref sig .tc := ⟨.hbm, 291, rfl⟩
abbrev main_call2_call5_call0_v0 : Ref sig .tc := ⟨.hbm, 292, rfl⟩
abbrev main_call2_call5_call0_v1 : Ref sig .tc := ⟨.hbm, 293, rfl⟩
abbrev main_call2_call5_call0_cst_0 : Ref sig .tc := ⟨.hbm, 294, rfl⟩
abbrev main_call2_call5_call0_v2 : Ref sig .tc := ⟨.hbm, 295, rfl⟩
abbrev main_call2_call5_call0_v3 : Ref sig .tc := ⟨.hbm, 296, rfl⟩
abbrev main_call2_call5_call0_v4 : Ref sig .tc := ⟨.hbm, 297, rfl⟩
abbrev main_call2_call5_call0_v5 : Ref sig .tc := ⟨.hbm, 298, rfl⟩
abbrev main_call2_call5_call0_v6 : Ref sig .tc := ⟨.hbm, 299, rfl⟩
abbrev main_call2_call5_call0_v7 : Ref sig .tc := ⟨.hbm, 300, rfl⟩
abbrev main_call2_call5_call0_cst_1 : Ref sig .tc := ⟨.hbm, 301, rfl⟩
abbrev main_call2_call5_call0_v8 : Ref sig .tc := ⟨.hbm, 302, rfl⟩
abbrev main_call2_call5_call0_cst_2 : Ref sig .tc := ⟨.hbm, 303, rfl⟩
abbrev main_call2_call5_call0_v9 : Ref sig .tc := ⟨.hbm, 304, rfl⟩
abbrev main_call2_call5_call0_v10 : Ref sig .tc := ⟨.hbm, 305, rfl⟩
abbrev main_call2_call5_call0_v11 : Ref sig .tc := ⟨.hbm, 306, rfl⟩
abbrev main_call2_call5_call0_v12 : Ref sig .tc := ⟨.hbm, 307, rfl⟩
abbrev main_call2_call5_call0_cst_3 : Ref sig .tc := ⟨.hbm, 308, rfl⟩
abbrev main_call2_call5_call0_v13 : Ref sig .tc := ⟨.hbm, 309, rfl⟩
abbrev main_call2_call5_call0_cst_4 : Ref sig .tc := ⟨.hbm, 310, rfl⟩
abbrev main_call2_call5_call0_call0_v0 : Ref sig .tc := ⟨.hbm, 311, rfl⟩
abbrev main_call2_call5_call0_call0_v1 : Ref sig .tc := ⟨.hbm, 312, rfl⟩
abbrev main_call2_call5_v4 : Ref sig .tc := ⟨.hbm, 313, rfl⟩
abbrev main_call2_call5_v5 : Ref sig .tc := ⟨.hbm, 314, rfl⟩
abbrev main_call2_call5_v6 : Ref sig .tc := ⟨.hbm, 315, rfl⟩
abbrev main_call2_call5_cst_1 : Ref sig .tc := ⟨.hbm, 316, rfl⟩
abbrev main_call2_call5_v7 : Ref sig .tc := ⟨.hbm, 317, rfl⟩
abbrev main_call2_call5_v8 : Ref sig .tc := ⟨.hbm, 318, rfl⟩
abbrev main_call2_call5_v9 : Ref sig .tc := ⟨.hbm, 319, rfl⟩
abbrev main_call2_call5_v10 : Ref sig .tc := ⟨.hbm, 320, rfl⟩
abbrev main_call2_call5_v11 : Ref sig .tc := ⟨.hbm, 321, rfl⟩
abbrev main_call2_call5_v12 : Ref sig .tc := ⟨.hbm, 322, rfl⟩
abbrev main_call2_call5_v13 : Ref sig .tc := ⟨.hbm, 323, rfl⟩
abbrev main_call2_call5_v14 : Ref sig .tc := ⟨.hbm, 324, rfl⟩
abbrev main_call2_call5_v15 : Ref sig .tc := ⟨.hbm, 325, rfl⟩
abbrev main_call2_call5_v16 : Ref sig .tc := ⟨.hbm, 326, rfl⟩
abbrev main_call2_v29 : Ref sig .tc := ⟨.hbm, 327, rfl⟩
abbrev main_call2_v30 : Ref sig .tc := ⟨.hbm, 328, rfl⟩
abbrev main_call2_v31 : Ref sig .tc := ⟨.hbm, 329, rfl⟩
abbrev main_call2_v32 : Ref sig .tc := ⟨.hbm, 330, rfl⟩
abbrev main_call2_v33 : Ref sig .tc := ⟨.hbm, 331, rfl⟩
abbrev main_call2_v34 : Ref sig .tc := ⟨.hbm, 332, rfl⟩
abbrev main_call2_v35 : Ref sig .tc := ⟨.hbm, 333, rfl⟩
abbrev main_call2_cst_3 : Ref sig .tc := ⟨.hbm, 334, rfl⟩
abbrev main_call2_v36 : Ref sig .tc := ⟨.hbm, 335, rfl⟩
abbrev main_call2_v37 : Ref sig .tc := ⟨.hbm, 336, rfl⟩
abbrev main_call2_v38 : Ref sig .tc := ⟨.hbm, 337, rfl⟩
abbrev main_call2_cst_4 : Ref sig .tc := ⟨.hbm, 338, rfl⟩
abbrev main_call2_v39 : Ref sig .tc := ⟨.hbm, 339, rfl⟩
abbrev main_call2_v40 : Ref sig .tc := ⟨.hbm, 340, rfl⟩
abbrev main_call2_v41 : Ref sig .tc := ⟨.hbm, 341, rfl⟩
abbrev main_call2_cst_5 : Ref sig .tc := ⟨.hbm, 342, rfl⟩
abbrev main_call2_v42 : Ref sig .tc := ⟨.hbm, 343, rfl⟩
abbrev main_call2_v43 : Ref sig .tc := ⟨.hbm, 344, rfl⟩
abbrev main_call2_cst_6 : Ref sig .tc := ⟨.hbm, 345, rfl⟩
abbrev main_call2_v44 : Ref sig .tc := ⟨.hbm, 346, rfl⟩
abbrev main_call2_v45 : Ref sig .tc := ⟨.hbm, 347, rfl⟩
abbrev main_call2_v46 : Ref sig .tc := ⟨.hbm, 348, rfl⟩
abbrev main_call2_v47 : Ref sig .tc := ⟨.hbm, 349, rfl⟩
abbrev main_call2_v48 : Ref sig .tc := ⟨.hbm, 350, rfl⟩
abbrev main_call2_v49 : Ref sig .tc := ⟨.hbm, 351, rfl⟩
abbrev main_call2_v50 : Ref sig .tc := ⟨.hbm, 352, rfl⟩
abbrev main_call2_v51 : Ref sig .tc := ⟨.hbm, 353, rfl⟩
abbrev main_call2_v52 : Ref sig .tc := ⟨.hbm, 354, rfl⟩
abbrev main_v46 : Ref sig .tc := ⟨.hbm, 355, rfl⟩
abbrev main_v47 : Ref sig .tc := ⟨.hbm, 356, rfl⟩
abbrev main_v48 : Ref sig .tc := ⟨.hbm, 357, rfl⟩
abbrev main_v49 : Ref sig .tc := ⟨.hbm, 358, rfl⟩
abbrev main_v50 : Ref sig .tc := ⟨.hbm, 359, rfl⟩
abbrev main_v51 : Ref sig .tc := ⟨.hbm, 360, rfl⟩
abbrev main_v52 : Ref sig .tc := ⟨.hbm, 361, rfl⟩
abbrev main_v53 : Ref sig .tc := ⟨.hbm, 362, rfl⟩
abbrev main_v54 : Ref sig .tc := ⟨.hbm, 363, rfl⟩
abbrev main_v55 : Ref sig .tc := ⟨.hbm, 364, rfl⟩
abbrev main_v56 : Ref sig .tc := ⟨.hbm, 365, rfl⟩
abbrev main_v57 : Ref sig .tc := ⟨.hbm, 366, rfl⟩
abbrev main_v58 : Ref sig .tc := ⟨.hbm, 367, rfl⟩
abbrev main_v59 : Ref sig .tc := ⟨.hbm, 368, rfl⟩
abbrev main_v60 : Ref sig .tc := ⟨.hbm, 369, rfl⟩
abbrev main_v61 : Ref sig .tc := ⟨.hbm, 370, rfl⟩
abbrev main_v62 : Ref sig .tc := ⟨.hbm, 371, rfl⟩
abbrev main_v63 : Ref sig .tc := ⟨.hbm, 372, rfl⟩
abbrev main_v64 : Ref sig .tc := ⟨.hbm, 373, rfl⟩
abbrev main_v65 : Ref sig .tc := ⟨.hbm, 374, rfl⟩
abbrev main_v66 : Ref sig .tc := ⟨.hbm, 375, rfl⟩
abbrev main_v67 : Ref sig .tc := ⟨.hbm, 376, rfl⟩
abbrev main_v68 : Ref sig .tc := ⟨.hbm, 377, rfl⟩
abbrev main_v69 : Ref sig .tc := ⟨.hbm, 378, rfl⟩
abbrev main_v70 : Ref sig .tc := ⟨.hbm, 379, rfl⟩
abbrev main_v71 : Ref sig .tc := ⟨.hbm, 380, rfl⟩
abbrev main_v72 : Ref sig .tc := ⟨.hbm, 381, rfl⟩
abbrev main_call3_call0_cst : Ref sig .tc := ⟨.hbm, 382, rfl⟩
abbrev main_call3_call0_v0 : Ref sig .tc := ⟨.hbm, 383, rfl⟩
abbrev main_call3_call0_v1 : Ref sig .tc := ⟨.hbm, 384, rfl⟩
abbrev main_call3_call0_cst_0 : Ref sig .tc := ⟨.hbm, 385, rfl⟩
abbrev main_call3_call0_v2 : Ref sig .tc := ⟨.hbm, 386, rfl⟩
abbrev main_call3_call0_v3 : Ref sig .tc := ⟨.hbm, 387, rfl⟩
abbrev main_call3_call0_c : Ref sig .tc := ⟨.hbm, 388, rfl⟩
abbrev main_call3_call0_call0_cst : Ref sig .tc := ⟨.hbm, 389, rfl⟩
abbrev main_call3_call0_call0_v0 : Ref sig .tc := ⟨.hbm, 390, rfl⟩
abbrev main_call3_call0_call0_v1 : Ref sig .tc := ⟨.hbm, 391, rfl⟩
abbrev main_call3_call0_call0_cst_0 : Ref sig .tc := ⟨.hbm, 392, rfl⟩
abbrev main_call3_call0_call0_v2 : Ref sig .tc := ⟨.hbm, 393, rfl⟩
abbrev main_call3_call0_call0_v3 : Ref sig .tc := ⟨.hbm, 394, rfl⟩
abbrev main_call3_call0_call0_v4 : Ref sig .tc := ⟨.hbm, 395, rfl⟩
abbrev main_call3_call0_call0_v5 : Ref sig .tc := ⟨.hbm, 396, rfl⟩
abbrev main_call3_call0_call0_v6 : Ref sig .tc := ⟨.hbm, 397, rfl⟩
abbrev main_call3_call0_call0_v7 : Ref sig .tc := ⟨.hbm, 398, rfl⟩
abbrev main_call3_call0_call0_cst_1 : Ref sig .tc := ⟨.hbm, 399, rfl⟩
abbrev main_call3_call0_call0_v8 : Ref sig .tc := ⟨.hbm, 400, rfl⟩
abbrev main_call3_call0_call0_cst_2 : Ref sig .tc := ⟨.hbm, 401, rfl⟩
abbrev main_call3_call0_call0_v9 : Ref sig .tc := ⟨.hbm, 402, rfl⟩
abbrev main_call3_call0_call0_v10 : Ref sig .tc := ⟨.hbm, 403, rfl⟩
abbrev main_call3_call0_call0_v11 : Ref sig .tc := ⟨.hbm, 404, rfl⟩
abbrev main_call3_call0_call0_v12 : Ref sig .tc := ⟨.hbm, 405, rfl⟩
abbrev main_call3_call0_call0_cst_3 : Ref sig .tc := ⟨.hbm, 406, rfl⟩
abbrev main_call3_call0_call0_v13 : Ref sig .tc := ⟨.hbm, 407, rfl⟩
abbrev main_call3_call0_call0_cst_4 : Ref sig .tc := ⟨.hbm, 408, rfl⟩
abbrev main_call3_call0_call0_call0_v0 : Ref sig .tc := ⟨.hbm, 409, rfl⟩
abbrev main_call3_call0_call0_call0_v1 : Ref sig .tc := ⟨.hbm, 410, rfl⟩
abbrev main_call3_call0_v4 : Ref sig .tc := ⟨.hbm, 411, rfl⟩
abbrev main_call3_call0_v5 : Ref sig .tc := ⟨.hbm, 412, rfl⟩
abbrev main_call3_call0_v6 : Ref sig .tc := ⟨.hbm, 413, rfl⟩
abbrev main_call3_call0_cst_1 : Ref sig .tc := ⟨.hbm, 414, rfl⟩
abbrev main_call3_call0_v7 : Ref sig .tc := ⟨.hbm, 415, rfl⟩
abbrev main_call3_call0_v8 : Ref sig .tc := ⟨.hbm, 416, rfl⟩
abbrev main_call3_call0_v9 : Ref sig .tc := ⟨.hbm, 417, rfl⟩
abbrev main_call3_call0_v10 : Ref sig .tc := ⟨.hbm, 418, rfl⟩
abbrev main_call3_call0_v11 : Ref sig .tc := ⟨.hbm, 419, rfl⟩
abbrev main_call3_call0_v12 : Ref sig .tc := ⟨.hbm, 420, rfl⟩
abbrev main_call3_call0_v13 : Ref sig .tc := ⟨.hbm, 421, rfl⟩
abbrev main_call3_call0_v14 : Ref sig .tc := ⟨.hbm, 422, rfl⟩
abbrev main_call3_call0_v15 : Ref sig .tc := ⟨.hbm, 423, rfl⟩
abbrev main_call3_call0_v16 : Ref sig .tc := ⟨.hbm, 424, rfl⟩
abbrev main_call3_v0 : Ref sig .tc := ⟨.hbm, 425, rfl⟩
abbrev main_call3_v1 : Ref sig .tc := ⟨.hbm, 426, rfl⟩
abbrev main_call3_call1_cst : Ref sig .tc := ⟨.hbm, 427, rfl⟩
abbrev main_call3_call1_v0 : Ref sig .tc := ⟨.hbm, 428, rfl⟩
abbrev main_call3_call1_v1 : Ref sig .tc := ⟨.hbm, 429, rfl⟩
abbrev main_call3_call1_cst_0 : Ref sig .tc := ⟨.hbm, 430, rfl⟩
abbrev main_call3_call1_v2 : Ref sig .tc := ⟨.hbm, 431, rfl⟩
abbrev main_call3_call1_c : Ref sig .tc := ⟨.hbm, 432, rfl⟩
abbrev main_call3_call1_v3_0 : Ref sig .tc := ⟨.hbm, 433, rfl⟩
abbrev main_call3_call1_v3_1 : Ref sig .tc := ⟨.hbm, 434, rfl⟩
abbrev main_call3_call1_v3_2 : Ref sig .tc := ⟨.hbm, 435, rfl⟩
abbrev main_call3_call1_v3_3 : Ref sig .tc := ⟨.hbm, 436, rfl⟩
abbrev main_call3_call1_v3_4 : Ref sig .tc := ⟨.hbm, 437, rfl⟩
abbrev main_call3_call1_while0c_c_5 : Ref sig .tc := ⟨.hbm, 438, rfl⟩
abbrev main_call3_call1_while0c_v5 : Ref sig .tc := ⟨.hbm, 439, rfl⟩
abbrev main_call3_call1_while0b_call0_c : Ref sig .tc := ⟨.hbm, 440, rfl⟩
abbrev main_call3_call1_while0b_call0_c_0 : Ref sig .tc := ⟨.hbm, 441, rfl⟩
abbrev main_call3_call1_while0b_call0_v0 : Ref sig .tc := ⟨.hbm, 442, rfl⟩
abbrev main_call3_call1_while0b_v5 : Ref sig .tc := ⟨.hbm, 443, rfl⟩
abbrev main_call3_call1_while0b_v6 : Ref sig .tc := ⟨.hbm, 444, rfl⟩
abbrev main_call3_call1_while0b_v7 : Ref sig .tc := ⟨.hbm, 445, rfl⟩
abbrev main_call3_call1_while0b_v8 : Ref sig .tc := ⟨.hbm, 446, rfl⟩
abbrev main_call3_call1_while0b_v9 : Ref sig .tc := ⟨.hbm, 447, rfl⟩
abbrev main_call3_call1_while0b_call1_v0 : Ref sig .tc := ⟨.hbm, 448, rfl⟩
abbrev main_call3_call1_while0b_call1_c : Ref sig .tc := ⟨.hbm, 449, rfl⟩
abbrev main_call3_call1_while0b_call1_c_0 : Ref sig .tc := ⟨.hbm, 450, rfl⟩
abbrev main_call3_call1_while0b_v10 : Ref sig .tc := ⟨.hbm, 451, rfl⟩
abbrev main_call3_call1_while0b_c_5 : Ref sig .tc := ⟨.hbm, 452, rfl⟩
abbrev main_call3_call1_while0b_v11 : Ref sig .tc := ⟨.hbm, 453, rfl⟩
abbrev main_call3_v2 : Ref sig .tc := ⟨.hbm, 454, rfl⟩
abbrev main_call3_v3 : Ref sig .tc := ⟨.hbm, 455, rfl⟩
abbrev main_call3_call3_cst : Ref sig .tc := ⟨.hbm, 456, rfl⟩
abbrev main_call3_call3_v0 : Ref sig .tc := ⟨.hbm, 457, rfl⟩
abbrev main_call3_call3_v1 : Ref sig .tc := ⟨.hbm, 458, rfl⟩
abbrev main_call3_call3_cst_0 : Ref sig .tc := ⟨.hbm, 459, rfl⟩
abbrev main_call3_call3_v2 : Ref sig .tc := ⟨.hbm, 460, rfl⟩
abbrev main_call3_call3_c : Ref sig .tc := ⟨.hbm, 461, rfl⟩
abbrev main_call3_call3_v3_0 : Ref sig .tc := ⟨.hbm, 462, rfl⟩
abbrev main_call3_call3_v3_1 : Ref sig .tc := ⟨.hbm, 463, rfl⟩
abbrev main_call3_call3_v3_2 : Ref sig .tc := ⟨.hbm, 464, rfl⟩
abbrev main_call3_call3_v3_3 : Ref sig .tc := ⟨.hbm, 465, rfl⟩
abbrev main_call3_call3_v3_4 : Ref sig .tc := ⟨.hbm, 466, rfl⟩
abbrev main_call3_call3_while0c_c_5 : Ref sig .tc := ⟨.hbm, 467, rfl⟩
abbrev main_call3_call3_while0c_v5 : Ref sig .tc := ⟨.hbm, 468, rfl⟩
abbrev main_call3_call3_while0b_call0_c : Ref sig .tc := ⟨.hbm, 469, rfl⟩
abbrev main_call3_call3_while0b_call0_c_0 : Ref sig .tc := ⟨.hbm, 470, rfl⟩
abbrev main_call3_call3_while0b_call0_v0 : Ref sig .tc := ⟨.hbm, 471, rfl⟩
abbrev main_call3_call3_while0b_v5 : Ref sig .tc := ⟨.hbm, 472, rfl⟩
abbrev main_call3_call3_while0b_v6 : Ref sig .tc := ⟨.hbm, 473, rfl⟩
abbrev main_call3_call3_while0b_v7 : Ref sig .tc := ⟨.hbm, 474, rfl⟩
abbrev main_call3_call3_while0b_v8 : Ref sig .tc := ⟨.hbm, 475, rfl⟩
abbrev main_call3_call3_while0b_v9 : Ref sig .tc := ⟨.hbm, 476, rfl⟩
abbrev main_call3_call3_while0b_call1_v0 : Ref sig .tc := ⟨.hbm, 477, rfl⟩
abbrev main_call3_call3_while0b_call1_c : Ref sig .tc := ⟨.hbm, 478, rfl⟩
abbrev main_call3_call3_while0b_call1_c_0 : Ref sig .tc := ⟨.hbm, 479, rfl⟩
abbrev main_call3_call3_while0b_v10 : Ref sig .tc := ⟨.hbm, 480, rfl⟩
abbrev main_call3_call3_while0b_c_5 : Ref sig .tc := ⟨.hbm, 481, rfl⟩
abbrev main_call3_call3_while0b_v11 : Ref sig .tc := ⟨.hbm, 482, rfl⟩
abbrev main_call3_v4 : Ref sig .tc := ⟨.hbm, 483, rfl⟩
abbrev main_call3_v5 : Ref sig .tc := ⟨.hbm, 484, rfl⟩
abbrev main_call3_v6 : Ref sig .tc := ⟨.hbm, 485, rfl⟩
abbrev main_call3_v7 : Ref sig .tc := ⟨.hbm, 486, rfl⟩
abbrev main_call3_v8 : Ref sig .tc := ⟨.hbm, 487, rfl⟩
abbrev main_call3_v9 : Ref sig .tc := ⟨.hbm, 488, rfl⟩
abbrev main_call3_v10 : Ref sig .tc := ⟨.hbm, 489, rfl⟩
abbrev main_call3_v11 : Ref sig .tc := ⟨.hbm, 490, rfl⟩
abbrev main_call3_v12 : Ref sig .tc := ⟨.hbm, 491, rfl⟩
abbrev main_call3_v13 : Ref sig .tc := ⟨.hbm, 492, rfl⟩
abbrev main_call3_v14 : Ref sig .tc := ⟨.hbm, 493, rfl⟩
abbrev main_call3_cst : Ref sig .tc := ⟨.hbm, 494, rfl⟩
abbrev main_call3_v15 : Ref sig .tc := ⟨.hbm, 495, rfl⟩
abbrev main_call3_v16 : Ref sig .tc := ⟨.hbm, 496, rfl⟩
abbrev main_call3_v17 : Ref sig .tc := ⟨.hbm, 497, rfl⟩
abbrev main_call3_cst_0 : Ref sig .tc := ⟨.hbm, 498, rfl⟩
abbrev main_call3_v18 : Ref sig .tc := ⟨.hbm, 499, rfl⟩
abbrev main_call3_v19 : Ref sig .tc := ⟨.hbm, 500, rfl⟩
abbrev main_call3_v20 : Ref sig .tc := ⟨.hbm, 501, rfl⟩
abbrev main_call3_cst_1 : Ref sig .tc := ⟨.hbm, 502, rfl⟩
abbrev main_call3_v21 : Ref sig .tc := ⟨.hbm, 503, rfl⟩
abbrev main_call3_v22 : Ref sig .tc := ⟨.hbm, 504, rfl⟩
abbrev main_call3_cst_2 : Ref sig .tc := ⟨.hbm, 505, rfl⟩
abbrev main_call3_v23 : Ref sig .tc := ⟨.hbm, 506, rfl⟩
abbrev main_call3_v24 : Ref sig .tc := ⟨.hbm, 507, rfl⟩
abbrev main_call3_v25 : Ref sig .tc := ⟨.hbm, 508, rfl⟩
abbrev main_call3_v26 : Ref sig .tc := ⟨.hbm, 509, rfl⟩
abbrev main_call3_v27 : Ref sig .tc := ⟨.hbm, 510, rfl⟩
abbrev main_call3_v28 : Ref sig .tc := ⟨.hbm, 511, rfl⟩
abbrev main_call3_call5_cst : Ref sig .tc := ⟨.hbm, 512, rfl⟩
abbrev main_call3_call5_v0 : Ref sig .tc := ⟨.hbm, 513, rfl⟩
abbrev main_call3_call5_v1 : Ref sig .tc := ⟨.hbm, 514, rfl⟩
abbrev main_call3_call5_cst_0 : Ref sig .tc := ⟨.hbm, 515, rfl⟩
abbrev main_call3_call5_v2 : Ref sig .tc := ⟨.hbm, 516, rfl⟩
abbrev main_call3_call5_v3 : Ref sig .tc := ⟨.hbm, 517, rfl⟩
abbrev main_call3_call5_c : Ref sig .tc := ⟨.hbm, 518, rfl⟩
abbrev main_call3_call5_call0_cst : Ref sig .tc := ⟨.hbm, 519, rfl⟩
abbrev main_call3_call5_call0_v0 : Ref sig .tc := ⟨.hbm, 520, rfl⟩
abbrev main_call3_call5_call0_v1 : Ref sig .tc := ⟨.hbm, 521, rfl⟩
abbrev main_call3_call5_call0_cst_0 : Ref sig .tc := ⟨.hbm, 522, rfl⟩
abbrev main_call3_call5_call0_v2 : Ref sig .tc := ⟨.hbm, 523, rfl⟩
abbrev main_call3_call5_call0_v3 : Ref sig .tc := ⟨.hbm, 524, rfl⟩
abbrev main_call3_call5_call0_v4 : Ref sig .tc := ⟨.hbm, 525, rfl⟩
abbrev main_call3_call5_call0_v5 : Ref sig .tc := ⟨.hbm, 526, rfl⟩
abbrev main_call3_call5_call0_v6 : Ref sig .tc := ⟨.hbm, 527, rfl⟩
abbrev main_call3_call5_call0_v7 : Ref sig .tc := ⟨.hbm, 528, rfl⟩
abbrev main_call3_call5_call0_cst_1 : Ref sig .tc := ⟨.hbm, 529, rfl⟩
abbrev main_call3_call5_call0_v8 : Ref sig .tc := ⟨.hbm, 530, rfl⟩
abbrev main_call3_call5_call0_cst_2 : Ref sig .tc := ⟨.hbm, 531, rfl⟩
abbrev main_call3_call5_call0_v9 : Ref sig .tc := ⟨.hbm, 532, rfl⟩
abbrev main_call3_call5_call0_v10 : Ref sig .tc := ⟨.hbm, 533, rfl⟩
abbrev main_call3_call5_call0_v11 : Ref sig .tc := ⟨.hbm, 534, rfl⟩
abbrev main_call3_call5_call0_v12 : Ref sig .tc := ⟨.hbm, 535, rfl⟩
abbrev main_call3_call5_call0_cst_3 : Ref sig .tc := ⟨.hbm, 536, rfl⟩
abbrev main_call3_call5_call0_v13 : Ref sig .tc := ⟨.hbm, 537, rfl⟩
abbrev main_call3_call5_call0_cst_4 : Ref sig .tc := ⟨.hbm, 538, rfl⟩
abbrev main_call3_call5_call0_call0_v0 : Ref sig .tc := ⟨.hbm, 539, rfl⟩
abbrev main_call3_call5_call0_call0_v1 : Ref sig .tc := ⟨.hbm, 540, rfl⟩
abbrev main_call3_call5_v4 : Ref sig .tc := ⟨.hbm, 541, rfl⟩
abbrev main_call3_call5_v5 : Ref sig .tc := ⟨.hbm, 542, rfl⟩
abbrev main_call3_call5_v6 : Ref sig .tc := ⟨.hbm, 543, rfl⟩
abbrev main_call3_call5_cst_1 : Ref sig .tc := ⟨.hbm, 544, rfl⟩
abbrev main_call3_call5_v7 : Ref sig .tc := ⟨.hbm, 545, rfl⟩
abbrev main_call3_call5_v8 : Ref sig .tc := ⟨.hbm, 546, rfl⟩
abbrev main_call3_call5_v9 : Ref sig .tc := ⟨.hbm, 547, rfl⟩
abbrev main_call3_call5_v10 : Ref sig .tc := ⟨.hbm, 548, rfl⟩
abbrev main_call3_call5_v11 : Ref sig .tc := ⟨.hbm, 549, rfl⟩
abbrev main_call3_call5_v12 : Ref sig .tc := ⟨.hbm, 550, rfl⟩
abbrev main_call3_call5_v13 : Ref sig .tc := ⟨.hbm, 551, rfl⟩
abbrev main_call3_call5_v14 : Ref sig .tc := ⟨.hbm, 552, rfl⟩
abbrev main_call3_call5_v15 : Ref sig .tc := ⟨.hbm, 553, rfl⟩
abbrev main_call3_call5_v16 : Ref sig .tc := ⟨.hbm, 554, rfl⟩
abbrev main_call3_v29 : Ref sig .tc := ⟨.hbm, 555, rfl⟩
abbrev main_call3_v30 : Ref sig .tc := ⟨.hbm, 556, rfl⟩
abbrev main_call3_v31 : Ref sig .tc := ⟨.hbm, 557, rfl⟩
abbrev main_call3_v32 : Ref sig .tc := ⟨.hbm, 558, rfl⟩
abbrev main_call3_v33 : Ref sig .tc := ⟨.hbm, 559, rfl⟩
abbrev main_call3_v34 : Ref sig .tc := ⟨.hbm, 560, rfl⟩
abbrev main_call3_v35 : Ref sig .tc := ⟨.hbm, 561, rfl⟩
abbrev main_call3_cst_3 : Ref sig .tc := ⟨.hbm, 562, rfl⟩
abbrev main_call3_v36 : Ref sig .tc := ⟨.hbm, 563, rfl⟩
abbrev main_call3_v37 : Ref sig .tc := ⟨.hbm, 564, rfl⟩
abbrev main_call3_v38 : Ref sig .tc := ⟨.hbm, 565, rfl⟩
abbrev main_call3_cst_4 : Ref sig .tc := ⟨.hbm, 566, rfl⟩
abbrev main_call3_v39 : Ref sig .tc := ⟨.hbm, 567, rfl⟩
abbrev main_call3_v40 : Ref sig .tc := ⟨.hbm, 568, rfl⟩
abbrev main_call3_v41 : Ref sig .tc := ⟨.hbm, 569, rfl⟩
abbrev main_call3_cst_5 : Ref sig .tc := ⟨.hbm, 570, rfl⟩
abbrev main_call3_v42 : Ref sig .tc := ⟨.hbm, 571, rfl⟩
abbrev main_call3_v43 : Ref sig .tc := ⟨.hbm, 572, rfl⟩
abbrev main_call3_cst_6 : Ref sig .tc := ⟨.hbm, 573, rfl⟩
abbrev main_call3_v44 : Ref sig .tc := ⟨.hbm, 574, rfl⟩
abbrev main_call3_v45 : Ref sig .tc := ⟨.hbm, 575, rfl⟩
abbrev main_call3_v46 : Ref sig .tc := ⟨.hbm, 576, rfl⟩
abbrev main_call3_v47 : Ref sig .tc := ⟨.hbm, 577, rfl⟩
abbrev main_call3_v48 : Ref sig .tc := ⟨.hbm, 578, rfl⟩
abbrev main_call3_v49 : Ref sig .tc := ⟨.hbm, 579, rfl⟩
abbrev main_call3_v50 : Ref sig .tc := ⟨.hbm, 580, rfl⟩
abbrev main_call3_v51 : Ref sig .tc := ⟨.hbm, 581, rfl⟩
abbrev main_call3_v52 : Ref sig .tc := ⟨.hbm, 582, rfl⟩
abbrev main_v73 : Ref sig .tc := ⟨.hbm, 583, rfl⟩
abbrev main_v74 : Ref sig .tc := ⟨.hbm, 584, rfl⟩
abbrev main_v75 : Ref sig .tc := ⟨.hbm, 585, rfl⟩
abbrev main_v76 : Ref sig .tc := ⟨.hbm, 586, rfl⟩
abbrev main_v77 : Ref sig .tc := ⟨.hbm, 587, rfl⟩
abbrev main_v78 : Ref sig .tc := ⟨.hbm, 588, rfl⟩
abbrev main_v79 : Ref sig .tc := ⟨.hbm, 589, rfl⟩
abbrev main_v80 : Ref sig .tc := ⟨.hbm, 590, rfl⟩
abbrev main_v81 : Ref sig .tc := ⟨.hbm, 591, rfl⟩
abbrev main_v82 : Ref sig .tc := ⟨.hbm, 592, rfl⟩
abbrev main_v83 : Ref sig .tc := ⟨.hbm, 593, rfl⟩
abbrev main_v84 : Ref sig .tc := ⟨.hbm, 594, rfl⟩
abbrev main_v85 : Ref sig .tc := ⟨.hbm, 595, rfl⟩
abbrev main_v86 : Ref sig .tc := ⟨.hbm, 596, rfl⟩
abbrev main_v87 : Ref sig .tc := ⟨.hbm, 597, rfl⟩
abbrev main_v88 : Ref sig .tc := ⟨.hbm, 598, rfl⟩
abbrev main_v89 : Ref sig .tc := ⟨.hbm, 599, rfl⟩
abbrev main_v90 : Ref sig .tc := ⟨.hbm, 600, rfl⟩
abbrev main_v91 : Ref sig .tc := ⟨.hbm, 601, rfl⟩
abbrev main_v92 : Ref sig .tc := ⟨.hbm, 602, rfl⟩
abbrev main_v93 : Ref sig .tc := ⟨.hbm, 603, rfl⟩
abbrev main_v94 : Ref sig .tc := ⟨.hbm, 604, rfl⟩
abbrev main_v95 : Ref sig .tc := ⟨.hbm, 605, rfl⟩
abbrev main_v96 : Ref sig .tc := ⟨.hbm, 606, rfl⟩
abbrev main_v97 : Ref sig .tc := ⟨.hbm, 607, rfl⟩
abbrev main_v98 : Ref sig .tc := ⟨.hbm, 608, rfl⟩
abbrev main_v99 : Ref sig .tc := ⟨.hbm, 609, rfl⟩
abbrev main_call4_call0_cst : Ref sig .tc := ⟨.hbm, 610, rfl⟩
abbrev main_call4_call0_v0 : Ref sig .tc := ⟨.hbm, 611, rfl⟩
abbrev main_call4_call0_v1 : Ref sig .tc := ⟨.hbm, 612, rfl⟩
abbrev main_call4_call0_cst_0 : Ref sig .tc := ⟨.hbm, 613, rfl⟩
abbrev main_call4_call0_v2 : Ref sig .tc := ⟨.hbm, 614, rfl⟩
abbrev main_call4_call0_v3 : Ref sig .tc := ⟨.hbm, 615, rfl⟩
abbrev main_call4_call0_c : Ref sig .tc := ⟨.hbm, 616, rfl⟩
abbrev main_call4_call0_call0_cst : Ref sig .tc := ⟨.hbm, 617, rfl⟩
abbrev main_call4_call0_call0_v0 : Ref sig .tc := ⟨.hbm, 618, rfl⟩
abbrev main_call4_call0_call0_v1 : Ref sig .tc := ⟨.hbm, 619, rfl⟩
abbrev main_call4_call0_call0_cst_0 : Ref sig .tc := ⟨.hbm, 620, rfl⟩
abbrev main_call4_call0_call0_v2 : Ref sig .tc := ⟨.hbm, 621, rfl⟩
abbrev main_call4_call0_call0_v3 : Ref sig .tc := ⟨.hbm, 622, rfl⟩
abbrev main_call4_call0_call0_v4 : Ref sig .tc := ⟨.hbm, 623, rfl⟩
abbrev main_call4_call0_call0_v5 : Ref sig .tc := ⟨.hbm, 624, rfl⟩
abbrev main_call4_call0_call0_v6 : Ref sig .tc := ⟨.hbm, 625, rfl⟩
abbrev main_call4_call0_call0_v7 : Ref sig .tc := ⟨.hbm, 626, rfl⟩
abbrev main_call4_call0_call0_cst_1 : Ref sig .tc := ⟨.hbm, 627, rfl⟩
abbrev main_call4_call0_call0_v8 : Ref sig .tc := ⟨.hbm, 628, rfl⟩
abbrev main_call4_call0_call0_cst_2 : Ref sig .tc := ⟨.hbm, 629, rfl⟩
abbrev main_call4_call0_call0_v9 : Ref sig .tc := ⟨.hbm, 630, rfl⟩
abbrev main_call4_call0_call0_v10 : Ref sig .tc := ⟨.hbm, 631, rfl⟩
abbrev main_call4_call0_call0_v11 : Ref sig .tc := ⟨.hbm, 632, rfl⟩
abbrev main_call4_call0_call0_v12 : Ref sig .tc := ⟨.hbm, 633, rfl⟩
abbrev main_call4_call0_call0_cst_3 : Ref sig .tc := ⟨.hbm, 634, rfl⟩
abbrev main_call4_call0_call0_v13 : Ref sig .tc := ⟨.hbm, 635, rfl⟩
abbrev main_call4_call0_call0_cst_4 : Ref sig .tc := ⟨.hbm, 636, rfl⟩
abbrev main_call4_call0_call0_call0_v0 : Ref sig .tc := ⟨.hbm, 637, rfl⟩
abbrev main_call4_call0_call0_call0_v1 : Ref sig .tc := ⟨.hbm, 638, rfl⟩
abbrev main_call4_call0_v4 : Ref sig .tc := ⟨.hbm, 639, rfl⟩
abbrev main_call4_call0_v5 : Ref sig .tc := ⟨.hbm, 640, rfl⟩
abbrev main_call4_call0_v6 : Ref sig .tc := ⟨.hbm, 641, rfl⟩
abbrev main_call4_call0_cst_1 : Ref sig .tc := ⟨.hbm, 642, rfl⟩
abbrev main_call4_call0_v7 : Ref sig .tc := ⟨.hbm, 643, rfl⟩
abbrev main_call4_call0_v8 : Ref sig .tc := ⟨.hbm, 644, rfl⟩
abbrev main_call4_call0_v9 : Ref sig .tc := ⟨.hbm, 645, rfl⟩
abbrev main_call4_call0_v10 : Ref sig .tc := ⟨.hbm, 646, rfl⟩
abbrev main_call4_call0_v11 : Ref sig .tc := ⟨.hbm, 647, rfl⟩
abbrev main_call4_call0_v12 : Ref sig .tc := ⟨.hbm, 648, rfl⟩
abbrev main_call4_call0_v13 : Ref sig .tc := ⟨.hbm, 649, rfl⟩
abbrev main_call4_call0_v14 : Ref sig .tc := ⟨.hbm, 650, rfl⟩
abbrev main_call4_call0_v15 : Ref sig .tc := ⟨.hbm, 651, rfl⟩
abbrev main_call4_call0_v16 : Ref sig .tc := ⟨.hbm, 652, rfl⟩
abbrev main_call4_v0 : Ref sig .tc := ⟨.hbm, 653, rfl⟩
abbrev main_call4_v1 : Ref sig .tc := ⟨.hbm, 654, rfl⟩
abbrev main_call4_call1_cst : Ref sig .tc := ⟨.hbm, 655, rfl⟩
abbrev main_call4_call1_v0 : Ref sig .tc := ⟨.hbm, 656, rfl⟩
abbrev main_call4_call1_v1 : Ref sig .tc := ⟨.hbm, 657, rfl⟩
abbrev main_call4_call1_cst_0 : Ref sig .tc := ⟨.hbm, 658, rfl⟩
abbrev main_call4_call1_v2 : Ref sig .tc := ⟨.hbm, 659, rfl⟩
abbrev main_call4_call1_c : Ref sig .tc := ⟨.hbm, 660, rfl⟩
abbrev main_call4_call1_v3_0 : Ref sig .tc := ⟨.hbm, 661, rfl⟩
abbrev main_call4_call1_v3_1 : Ref sig .tc := ⟨.hbm, 662, rfl⟩
abbrev main_call4_call1_v3_2 : Ref sig .tc := ⟨.hbm, 663, rfl⟩
abbrev main_call4_call1_v3_3 : Ref sig .tc := ⟨.hbm, 664, rfl⟩
abbrev main_call4_call1_v3_4 : Ref sig .tc := ⟨.hbm, 665, rfl⟩
abbrev main_call4_call1_while0c_c_5 : Ref sig .tc := ⟨.hbm, 666, rfl⟩
abbrev main_call4_call1_while0c_v5 : Ref sig .tc := ⟨.hbm, 667, rfl⟩
abbrev main_call4_call1_while0b_call0_c : Ref sig .tc := ⟨.hbm, 668, rfl⟩
abbrev main_call4_call1_while0b_call0_c_0 : Ref sig .tc := ⟨.hbm, 669, rfl⟩
abbrev main_call4_call1_while0b_call0_v0 : Ref sig .tc := ⟨.hbm, 670, rfl⟩
abbrev main_call4_call1_while0b_v5 : Ref sig .tc := ⟨.hbm, 671, rfl⟩
abbrev main_call4_call1_while0b_v6 : Ref sig .tc := ⟨.hbm, 672, rfl⟩
abbrev main_call4_call1_while0b_v7 : Ref sig .tc := ⟨.hbm, 673, rfl⟩
abbrev main_call4_call1_while0b_v8 : Ref sig .tc := ⟨.hbm, 674, rfl⟩
abbrev main_call4_call1_while0b_v9 : Ref sig .tc := ⟨.hbm, 675, rfl⟩
abbrev main_call4_call1_while0b_call1_v0 : Ref sig .tc := ⟨.hbm, 676, rfl⟩
abbrev main_call4_call1_while0b_call1_c : Ref sig .tc := ⟨.hbm, 677, rfl⟩
abbrev main_call4_call1_while0b_call1_c_0 : Ref sig .tc := ⟨.hbm, 678, rfl⟩
abbrev main_call4_call1_while0b_v10 : Ref sig .tc := ⟨.hbm, 679, rfl⟩
abbrev main_call4_call1_while0b_c_5 : Ref sig .tc := ⟨.hbm, 680, rfl⟩
abbrev main_call4_call1_while0b_v11 : Ref sig .tc := ⟨.hbm, 681, rfl⟩
abbrev main_call4_v2 : Ref sig .tc := ⟨.hbm, 682, rfl⟩
abbrev main_call4_v3 : Ref sig .tc := ⟨.hbm, 683, rfl⟩
abbrev main_call4_call3_cst : Ref sig .tc := ⟨.hbm, 684, rfl⟩
abbrev main_call4_call3_v0 : Ref sig .tc := ⟨.hbm, 685, rfl⟩
abbrev main_call4_call3_v1 : Ref sig .tc := ⟨.hbm, 686, rfl⟩
abbrev main_call4_call3_cst_0 : Ref sig .tc := ⟨.hbm, 687, rfl⟩
abbrev main_call4_call3_v2 : Ref sig .tc := ⟨.hbm, 688, rfl⟩
abbrev main_call4_call3_c : Ref sig .tc := ⟨.hbm, 689, rfl⟩
abbrev main_call4_call3_v3_0 : Ref sig .tc := ⟨.hbm, 690, rfl⟩
abbrev main_call4_call3_v3_1 : Ref sig .tc := ⟨.hbm, 691, rfl⟩
abbrev main_call4_call3_v3_2 : Ref sig .tc := ⟨.hbm, 692, rfl⟩
abbrev main_call4_call3_v3_3 : Ref sig .tc := ⟨.hbm, 693, rfl⟩
abbrev main_call4_call3_v3_4 : Ref sig .tc := ⟨.hbm, 694, rfl⟩
abbrev main_call4_call3_while0c_c_5 : Ref sig .tc := ⟨.hbm, 695, rfl⟩
abbrev main_call4_call3_while0c_v5 : Ref sig .tc := ⟨.hbm, 696, rfl⟩
abbrev main_call4_call3_while0b_call0_c : Ref sig .tc := ⟨.hbm, 697, rfl⟩
abbrev main_call4_call3_while0b_call0_c_0 : Ref sig .tc := ⟨.hbm, 698, rfl⟩
abbrev main_call4_call3_while0b_call0_v0 : Ref sig .tc := ⟨.hbm, 699, rfl⟩
abbrev main_call4_call3_while0b_v5 : Ref sig .tc := ⟨.hbm, 700, rfl⟩
abbrev main_call4_call3_while0b_v6 : Ref sig .tc := ⟨.hbm, 701, rfl⟩
abbrev main_call4_call3_while0b_v7 : Ref sig .tc := ⟨.hbm, 702, rfl⟩
abbrev main_call4_call3_while0b_v8 : Ref sig .tc := ⟨.hbm, 703, rfl⟩
abbrev main_call4_call3_while0b_v9 : Ref sig .tc := ⟨.hbm, 704, rfl⟩
abbrev main_call4_call3_while0b_call1_v0 : Ref sig .tc := ⟨.hbm, 705, rfl⟩
abbrev main_call4_call3_while0b_call1_c : Ref sig .tc := ⟨.hbm, 706, rfl⟩
abbrev main_call4_call3_while0b_call1_c_0 : Ref sig .tc := ⟨.hbm, 707, rfl⟩
abbrev main_call4_call3_while0b_v10 : Ref sig .tc := ⟨.hbm, 708, rfl⟩
abbrev main_call4_call3_while0b_c_5 : Ref sig .tc := ⟨.hbm, 709, rfl⟩
abbrev main_call4_call3_while0b_v11 : Ref sig .tc := ⟨.hbm, 710, rfl⟩
abbrev main_call4_v4 : Ref sig .tc := ⟨.hbm, 711, rfl⟩
abbrev main_call4_v5 : Ref sig .tc := ⟨.hbm, 712, rfl⟩
abbrev main_call4_v6 : Ref sig .tc := ⟨.hbm, 713, rfl⟩
abbrev main_call4_v7 : Ref sig .tc := ⟨.hbm, 714, rfl⟩
abbrev main_call4_v8 : Ref sig .tc := ⟨.hbm, 715, rfl⟩
abbrev main_call4_v9 : Ref sig .tc := ⟨.hbm, 716, rfl⟩
abbrev main_call4_v10 : Ref sig .tc := ⟨.hbm, 717, rfl⟩
abbrev main_call4_v11 : Ref sig .tc := ⟨.hbm, 718, rfl⟩
abbrev main_call4_v12 : Ref sig .tc := ⟨.hbm, 719, rfl⟩
abbrev main_call4_v13 : Ref sig .tc := ⟨.hbm, 720, rfl⟩
abbrev main_call4_v14 : Ref sig .tc := ⟨.hbm, 721, rfl⟩
abbrev main_call4_cst : Ref sig .tc := ⟨.hbm, 722, rfl⟩
abbrev main_call4_v15 : Ref sig .tc := ⟨.hbm, 723, rfl⟩
abbrev main_call4_v16 : Ref sig .tc := ⟨.hbm, 724, rfl⟩
abbrev main_call4_v17 : Ref sig .tc := ⟨.hbm, 725, rfl⟩
abbrev main_call4_cst_0 : Ref sig .tc := ⟨.hbm, 726, rfl⟩
abbrev main_call4_v18 : Ref sig .tc := ⟨.hbm, 727, rfl⟩
abbrev main_call4_v19 : Ref sig .tc := ⟨.hbm, 728, rfl⟩
abbrev main_call4_v20 : Ref sig .tc := ⟨.hbm, 729, rfl⟩
abbrev main_call4_cst_1 : Ref sig .tc := ⟨.hbm, 730, rfl⟩
abbrev main_call4_v21 : Ref sig .tc := ⟨.hbm, 731, rfl⟩
abbrev main_call4_v22 : Ref sig .tc := ⟨.hbm, 732, rfl⟩
abbrev main_call4_cst_2 : Ref sig .tc := ⟨.hbm, 733, rfl⟩
abbrev main_call4_v23 : Ref sig .tc := ⟨.hbm, 734, rfl⟩
abbrev main_call4_v24 : Ref sig .tc := ⟨.hbm, 735, rfl⟩
abbrev main_call4_v25 : Ref sig .tc := ⟨.hbm, 736, rfl⟩
abbrev main_call4_v26 : Ref sig .tc := ⟨.hbm, 737, rfl⟩
abbrev main_call4_v27 : Ref sig .tc := ⟨.hbm, 738, rfl⟩
abbrev main_call4_v28 : Ref sig .tc := ⟨.hbm, 739, rfl⟩
abbrev main_call4_call5_cst : Ref sig .tc := ⟨.hbm, 740, rfl⟩
abbrev main_call4_call5_v0 : Ref sig .tc := ⟨.hbm, 741, rfl⟩
abbrev main_call4_call5_v1 : Ref sig .tc := ⟨.hbm, 742, rfl⟩
abbrev main_call4_call5_cst_0 : Ref sig .tc := ⟨.hbm, 743, rfl⟩
abbrev main_call4_call5_v2 : Ref sig .tc := ⟨.hbm, 744, rfl⟩
abbrev main_call4_call5_v3 : Ref sig .tc := ⟨.hbm, 745, rfl⟩
abbrev main_call4_call5_c : Ref sig .tc := ⟨.hbm, 746, rfl⟩
abbrev main_call4_call5_call0_cst : Ref sig .tc := ⟨.hbm, 747, rfl⟩
abbrev main_call4_call5_call0_v0 : Ref sig .tc := ⟨.hbm, 748, rfl⟩
abbrev main_call4_call5_call0_v1 : Ref sig .tc := ⟨.hbm, 749, rfl⟩
abbrev main_call4_call5_call0_cst_0 : Ref sig .tc := ⟨.hbm, 750, rfl⟩
abbrev main_call4_call5_call0_v2 : Ref sig .tc := ⟨.hbm, 751, rfl⟩
abbrev main_call4_call5_call0_v3 : Ref sig .tc := ⟨.hbm, 752, rfl⟩
abbrev main_call4_call5_call0_v4 : Ref sig .tc := ⟨.hbm, 753, rfl⟩
abbrev main_call4_call5_call0_v5 : Ref sig .tc := ⟨.hbm, 754, rfl⟩
abbrev main_call4_call5_call0_v6 : Ref sig .tc := ⟨.hbm, 755, rfl⟩
abbrev main_call4_call5_call0_v7 : Ref sig .tc := ⟨.hbm, 756, rfl⟩
abbrev main_call4_call5_call0_cst_1 : Ref sig .tc := ⟨.hbm, 757, rfl⟩
abbrev main_call4_call5_call0_v8 : Ref sig .tc := ⟨.hbm, 758, rfl⟩
abbrev main_call4_call5_call0_cst_2 : Ref sig .tc := ⟨.hbm, 759, rfl⟩
abbrev main_call4_call5_call0_v9 : Ref sig .tc := ⟨.hbm, 760, rfl⟩
abbrev main_call4_call5_call0_v10 : Ref sig .tc := ⟨.hbm, 761, rfl⟩
abbrev main_call4_call5_call0_v11 : Ref sig .tc := ⟨.hbm, 762, rfl⟩
abbrev main_call4_call5_call0_v12 : Ref sig .tc := ⟨.hbm, 763, rfl⟩
abbrev main_call4_call5_call0_cst_3 : Ref sig .tc := ⟨.hbm, 764, rfl⟩
abbrev main_call4_call5_call0_v13 : Ref sig .tc := ⟨.hbm, 765, rfl⟩
abbrev main_call4_call5_call0_cst_4 : Ref sig .tc := ⟨.hbm, 766, rfl⟩
abbrev main_call4_call5_call0_call0_v0 : Ref sig .tc := ⟨.hbm, 767, rfl⟩
abbrev main_call4_call5_call0_call0_v1 : Ref sig .tc := ⟨.hbm, 768, rfl⟩
abbrev main_call4_call5_v4 : Ref sig .tc := ⟨.hbm, 769, rfl⟩
abbrev main_call4_call5_v5 : Ref sig .tc := ⟨.hbm, 770, rfl⟩
abbrev main_call4_call5_v6 : Ref sig .tc := ⟨.hbm, 771, rfl⟩
abbrev main_call4_call5_cst_1 : Ref sig .tc := ⟨.hbm, 772, rfl⟩
abbrev main_call4_call5_v7 : Ref sig .tc := ⟨.hbm, 773, rfl⟩
abbrev main_call4_call5_v8 : Ref sig .tc := ⟨.hbm, 774, rfl⟩
abbrev main_call4_call5_v9 : Ref sig .tc := ⟨.hbm, 775, rfl⟩
abbrev main_call4_call5_v10 : Ref sig .tc := ⟨.hbm, 776, rfl⟩
abbrev main_call4_call5_v11 : Ref sig .tc := ⟨.hbm, 777, rfl⟩
abbrev main_call4_call5_v12 : Ref sig .tc := ⟨.hbm, 778, rfl⟩
abbrev main_call4_call5_v13 : Ref sig .tc := ⟨.hbm, 779, rfl⟩
abbrev main_call4_call5_v14 : Ref sig .tc := ⟨.hbm, 780, rfl⟩
abbrev main_call4_call5_v15 : Ref sig .tc := ⟨.hbm, 781, rfl⟩
abbrev main_call4_call5_v16 : Ref sig .tc := ⟨.hbm, 782, rfl⟩
abbrev main_call4_v29 : Ref sig .tc := ⟨.hbm, 783, rfl⟩
abbrev main_call4_v30 : Ref sig .tc := ⟨.hbm, 784, rfl⟩
abbrev main_call4_v31 : Ref sig .tc := ⟨.hbm, 785, rfl⟩
abbrev main_call4_v32 : Ref sig .tc := ⟨.hbm, 786, rfl⟩
abbrev main_call4_v33 : Ref sig .tc := ⟨.hbm, 787, rfl⟩
abbrev main_call4_v34 : Ref sig .tc := ⟨.hbm, 788, rfl⟩
abbrev main_call4_v35 : Ref sig .tc := ⟨.hbm, 789, rfl⟩
abbrev main_call4_cst_3 : Ref sig .tc := ⟨.hbm, 790, rfl⟩
abbrev main_call4_v36 : Ref sig .tc := ⟨.hbm, 791, rfl⟩
abbrev main_call4_v37 : Ref sig .tc := ⟨.hbm, 792, rfl⟩
abbrev main_call4_v38 : Ref sig .tc := ⟨.hbm, 793, rfl⟩
abbrev main_call4_cst_4 : Ref sig .tc := ⟨.hbm, 794, rfl⟩
abbrev main_call4_v39 : Ref sig .tc := ⟨.hbm, 795, rfl⟩
abbrev main_call4_v40 : Ref sig .tc := ⟨.hbm, 796, rfl⟩
abbrev main_call4_v41 : Ref sig .tc := ⟨.hbm, 797, rfl⟩
abbrev main_call4_cst_5 : Ref sig .tc := ⟨.hbm, 798, rfl⟩
abbrev main_call4_v42 : Ref sig .tc := ⟨.hbm, 799, rfl⟩
abbrev main_call4_v43 : Ref sig .tc := ⟨.hbm, 800, rfl⟩
abbrev main_call4_cst_6 : Ref sig .tc := ⟨.hbm, 801, rfl⟩
abbrev main_call4_v44 : Ref sig .tc := ⟨.hbm, 802, rfl⟩
abbrev main_call4_v45 : Ref sig .tc := ⟨.hbm, 803, rfl⟩
abbrev main_call4_v46 : Ref sig .tc := ⟨.hbm, 804, rfl⟩
abbrev main_call4_v47 : Ref sig .tc := ⟨.hbm, 805, rfl⟩
abbrev main_call4_v48 : Ref sig .tc := ⟨.hbm, 806, rfl⟩
abbrev main_call4_v49 : Ref sig .tc := ⟨.hbm, 807, rfl⟩
abbrev main_call4_v50 : Ref sig .tc := ⟨.hbm, 808, rfl⟩
abbrev main_call4_v51 : Ref sig .tc := ⟨.hbm, 809, rfl⟩
abbrev main_call4_v52 : Ref sig .tc := ⟨.hbm, 810, rfl⟩
abbrev main_v100 : Ref sig .tc := ⟨.hbm, 811, rfl⟩
abbrev main_v101 : Ref sig .tc := ⟨.hbm, 812, rfl⟩
abbrev main_v102 : Ref sig .tc := ⟨.hbm, 813, rfl⟩
abbrev main_v103 : Ref sig .tc := ⟨.hbm, 814, rfl⟩
abbrev main_v104 : Ref sig .tc := ⟨.hbm, 815, rfl⟩
abbrev main_v105 : Ref sig .tc := ⟨.hbm, 816, rfl⟩
abbrev main_v106 : Ref sig .tc := ⟨.hbm, 817, rfl⟩
abbrev main_v107 : Ref sig .tc := ⟨.hbm, 818, rfl⟩
abbrev main_v108 : Ref sig .tc := ⟨.hbm, 819, rfl⟩
abbrev main_v109 : Ref sig .tc := ⟨.hbm, 820, rfl⟩
abbrev main_v110 : Ref sig .tc := ⟨.hbm, 821, rfl⟩
abbrev main_v111 : Ref sig .tc := ⟨.hbm, 822, rfl⟩
abbrev main_v112 : Ref sig .tc := ⟨.hbm, 823, rfl⟩
abbrev main_v113 : Ref sig .tc := ⟨.hbm, 824, rfl⟩
abbrev main_v114 : Ref sig .tc := ⟨.hbm, 825, rfl⟩
abbrev main_v115 : Ref sig .tc := ⟨.hbm, 826, rfl⟩
abbrev main_v116 : Ref sig .tc := ⟨.hbm, 827, rfl⟩
abbrev main_v117 : Ref sig .tc := ⟨.hbm, 828, rfl⟩
abbrev main_v118 : Ref sig .tc := ⟨.hbm, 829, rfl⟩
abbrev main_v119 : Ref sig .tc := ⟨.hbm, 830, rfl⟩
abbrev main_v120 : Ref sig .tc := ⟨.hbm, 831, rfl⟩
abbrev main_v121 : Ref sig .tc := ⟨.hbm, 832, rfl⟩
abbrev main_v122 : Ref sig .tc := ⟨.hbm, 833, rfl⟩
abbrev main_v123 : Ref sig .tc := ⟨.hbm, 834, rfl⟩
abbrev main_v124 : Ref sig .tc := ⟨.hbm, 835, rfl⟩
abbrev main_v125 : Ref sig .tc := ⟨.hbm, 836, rfl⟩
abbrev main_v126 : Ref sig .tc := ⟨.hbm, 837, rfl⟩
abbrev main_call5_call0_cst : Ref sig .tc := ⟨.hbm, 838, rfl⟩
abbrev main_call5_call0_v0 : Ref sig .tc := ⟨.hbm, 839, rfl⟩
abbrev main_call5_call0_v1 : Ref sig .tc := ⟨.hbm, 840, rfl⟩
abbrev main_call5_call0_cst_0 : Ref sig .tc := ⟨.hbm, 841, rfl⟩
abbrev main_call5_call0_v2 : Ref sig .tc := ⟨.hbm, 842, rfl⟩
abbrev main_call5_call0_v3 : Ref sig .tc := ⟨.hbm, 843, rfl⟩
abbrev main_call5_call0_c : Ref sig .tc := ⟨.hbm, 844, rfl⟩
abbrev main_call5_call0_call0_cst : Ref sig .tc := ⟨.hbm, 845, rfl⟩
abbrev main_call5_call0_call0_v0 : Ref sig .tc := ⟨.hbm, 846, rfl⟩
abbrev main_call5_call0_call0_v1 : Ref sig .tc := ⟨.hbm, 847, rfl⟩
abbrev main_call5_call0_call0_cst_0 : Ref sig .tc := ⟨.hbm, 848, rfl⟩
abbrev main_call5_call0_call0_v2 : Ref sig .tc := ⟨.hbm, 849, rfl⟩
abbrev main_call5_call0_call0_v3 : Ref sig .tc := ⟨.hbm, 850, rfl⟩
abbrev main_call5_call0_call0_v4 : Ref sig .tc := ⟨.hbm, 851, rfl⟩
abbrev main_call5_call0_call0_v5 : Ref sig .tc := ⟨.hbm, 852, rfl⟩
abbrev main_call5_call0_call0_v6 : Ref sig .tc := ⟨.hbm, 853, rfl⟩
abbrev main_call5_call0_call0_v7 : Ref sig .tc := ⟨.hbm, 854, rfl⟩
abbrev main_call5_call0_call0_cst_1 : Ref sig .tc := ⟨.hbm, 855, rfl⟩
abbrev main_call5_call0_call0_v8 : Ref sig .tc := ⟨.hbm, 856, rfl⟩
abbrev main_call5_call0_call0_cst_2 : Ref sig .tc := ⟨.hbm, 857, rfl⟩
abbrev main_call5_call0_call0_v9 : Ref sig .tc := ⟨.hbm, 858, rfl⟩
abbrev main_call5_call0_call0_v10 : Ref sig .tc := ⟨.hbm, 859, rfl⟩
abbrev main_call5_call0_call0_v11 : Ref sig .tc := ⟨.hbm, 860, rfl⟩
abbrev main_call5_call0_call0_v12 : Ref sig .tc := ⟨.hbm, 861, rfl⟩
abbrev main_call5_call0_call0_cst_3 : Ref sig .tc := ⟨.hbm, 862, rfl⟩
abbrev main_call5_call0_call0_v13 : Ref sig .tc := ⟨.hbm, 863, rfl⟩
abbrev main_call5_call0_call0_cst_4 : Ref sig .tc := ⟨.hbm, 864, rfl⟩
abbrev main_call5_call0_call0_call0_v0 : Ref sig .tc := ⟨.hbm, 865, rfl⟩
abbrev main_call5_call0_call0_call0_v1 : Ref sig .tc := ⟨.hbm, 866, rfl⟩
abbrev main_call5_call0_v4 : Ref sig .tc := ⟨.hbm, 867, rfl⟩
abbrev main_call5_call0_v5 : Ref sig .tc := ⟨.hbm, 868, rfl⟩
abbrev main_call5_call0_v6 : Ref sig .tc := ⟨.hbm, 869, rfl⟩
abbrev main_call5_call0_cst_1 : Ref sig .tc := ⟨.hbm, 870, rfl⟩
abbrev main_call5_call0_v7 : Ref sig .tc := ⟨.hbm, 871, rfl⟩
abbrev main_call5_call0_v8 : Ref sig .tc := ⟨.hbm, 872, rfl⟩
abbrev main_call5_call0_v9 : Ref sig .tc := ⟨.hbm, 873, rfl⟩
abbrev main_call5_call0_v10 : Ref sig .tc := ⟨.hbm, 874, rfl⟩
abbrev main_call5_call0_v11 : Ref sig .tc := ⟨.hbm, 875, rfl⟩
abbrev main_call5_call0_v12 : Ref sig .tc := ⟨.hbm, 876, rfl⟩
abbrev main_call5_call0_v13 : Ref sig .tc := ⟨.hbm, 877, rfl⟩
abbrev main_call5_call0_v14 : Ref sig .tc := ⟨.hbm, 878, rfl⟩
abbrev main_call5_call0_v15 : Ref sig .tc := ⟨.hbm, 879, rfl⟩
abbrev main_call5_call0_v16 : Ref sig .tc := ⟨.hbm, 880, rfl⟩
abbrev main_call5_v0 : Ref sig .tc := ⟨.hbm, 881, rfl⟩
abbrev main_call5_v1 : Ref sig .tc := ⟨.hbm, 882, rfl⟩
abbrev main_call5_call1_cst : Ref sig .tc := ⟨.hbm, 883, rfl⟩
abbrev main_call5_call1_v0 : Ref sig .tc := ⟨.hbm, 884, rfl⟩
abbrev main_call5_call1_v1 : Ref sig .tc := ⟨.hbm, 885, rfl⟩
abbrev main_call5_call1_cst_0 : Ref sig .tc := ⟨.hbm, 886, rfl⟩
abbrev main_call5_call1_v2 : Ref sig .tc := ⟨.hbm, 887, rfl⟩
abbrev main_call5_call1_c : Ref sig .tc := ⟨.hbm, 888, rfl⟩
abbrev main_call5_call1_v3_0 : Ref sig .tc := ⟨.hbm, 889, rfl⟩
abbrev main_call5_call1_v3_1 : Ref sig .tc := ⟨.hbm, 890, rfl⟩
abbrev main_call5_call1_v3_2 : Ref sig .tc := ⟨.hbm, 891, rfl⟩
abbrev main_call5_call1_v3_3 : Ref sig .tc := ⟨.hbm, 892, rfl⟩
abbrev main_call5_call1_v3_4 : Ref sig .tc := ⟨.hbm, 893, rfl⟩
abbrev main_call5_call1_while0c_c_5 : Ref sig .tc := ⟨.hbm, 894, rfl⟩
abbrev main_call5_call1_while0c_v5 : Ref sig .tc := ⟨.hbm, 895, rfl⟩
abbrev main_call5_call1_while0b_call0_c : Ref sig .tc := ⟨.hbm, 896, rfl⟩
abbrev main_call5_call1_while0b_call0_c_0 : Ref sig .tc := ⟨.hbm, 897, rfl⟩
abbrev main_call5_call1_while0b_call0_v0 : Ref sig .tc := ⟨.hbm, 898, rfl⟩
abbrev main_call5_call1_while0b_v5 : Ref sig .tc := ⟨.hbm, 899, rfl⟩
abbrev main_call5_call1_while0b_v6 : Ref sig .tc := ⟨.hbm, 900, rfl⟩
abbrev main_call5_call1_while0b_v7 : Ref sig .tc := ⟨.hbm, 901, rfl⟩
abbrev main_call5_call1_while0b_v8 : Ref sig .tc := ⟨.hbm, 902, rfl⟩
abbrev main_call5_call1_while0b_v9 : Ref sig .tc := ⟨.hbm, 903, rfl⟩
abbrev main_call5_call1_while0b_call1_v0 : Ref sig .tc := ⟨.hbm, 904, rfl⟩
abbrev main_call5_call1_while0b_call1_c : Ref sig .tc := ⟨.hbm, 905, rfl⟩
abbrev main_call5_call1_while0b_call1_c_0 : Ref sig .tc := ⟨.hbm, 906, rfl⟩
abbrev main_call5_call1_while0b_v10 : Ref sig .tc := ⟨.hbm, 907, rfl⟩
abbrev main_call5_call1_while0b_c_5 : Ref sig .tc := ⟨.hbm, 908, rfl⟩
abbrev main_call5_call1_while0b_v11 : Ref sig .tc := ⟨.hbm, 909, rfl⟩
abbrev main_call5_v2 : Ref sig .tc := ⟨.hbm, 910, rfl⟩
abbrev main_call5_v3 : Ref sig .tc := ⟨.hbm, 911, rfl⟩
abbrev main_call5_call3_cst : Ref sig .tc := ⟨.hbm, 912, rfl⟩
abbrev main_call5_call3_v0 : Ref sig .tc := ⟨.hbm, 913, rfl⟩
abbrev main_call5_call3_v1 : Ref sig .tc := ⟨.hbm, 914, rfl⟩
abbrev main_call5_call3_cst_0 : Ref sig .tc := ⟨.hbm, 915, rfl⟩
abbrev main_call5_call3_v2 : Ref sig .tc := ⟨.hbm, 916, rfl⟩
abbrev main_call5_call3_c : Ref sig .tc := ⟨.hbm, 917, rfl⟩
abbrev main_call5_call3_v3_0 : Ref sig .tc := ⟨.hbm, 918, rfl⟩
abbrev main_call5_call3_v3_1 : Ref sig .tc := ⟨.hbm, 919, rfl⟩
abbrev main_call5_call3_v3_2 : Ref sig .tc := ⟨.hbm, 920, rfl⟩
abbrev main_call5_call3_v3_3 : Ref sig .tc := ⟨.hbm, 921, rfl⟩
abbrev main_call5_call3_v3_4 : Ref sig .tc := ⟨.hbm, 922, rfl⟩
abbrev main_call5_call3_while0c_c_5 : Ref sig .tc := ⟨.hbm, 923, rfl⟩
abbrev main_call5_call3_while0c_v5 : Ref sig .tc := ⟨.hbm, 924, rfl⟩
abbrev main_call5_call3_while0b_call0_c : Ref sig .tc := ⟨.hbm, 925, rfl⟩
abbrev main_call5_call3_while0b_call0_c_0 : Ref sig .tc := ⟨.hbm, 926, rfl⟩
abbrev main_call5_call3_while0b_call0_v0 : Ref sig .tc := ⟨.hbm, 927, rfl⟩
abbrev main_call5_call3_while0b_v5 : Ref sig .tc := ⟨.hbm, 928, rfl⟩
abbrev main_call5_call3_while0b_v6 : Ref sig .tc := ⟨.hbm, 929, rfl⟩
abbrev main_call5_call3_while0b_v7 : Ref sig .tc := ⟨.hbm, 930, rfl⟩
abbrev main_call5_call3_while0b_v8 : Ref sig .tc := ⟨.hbm, 931, rfl⟩
abbrev main_call5_call3_while0b_v9 : Ref sig .tc := ⟨.hbm, 932, rfl⟩
abbrev main_call5_call3_while0b_call1_v0 : Ref sig .tc := ⟨.hbm, 933, rfl⟩
abbrev main_call5_call3_while0b_call1_c : Ref sig .tc := ⟨.hbm, 934, rfl⟩
abbrev main_call5_call3_while0b_call1_c_0 : Ref sig .tc := ⟨.hbm, 935, rfl⟩
abbrev main_call5_call3_while0b_v10 : Ref sig .tc := ⟨.hbm, 936, rfl⟩
abbrev main_call5_call3_while0b_c_5 : Ref sig .tc := ⟨.hbm, 937, rfl⟩
abbrev main_call5_call3_while0b_v11 : Ref sig .tc := ⟨.hbm, 938, rfl⟩
abbrev main_call5_v4 : Ref sig .tc := ⟨.hbm, 939, rfl⟩
abbrev main_call5_v5 : Ref sig .tc := ⟨.hbm, 940, rfl⟩
abbrev main_call5_v6 : Ref sig .tc := ⟨.hbm, 941, rfl⟩
abbrev main_call5_v7 : Ref sig .tc := ⟨.hbm, 942, rfl⟩
abbrev main_call5_v8 : Ref sig .tc := ⟨.hbm, 943, rfl⟩
abbrev main_call5_v9 : Ref sig .tc := ⟨.hbm, 944, rfl⟩
abbrev main_call5_v10 : Ref sig .tc := ⟨.hbm, 945, rfl⟩
abbrev main_call5_v11 : Ref sig .tc := ⟨.hbm, 946, rfl⟩
abbrev main_call5_v12 : Ref sig .tc := ⟨.hbm, 947, rfl⟩
abbrev main_call5_v13 : Ref sig .tc := ⟨.hbm, 948, rfl⟩
abbrev main_call5_v14 : Ref sig .tc := ⟨.hbm, 949, rfl⟩
abbrev main_call5_cst : Ref sig .tc := ⟨.hbm, 950, rfl⟩
abbrev main_call5_v15 : Ref sig .tc := ⟨.hbm, 951, rfl⟩
abbrev main_call5_v16 : Ref sig .tc := ⟨.hbm, 952, rfl⟩
abbrev main_call5_v17 : Ref sig .tc := ⟨.hbm, 953, rfl⟩
abbrev main_call5_cst_0 : Ref sig .tc := ⟨.hbm, 954, rfl⟩
abbrev main_call5_v18 : Ref sig .tc := ⟨.hbm, 955, rfl⟩
abbrev main_call5_v19 : Ref sig .tc := ⟨.hbm, 956, rfl⟩
abbrev main_call5_v20 : Ref sig .tc := ⟨.hbm, 957, rfl⟩
abbrev main_call5_cst_1 : Ref sig .tc := ⟨.hbm, 958, rfl⟩
abbrev main_call5_v21 : Ref sig .tc := ⟨.hbm, 959, rfl⟩
abbrev main_call5_v22 : Ref sig .tc := ⟨.hbm, 960, rfl⟩
abbrev main_call5_cst_2 : Ref sig .tc := ⟨.hbm, 961, rfl⟩
abbrev main_call5_v23 : Ref sig .tc := ⟨.hbm, 962, rfl⟩
abbrev main_call5_v24 : Ref sig .tc := ⟨.hbm, 963, rfl⟩
abbrev main_call5_v25 : Ref sig .tc := ⟨.hbm, 964, rfl⟩
abbrev main_call5_v26 : Ref sig .tc := ⟨.hbm, 965, rfl⟩
abbrev main_call5_v27 : Ref sig .tc := ⟨.hbm, 966, rfl⟩
abbrev main_call5_v28 : Ref sig .tc := ⟨.hbm, 967, rfl⟩
abbrev main_call5_call5_cst : Ref sig .tc := ⟨.hbm, 968, rfl⟩
abbrev main_call5_call5_v0 : Ref sig .tc := ⟨.hbm, 969, rfl⟩
abbrev main_call5_call5_v1 : Ref sig .tc := ⟨.hbm, 970, rfl⟩
abbrev main_call5_call5_cst_0 : Ref sig .tc := ⟨.hbm, 971, rfl⟩
abbrev main_call5_call5_v2 : Ref sig .tc := ⟨.hbm, 972, rfl⟩
abbrev main_call5_call5_v3 : Ref sig .tc := ⟨.hbm, 973, rfl⟩
abbrev main_call5_call5_c : Ref sig .tc := ⟨.hbm, 974, rfl⟩
abbrev main_call5_call5_call0_cst : Ref sig .tc := ⟨.hbm, 975, rfl⟩
abbrev main_call5_call5_call0_v0 : Ref sig .tc := ⟨.hbm, 976, rfl⟩
abbrev main_call5_call5_call0_v1 : Ref sig .tc := ⟨.hbm, 977, rfl⟩
abbrev main_call5_call5_call0_cst_0 : Ref sig .tc := ⟨.hbm, 978, rfl⟩
abbrev main_call5_call5_call0_v2 : Ref sig .tc := ⟨.hbm, 979, rfl⟩
abbrev main_call5_call5_call0_v3 : Ref sig .tc := ⟨.hbm, 980, rfl⟩
abbrev main_call5_call5_call0_v4 : Ref sig .tc := ⟨.hbm, 981, rfl⟩
abbrev main_call5_call5_call0_v5 : Ref sig .tc := ⟨.hbm, 982, rfl⟩
abbrev main_call5_call5_call0_v6 : Ref sig .tc := ⟨.hbm, 983, rfl⟩
abbrev main_call5_call5_call0_v7 : Ref sig .tc := ⟨.hbm, 984, rfl⟩
abbrev main_call5_call5_call0_cst_1 : Ref sig .tc := ⟨.hbm, 985, rfl⟩
abbrev main_call5_call5_call0_v8 : Ref sig .tc := ⟨.hbm, 986, rfl⟩
abbrev main_call5_call5_call0_cst_2 : Ref sig .tc := ⟨.hbm, 987, rfl⟩
abbrev main_call5_call5_call0_v9 : Ref sig .tc := ⟨.hbm, 988, rfl⟩
abbrev main_call5_call5_call0_v10 : Ref sig .tc := ⟨.hbm, 989, rfl⟩
abbrev main_call5_call5_call0_v11 : Ref sig .tc := ⟨.hbm, 990, rfl⟩
abbrev main_call5_call5_call0_v12 : Ref sig .tc := ⟨.hbm, 991, rfl⟩
abbrev main_call5_call5_call0_cst_3 : Ref sig .tc := ⟨.hbm, 992, rfl⟩
abbrev main_call5_call5_call0_v13 : Ref sig .tc := ⟨.hbm, 993, rfl⟩
abbrev main_call5_call5_call0_cst_4 : Ref sig .tc := ⟨.hbm, 994, rfl⟩
abbrev main_call5_call5_call0_call0_v0 : Ref sig .tc := ⟨.hbm, 995, rfl⟩
abbrev main_call5_call5_call0_call0_v1 : Ref sig .tc := ⟨.hbm, 996, rfl⟩
abbrev main_call5_call5_v4 : Ref sig .tc := ⟨.hbm, 997, rfl⟩
abbrev main_call5_call5_v5 : Ref sig .tc := ⟨.hbm, 998, rfl⟩
abbrev main_call5_call5_v6 : Ref sig .tc := ⟨.hbm, 999, rfl⟩
abbrev main_call5_call5_cst_1 : Ref sig .tc := ⟨.hbm, 1000, rfl⟩
abbrev main_call5_call5_v7 : Ref sig .tc := ⟨.hbm, 1001, rfl⟩
abbrev main_call5_call5_v8 : Ref sig .tc := ⟨.hbm, 1002, rfl⟩
abbrev main_call5_call5_v9 : Ref sig .tc := ⟨.hbm, 1003, rfl⟩
abbrev main_call5_call5_v10 : Ref sig .tc := ⟨.hbm, 1004, rfl⟩
abbrev main_call5_call5_v11 : Ref sig .tc := ⟨.hbm, 1005, rfl⟩
abbrev main_call5_call5_v12 : Ref sig .tc := ⟨.hbm, 1006, rfl⟩
abbrev main_call5_call5_v13 : Ref sig .tc := ⟨.hbm, 1007, rfl⟩
abbrev main_call5_call5_v14 : Ref sig .tc := ⟨.hbm, 1008, rfl⟩
abbrev main_call5_call5_v15 : Ref sig .tc := ⟨.hbm, 1009, rfl⟩
abbrev main_call5_call5_v16 : Ref sig .tc := ⟨.hbm, 1010, rfl⟩
abbrev main_call5_v29 : Ref sig .tc := ⟨.hbm, 1011, rfl⟩
abbrev main_call5_v30 : Ref sig .tc := ⟨.hbm, 1012, rfl⟩
abbrev main_call5_v31 : Ref sig .tc := ⟨.hbm, 1013, rfl⟩
abbrev main_call5_v32 : Ref sig .tc := ⟨.hbm, 1014, rfl⟩
abbrev main_call5_v33 : Ref sig .tc := ⟨.hbm, 1015, rfl⟩
abbrev main_call5_v34 : Ref sig .tc := ⟨.hbm, 1016, rfl⟩
abbrev main_call5_v35 : Ref sig .tc := ⟨.hbm, 1017, rfl⟩
abbrev main_call5_cst_3 : Ref sig .tc := ⟨.hbm, 1018, rfl⟩
abbrev main_call5_v36 : Ref sig .tc := ⟨.hbm, 1019, rfl⟩
abbrev main_call5_v37 : Ref sig .tc := ⟨.hbm, 1020, rfl⟩
abbrev main_call5_v38 : Ref sig .tc := ⟨.hbm, 1021, rfl⟩
abbrev main_call5_cst_4 : Ref sig .tc := ⟨.hbm, 1022, rfl⟩
abbrev main_call5_v39 : Ref sig .tc := ⟨.hbm, 1023, rfl⟩
abbrev main_call5_v40 : Ref sig .tc := ⟨.hbm, 1024, rfl⟩
abbrev main_call5_v41 : Ref sig .tc := ⟨.hbm, 1025, rfl⟩
abbrev main_call5_cst_5 : Ref sig .tc := ⟨.hbm, 1026, rfl⟩
abbrev main_call5_v42 : Ref sig .tc := ⟨.hbm, 1027, rfl⟩
abbrev main_call5_v43 : Ref sig .tc := ⟨.hbm, 1028, rfl⟩
abbrev main_call5_cst_6 : Ref sig .tc := ⟨.hbm, 1029, rfl⟩
abbrev main_call5_v44 : Ref sig .tc := ⟨.hbm, 1030, rfl⟩
abbrev main_call5_v45 : Ref sig .tc := ⟨.hbm, 1031, rfl⟩
abbrev main_call5_v46 : Ref sig .tc := ⟨.hbm, 1032, rfl⟩
abbrev main_call5_v47 : Ref sig .tc := ⟨.hbm, 1033, rfl⟩
abbrev main_call5_v48 : Ref sig .tc := ⟨.hbm, 1034, rfl⟩
abbrev main_call5_v49 : Ref sig .tc := ⟨.hbm, 1035, rfl⟩
abbrev main_call5_v50 : Ref sig .tc := ⟨.hbm, 1036, rfl⟩
abbrev main_call5_v51 : Ref sig .tc := ⟨.hbm, 1037, rfl⟩
abbrev main_call5_v52 : Ref sig .tc := ⟨.hbm, 1038, rfl⟩
abbrev main_v127 : Ref sig .tc := ⟨.hbm, 1039, rfl⟩
abbrev main_v128 : Ref sig .tc := ⟨.hbm, 1040, rfl⟩
abbrev main_v129 : Ref sig .tc := ⟨.hbm, 1041, rfl⟩
abbrev main_v130 : Ref sig .tc := ⟨.hbm, 1042, rfl⟩
abbrev main_v131 : Ref sig .tc := ⟨.hbm, 1043, rfl⟩
abbrev main_v132 : Ref sig .tc := ⟨.hbm, 1044, rfl⟩
abbrev main_v133 : Ref sig .tc := ⟨.hbm, 1045, rfl⟩
abbrev main_v134 : Ref sig .tc := ⟨.hbm, 1046, rfl⟩
abbrev main_v135 : Ref sig .tc := ⟨.hbm, 1047, rfl⟩
abbrev main_v136 : Ref sig .tc := ⟨.hbm, 1048, rfl⟩
abbrev main_v137 : Ref sig .tc := ⟨.hbm, 1049, rfl⟩
abbrev main_v138 : Ref sig .tc := ⟨.hbm, 1050, rfl⟩
abbrev main_v139 : Ref sig .tc := ⟨.hbm, 1051, rfl⟩
abbrev main_v140 : Ref sig .tc := ⟨.hbm, 1052, rfl⟩
abbrev main_v141 : Ref sig .tc := ⟨.hbm, 1053, rfl⟩
abbrev main_v142 : Ref sig .tc := ⟨.hbm, 1054, rfl⟩
abbrev main_v143 : Ref sig .tc := ⟨.hbm, 1055, rfl⟩
abbrev main_v144 : Ref sig .tc := ⟨.hbm, 1056, rfl⟩
abbrev main_v145 : Ref sig .tc := ⟨.hbm, 1057, rfl⟩
abbrev main_v146 : Ref sig .tc := ⟨.hbm, 1058, rfl⟩
abbrev main_v147 : Ref sig .tc := ⟨.hbm, 1059, rfl⟩
abbrev main_v148 : Ref sig .tc := ⟨.hbm, 1060, rfl⟩
abbrev main_v149 : Ref sig .tc := ⟨.hbm, 1061, rfl⟩
abbrev main_v150 : Ref sig .tc := ⟨.hbm, 1062, rfl⟩
abbrev main_v151 : Ref sig .tc := ⟨.hbm, 1063, rfl⟩
abbrev main_v152 : Ref sig .tc := ⟨.hbm, 1064, rfl⟩
abbrev main_v153 : Ref sig .tc := ⟨.hbm, 1065, rfl⟩
abbrev main_call6_call0_cst : Ref sig .tc := ⟨.hbm, 1066, rfl⟩
abbrev main_call6_call0_v0 : Ref sig .tc := ⟨.hbm, 1067, rfl⟩
abbrev main_call6_call0_v1 : Ref sig .tc := ⟨.hbm, 1068, rfl⟩
abbrev main_call6_call0_cst_0 : Ref sig .tc := ⟨.hbm, 1069, rfl⟩
abbrev main_call6_call0_v2 : Ref sig .tc := ⟨.hbm, 1070, rfl⟩
abbrev main_call6_call0_v3 : Ref sig .tc := ⟨.hbm, 1071, rfl⟩
abbrev main_call6_call0_c : Ref sig .tc := ⟨.hbm, 1072, rfl⟩
abbrev main_call6_call0_call0_cst : Ref sig .tc := ⟨.hbm, 1073, rfl⟩
abbrev main_call6_call0_call0_v0 : Ref sig .tc := ⟨.hbm, 1074, rfl⟩
abbrev main_call6_call0_call0_v1 : Ref sig .tc := ⟨.hbm, 1075, rfl⟩
abbrev main_call6_call0_call0_cst_0 : Ref sig .tc := ⟨.hbm, 1076, rfl⟩
abbrev main_call6_call0_call0_v2 : Ref sig .tc := ⟨.hbm, 1077, rfl⟩
abbrev main_call6_call0_call0_v3 : Ref sig .tc := ⟨.hbm, 1078, rfl⟩
abbrev main_call6_call0_call0_v4 : Ref sig .tc := ⟨.hbm, 1079, rfl⟩
abbrev main_call6_call0_call0_v5 : Ref sig .tc := ⟨.hbm, 1080, rfl⟩
abbrev main_call6_call0_call0_v6 : Ref sig .tc := ⟨.hbm, 1081, rfl⟩
abbrev main_call6_call0_call0_v7 : Ref sig .tc := ⟨.hbm, 1082, rfl⟩
abbrev main_call6_call0_call0_cst_1 : Ref sig .tc := ⟨.hbm, 1083, rfl⟩
abbrev main_call6_call0_call0_v8 : Ref sig .tc := ⟨.hbm, 1084, rfl⟩
abbrev main_call6_call0_call0_cst_2 : Ref sig .tc := ⟨.hbm, 1085, rfl⟩
abbrev main_call6_call0_call0_v9 : Ref sig .tc := ⟨.hbm, 1086, rfl⟩
abbrev main_call6_call0_call0_v10 : Ref sig .tc := ⟨.hbm, 1087, rfl⟩
abbrev main_call6_call0_call0_v11 : Ref sig .tc := ⟨.hbm, 1088, rfl⟩
abbrev main_call6_call0_call0_v12 : Ref sig .tc := ⟨.hbm, 1089, rfl⟩
abbrev main_call6_call0_call0_cst_3 : Ref sig .tc := ⟨.hbm, 1090, rfl⟩
abbrev main_call6_call0_call0_v13 : Ref sig .tc := ⟨.hbm, 1091, rfl⟩
abbrev main_call6_call0_call0_cst_4 : Ref sig .tc := ⟨.hbm, 1092, rfl⟩
abbrev main_call6_call0_call0_call0_v0 : Ref sig .tc := ⟨.hbm, 1093, rfl⟩
abbrev main_call6_call0_call0_call0_v1 : Ref sig .tc := ⟨.hbm, 1094, rfl⟩
abbrev main_call6_call0_v4 : Ref sig .tc := ⟨.hbm, 1095, rfl⟩
abbrev main_call6_call0_v5 : Ref sig .tc := ⟨.hbm, 1096, rfl⟩
abbrev main_call6_call0_v6 : Ref sig .tc := ⟨.hbm, 1097, rfl⟩
abbrev main_call6_call0_cst_1 : Ref sig .tc := ⟨.hbm, 1098, rfl⟩
abbrev main_call6_call0_v7 : Ref sig .tc := ⟨.hbm, 1099, rfl⟩
abbrev main_call6_call0_v8 : Ref sig .tc := ⟨.hbm, 1100, rfl⟩
abbrev main_call6_call0_v9 : Ref sig .tc := ⟨.hbm, 1101, rfl⟩
abbrev main_call6_call0_v10 : Ref sig .tc := ⟨.hbm, 1102, rfl⟩
abbrev main_call6_call0_v11 : Ref sig .tc := ⟨.hbm, 1103, rfl⟩
abbrev main_call6_call0_v12 : Ref sig .tc := ⟨.hbm, 1104, rfl⟩
abbrev main_call6_call0_v13 : Ref sig .tc := ⟨.hbm, 1105, rfl⟩
abbrev main_call6_call0_v14 : Ref sig .tc := ⟨.hbm, 1106, rfl⟩
abbrev main_call6_call0_v15 : Ref sig .tc := ⟨.hbm, 1107, rfl⟩
abbrev main_call6_call0_v16 : Ref sig .tc := ⟨.hbm, 1108, rfl⟩
abbrev main_call6_v0 : Ref sig .tc := ⟨.hbm, 1109, rfl⟩
abbrev main_call6_v1 : Ref sig .tc := ⟨.hbm, 1110, rfl⟩
abbrev main_call6_call1_cst : Ref sig .tc := ⟨.hbm, 1111, rfl⟩
abbrev main_call6_call1_v0 : Ref sig .tc := ⟨.hbm, 1112, rfl⟩
abbrev main_call6_call1_v1 : Ref sig .tc := ⟨.hbm, 1113, rfl⟩
abbrev main_call6_call1_cst_0 : Ref sig .tc := ⟨.hbm, 1114, rfl⟩
abbrev main_call6_call1_v2 : Ref sig .tc := ⟨.hbm, 1115, rfl⟩
abbrev main_call6_call1_c : Ref sig .tc := ⟨.hbm, 1116, rfl⟩
abbrev main_call6_call1_v3_0 : Ref sig .tc := ⟨.hbm, 1117, rfl⟩
abbrev main_call6_call1_v3_1 : Ref sig .tc := ⟨.hbm, 1118, rfl⟩
abbrev main_call6_call1_v3_2 : Ref sig .tc := ⟨.hbm, 1119, rfl⟩
abbrev main_call6_call1_v3_3 : Ref sig .tc := ⟨.hbm, 1120, rfl⟩
abbrev main_call6_call1_v3_4 : Ref sig .tc := ⟨.hbm, 1121, rfl⟩
abbrev main_call6_call1_while0c_c_5 : Ref sig .tc := ⟨.hbm, 1122, rfl⟩
abbrev main_call6_call1_while0c_v5 : Ref sig .tc := ⟨.hbm, 1123, rfl⟩
abbrev main_call6_call1_while0b_call0_c : Ref sig .tc := ⟨.hbm, 1124, rfl⟩
abbrev main_call6_call1_while0b_call0_c_0 : Ref sig .tc := ⟨.hbm, 1125, rfl⟩
abbrev main_call6_call1_while0b_call0_v0 : Ref sig .tc := ⟨.hbm, 1126, rfl⟩
abbrev main_call6_call1_while0b_v5 : Ref sig .tc := ⟨.hbm, 1127, rfl⟩
abbrev main_call6_call1_while0b_v6 : Ref sig .tc := ⟨.hbm, 1128, rfl⟩
abbrev main_call6_call1_while0b_v7 : Ref sig .tc := ⟨.hbm, 1129, rfl⟩
abbrev main_call6_call1_while0b_v8 : Ref sig .tc := ⟨.hbm, 1130, rfl⟩
abbrev main_call6_call1_while0b_v9 : Ref sig .tc := ⟨.hbm, 1131, rfl⟩
abbrev main_call6_call1_while0b_call1_v0 : Ref sig .tc := ⟨.hbm, 1132, rfl⟩
abbrev main_call6_call1_while0b_call1_c : Ref sig .tc := ⟨.hbm, 1133, rfl⟩
abbrev main_call6_call1_while0b_call1_c_0 : Ref sig .tc := ⟨.hbm, 1134, rfl⟩
abbrev main_call6_call1_while0b_v10 : Ref sig .tc := ⟨.hbm, 1135, rfl⟩
abbrev main_call6_call1_while0b_c_5 : Ref sig .tc := ⟨.hbm, 1136, rfl⟩
abbrev main_call6_call1_while0b_v11 : Ref sig .tc := ⟨.hbm, 1137, rfl⟩
abbrev main_call6_v2 : Ref sig .tc := ⟨.hbm, 1138, rfl⟩
abbrev main_call6_v3 : Ref sig .tc := ⟨.hbm, 1139, rfl⟩
abbrev main_call6_call3_cst : Ref sig .tc := ⟨.hbm, 1140, rfl⟩
abbrev main_call6_call3_v0 : Ref sig .tc := ⟨.hbm, 1141, rfl⟩
abbrev main_call6_call3_v1 : Ref sig .tc := ⟨.hbm, 1142, rfl⟩
abbrev main_call6_call3_cst_0 : Ref sig .tc := ⟨.hbm, 1143, rfl⟩
abbrev main_call6_call3_v2 : Ref sig .tc := ⟨.hbm, 1144, rfl⟩
abbrev main_call6_call3_c : Ref sig .tc := ⟨.hbm, 1145, rfl⟩
abbrev main_call6_call3_v3_0 : Ref sig .tc := ⟨.hbm, 1146, rfl⟩
abbrev main_call6_call3_v3_1 : Ref sig .tc := ⟨.hbm, 1147, rfl⟩
abbrev main_call6_call3_v3_2 : Ref sig .tc := ⟨.hbm, 1148, rfl⟩
abbrev main_call6_call3_v3_3 : Ref sig .tc := ⟨.hbm, 1149, rfl⟩
abbrev main_call6_call3_v3_4 : Ref sig .tc := ⟨.hbm, 1150, rfl⟩
abbrev main_call6_call3_while0c_c_5 : Ref sig .tc := ⟨.hbm, 1151, rfl⟩
abbrev main_call6_call3_while0c_v5 : Ref sig .tc := ⟨.hbm, 1152, rfl⟩
abbrev main_call6_call3_while0b_call0_c : Ref sig .tc := ⟨.hbm, 1153, rfl⟩
abbrev main_call6_call3_while0b_call0_c_0 : Ref sig .tc := ⟨.hbm, 1154, rfl⟩
abbrev main_call6_call3_while0b_call0_v0 : Ref sig .tc := ⟨.hbm, 1155, rfl⟩
abbrev main_call6_call3_while0b_v5 : Ref sig .tc := ⟨.hbm, 1156, rfl⟩
abbrev main_call6_call3_while0b_v6 : Ref sig .tc := ⟨.hbm, 1157, rfl⟩
abbrev main_call6_call3_while0b_v7 : Ref sig .tc := ⟨.hbm, 1158, rfl⟩
abbrev main_call6_call3_while0b_v8 : Ref sig .tc := ⟨.hbm, 1159, rfl⟩
abbrev main_call6_call3_while0b_v9 : Ref sig .tc := ⟨.hbm, 1160, rfl⟩
abbrev main_call6_call3_while0b_call1_v0 : Ref sig .tc := ⟨.hbm, 1161, rfl⟩
abbrev main_call6_call3_while0b_call1_c : Ref sig .tc := ⟨.hbm, 1162, rfl⟩
abbrev main_call6_call3_while0b_call1_c_0 : Ref sig .tc := ⟨.hbm, 1163, rfl⟩
abbrev main_call6_call3_while0b_v10 : Ref sig .tc := ⟨.hbm, 1164, rfl⟩
abbrev main_call6_call3_while0b_c_5 : Ref sig .tc := ⟨.hbm, 1165, rfl⟩
abbrev main_call6_call3_while0b_v11 : Ref sig .tc := ⟨.hbm, 1166, rfl⟩
abbrev main_call6_v4 : Ref sig .tc := ⟨.hbm, 1167, rfl⟩
abbrev main_call6_v5 : Ref sig .tc := ⟨.hbm, 1168, rfl⟩
abbrev main_call6_v6 : Ref sig .tc := ⟨.hbm, 1169, rfl⟩
abbrev main_call6_v7 : Ref sig .tc := ⟨.hbm, 1170, rfl⟩
abbrev main_call6_v8 : Ref sig .tc := ⟨.hbm, 1171, rfl⟩
abbrev main_call6_v9 : Ref sig .tc := ⟨.hbm, 1172, rfl⟩
abbrev main_call6_v10 : Ref sig .tc := ⟨.hbm, 1173, rfl⟩
abbrev main_call6_v11 : Ref sig .tc := ⟨.hbm, 1174, rfl⟩
abbrev main_call6_v12 : Ref sig .tc := ⟨.hbm, 1175, rfl⟩
abbrev main_call6_v13 : Ref sig .tc := ⟨.hbm, 1176, rfl⟩
abbrev main_call6_v14 : Ref sig .tc := ⟨.hbm, 1177, rfl⟩
abbrev main_call6_cst : Ref sig .tc := ⟨.hbm, 1178, rfl⟩
abbrev main_call6_v15 : Ref sig .tc := ⟨.hbm, 1179, rfl⟩
abbrev main_call6_v16 : Ref sig .tc := ⟨.hbm, 1180, rfl⟩
abbrev main_call6_v17 : Ref sig .tc := ⟨.hbm, 1181, rfl⟩
abbrev main_call6_cst_0 : Ref sig .tc := ⟨.hbm, 1182, rfl⟩
abbrev main_call6_v18 : Ref sig .tc := ⟨.hbm, 1183, rfl⟩
abbrev main_call6_v19 : Ref sig .tc := ⟨.hbm, 1184, rfl⟩
abbrev main_call6_v20 : Ref sig .tc := ⟨.hbm, 1185, rfl⟩
abbrev main_call6_cst_1 : Ref sig .tc := ⟨.hbm, 1186, rfl⟩
abbrev main_call6_v21 : Ref sig .tc := ⟨.hbm, 1187, rfl⟩
abbrev main_call6_v22 : Ref sig .tc := ⟨.hbm, 1188, rfl⟩
abbrev main_call6_cst_2 : Ref sig .tc := ⟨.hbm, 1189, rfl⟩
abbrev main_call6_v23 : Ref sig .tc := ⟨.hbm, 1190, rfl⟩
abbrev main_call6_v24 : Ref sig .tc := ⟨.hbm, 1191, rfl⟩
abbrev main_call6_v25 : Ref sig .tc := ⟨.hbm, 1192, rfl⟩
abbrev main_call6_v26 : Ref sig .tc := ⟨.hbm, 1193, rfl⟩
abbrev main_call6_v27 : Ref sig .tc := ⟨.hbm, 1194, rfl⟩
abbrev main_call6_v28 : Ref sig .tc := ⟨.hbm, 1195, rfl⟩
abbrev main_call6_call5_cst : Ref sig .tc := ⟨.hbm, 1196, rfl⟩
abbrev main_call6_call5_v0 : Ref sig .tc := ⟨.hbm, 1197, rfl⟩
abbrev main_call6_call5_v1 : Ref sig .tc := ⟨.hbm, 1198, rfl⟩
abbrev main_call6_call5_cst_0 : Ref sig .tc := ⟨.hbm, 1199, rfl⟩
abbrev main_call6_call5_v2 : Ref sig .tc := ⟨.hbm, 1200, rfl⟩
abbrev main_call6_call5_v3 : Ref sig .tc := ⟨.hbm, 1201, rfl⟩
abbrev main_call6_call5_c : Ref sig .tc := ⟨.hbm, 1202, rfl⟩
abbrev main_call6_call5_call0_cst : Ref sig .tc := ⟨.hbm, 1203, rfl⟩
abbrev main_call6_call5_call0_v0 : Ref sig .tc := ⟨.hbm, 1204, rfl⟩
abbrev main_call6_call5_call0_v1 : Ref sig .tc := ⟨.hbm, 1205, rfl⟩
abbrev main_call6_call5_call0_cst_0 : Ref sig .tc := ⟨.hbm, 1206, rfl⟩
abbrev main_call6_call5_call0_v2 : Ref sig .tc := ⟨.hbm, 1207, rfl⟩
abbrev main_call6_call5_call0_v3 : Ref sig .tc := ⟨.hbm, 1208, rfl⟩
abbrev main_call6_call5_call0_v4 : Ref sig .tc := ⟨.hbm, 1209, rfl⟩
abbrev main_call6_call5_call0_v5 : Ref sig .tc := ⟨.hbm, 1210, rfl⟩
abbrev main_call6_call5_call0_v6 : Ref sig .tc := ⟨.hbm, 1211, rfl⟩
abbrev main_call6_call5_call0_v7 : Ref sig .tc := ⟨.hbm, 1212, rfl⟩
abbrev main_call6_call5_call0_cst_1 : Ref sig .tc := ⟨.hbm, 1213, rfl⟩
abbrev main_call6_call5_call0_v8 : Ref sig .tc := ⟨.hbm, 1214, rfl⟩
abbrev main_call6_call5_call0_cst_2 : Ref sig .tc := ⟨.hbm, 1215, rfl⟩
abbrev main_call6_call5_call0_v9 : Ref sig .tc := ⟨.hbm, 1216, rfl⟩
abbrev main_call6_call5_call0_v10 : Ref sig .tc := ⟨.hbm, 1217, rfl⟩
abbrev main_call6_call5_call0_v11 : Ref sig .tc := ⟨.hbm, 1218, rfl⟩
abbrev main_call6_call5_call0_v12 : Ref sig .tc := ⟨.hbm, 1219, rfl⟩
abbrev main_call6_call5_call0_cst_3 : Ref sig .tc := ⟨.hbm, 1220, rfl⟩
abbrev main_call6_call5_call0_v13 : Ref sig .tc := ⟨.hbm, 1221, rfl⟩
abbrev main_call6_call5_call0_cst_4 : Ref sig .tc := ⟨.hbm, 1222, rfl⟩
abbrev main_call6_call5_call0_call0_v0 : Ref sig .tc := ⟨.hbm, 1223, rfl⟩
abbrev main_call6_call5_call0_call0_v1 : Ref sig .tc := ⟨.hbm, 1224, rfl⟩
abbrev main_call6_call5_v4 : Ref sig .tc := ⟨.hbm, 1225, rfl⟩
abbrev main_call6_call5_v5 : Ref sig .tc := ⟨.hbm, 1226, rfl⟩
abbrev main_call6_call5_v6 : Ref sig .tc := ⟨.hbm, 1227, rfl⟩
abbrev main_call6_call5_cst_1 : Ref sig .tc := ⟨.hbm, 1228, rfl⟩
abbrev main_call6_call5_v7 : Ref sig .tc := ⟨.hbm, 1229, rfl⟩
abbrev main_call6_call5_v8 : Ref sig .tc := ⟨.hbm, 1230, rfl⟩
abbrev main_call6_call5_v9 : Ref sig .tc := ⟨.hbm, 1231, rfl⟩
abbrev main_call6_call5_v10 : Ref sig .tc := ⟨.hbm, 1232, rfl⟩
abbrev main_call6_call5_v11 : Ref sig .tc := ⟨.hbm, 1233, rfl⟩
abbrev main_call6_call5_v12 : Ref sig .tc := ⟨.hbm, 1234, rfl⟩
abbrev main_call6_call5_v13 : Ref sig .tc := ⟨.hbm, 1235, rfl⟩
abbrev main_call6_call5_v14 : Ref sig .tc := ⟨.hbm, 1236, rfl⟩
abbrev main_call6_call5_v15 : Ref sig .tc := ⟨.hbm, 1237, rfl⟩
abbrev main_call6_call5_v16 : Ref sig .tc := ⟨.hbm, 1238, rfl⟩
abbrev main_call6_v29 : Ref sig .tc := ⟨.hbm, 1239, rfl⟩
abbrev main_call6_v30 : Ref sig .tc := ⟨.hbm, 1240, rfl⟩
abbrev main_call6_v31 : Ref sig .tc := ⟨.hbm, 1241, rfl⟩
abbrev main_call6_v32 : Ref sig .tc := ⟨.hbm, 1242, rfl⟩
abbrev main_call6_v33 : Ref sig .tc := ⟨.hbm, 1243, rfl⟩
abbrev main_call6_v34 : Ref sig .tc := ⟨.hbm, 1244, rfl⟩
abbrev main_call6_v35 : Ref sig .tc := ⟨.hbm, 1245, rfl⟩
abbrev main_call6_cst_3 : Ref sig .tc := ⟨.hbm, 1246, rfl⟩
abbrev main_call6_v36 : Ref sig .tc := ⟨.hbm, 1247, rfl⟩
abbrev main_call6_v37 : Ref sig .tc := ⟨.hbm, 1248, rfl⟩
abbrev main_call6_v38 : Ref sig .tc := ⟨.hbm, 1249, rfl⟩
abbrev main_call6_cst_4 : Ref sig .tc := ⟨.hbm, 1250, rfl⟩
abbrev main_call6_v39 : Ref sig .tc := ⟨.hbm, 1251, rfl⟩
abbrev main_call6_v40 : Ref sig .tc := ⟨.hbm, 1252, rfl⟩
abbrev main_call6_v41 : Ref sig .tc := ⟨.hbm, 1253, rfl⟩
abbrev main_call6_cst_5 : Ref sig .tc := ⟨.hbm, 1254, rfl⟩
abbrev main_call6_v42 : Ref sig .tc := ⟨.hbm, 1255, rfl⟩
abbrev main_call6_v43 : Ref sig .tc := ⟨.hbm, 1256, rfl⟩
abbrev main_call6_cst_6 : Ref sig .tc := ⟨.hbm, 1257, rfl⟩
abbrev main_call6_v44 : Ref sig .tc := ⟨.hbm, 1258, rfl⟩
abbrev main_call6_v45 : Ref sig .tc := ⟨.hbm, 1259, rfl⟩
abbrev main_call6_v46 : Ref sig .tc := ⟨.hbm, 1260, rfl⟩
abbrev main_call6_v47 : Ref sig .tc := ⟨.hbm, 1261, rfl⟩
abbrev main_call6_v48 : Ref sig .tc := ⟨.hbm, 1262, rfl⟩
abbrev main_call6_v49 : Ref sig .tc := ⟨.hbm, 1263, rfl⟩
abbrev main_call6_v50 : Ref sig .tc := ⟨.hbm, 1264, rfl⟩
abbrev main_call6_v51 : Ref sig .tc := ⟨.hbm, 1265, rfl⟩
abbrev main_call6_v52 : Ref sig .tc := ⟨.hbm, 1266, rfl⟩
abbrev main_v154 : Ref sig .tc := ⟨.hbm, 1267, rfl⟩
abbrev main_v155 : Ref sig .tc := ⟨.hbm, 1268, rfl⟩
abbrev main_v156 : Ref sig .tc := ⟨.hbm, 1269, rfl⟩
abbrev main_v157 : Ref sig .tc := ⟨.hbm, 1270, rfl⟩
abbrev main_v158 : Ref sig .tc := ⟨.hbm, 1271, rfl⟩
abbrev main_v159 : Ref sig .tc := ⟨.hbm, 1272, rfl⟩
abbrev main_v160 : Ref sig .tc := ⟨.hbm, 1273, rfl⟩
abbrev main_v161 : Ref sig .tc := ⟨.hbm, 1274, rfl⟩
abbrev main_v162 : Ref sig .tc := ⟨.hbm, 1275, rfl⟩
abbrev main_v163 : Ref sig .tc := ⟨.hbm, 1276, rfl⟩
abbrev main_v164 : Ref sig .tc := ⟨.hbm, 1277, rfl⟩
abbrev main_v165 : Ref sig .tc := ⟨.hbm, 1278, rfl⟩
abbrev main_v166 : Ref sig .tc := ⟨.hbm, 1279, rfl⟩
abbrev main_v167 : Ref sig .tc := ⟨.hbm, 1280, rfl⟩
abbrev main_v168 : Ref sig .tc := ⟨.hbm, 1281, rfl⟩
abbrev main_v169 : Ref sig .tc := ⟨.hbm, 1282, rfl⟩
abbrev main_v170 : Ref sig .tc := ⟨.hbm, 1283, rfl⟩
abbrev main_v171 : Ref sig .tc := ⟨.hbm, 1284, rfl⟩
abbrev main_v172 : Ref sig .tc := ⟨.hbm, 1285, rfl⟩
abbrev main_v173 : Ref sig .tc := ⟨.hbm, 1286, rfl⟩
abbrev main_v174 : Ref sig .tc := ⟨.hbm, 1287, rfl⟩
abbrev main_v175 : Ref sig .tc := ⟨.hbm, 1288, rfl⟩
abbrev main_v176 : Ref sig .tc := ⟨.hbm, 1289, rfl⟩
abbrev main_v177 : Ref sig .tc := ⟨.hbm, 1290, rfl⟩
abbrev main_v178 : Ref sig .tc := ⟨.hbm, 1291, rfl⟩
abbrev main_v179 : Ref sig .tc := ⟨.hbm, 1292, rfl⟩
abbrev main_v180 : Ref sig .tc := ⟨.hbm, 1293, rfl⟩
abbrev main_call7_call0_cst : Ref sig .tc := ⟨.hbm, 1294, rfl⟩
abbrev main_call7_call0_v0 : Ref sig .tc := ⟨.hbm, 1295, rfl⟩
abbrev main_call7_call0_v1 : Ref sig .tc := ⟨.hbm, 1296, rfl⟩
abbrev main_call7_call0_cst_0 : Ref sig .tc := ⟨.hbm, 1297, rfl⟩
abbrev main_call7_call0_v2 : Ref sig .tc := ⟨.hbm, 1298, rfl⟩
abbrev main_call7_call0_v3 : Ref sig .tc := ⟨.hbm, 1299, rfl⟩
abbrev main_call7_call0_c : Ref sig .tc := ⟨.hbm, 1300, rfl⟩
abbrev main_call7_call0_call0_cst : Ref sig .tc := ⟨.hbm, 1301, rfl⟩
abbrev main_call7_call0_call0_v0 : Ref sig .tc := ⟨.hbm, 1302, rfl⟩
abbrev main_call7_call0_call0_v1 : Ref sig .tc := ⟨.hbm, 1303, rfl⟩
abbrev main_call7_call0_call0_cst_0 : Ref sig .tc := ⟨.hbm, 1304, rfl⟩
abbrev main_call7_call0_call0_v2 : Ref sig .tc := ⟨.hbm, 1305, rfl⟩
abbrev main_call7_call0_call0_v3 : Ref sig .tc := ⟨.hbm, 1306, rfl⟩
abbrev main_call7_call0_call0_v4 : Ref sig .tc := ⟨.hbm, 1307, rfl⟩
abbrev main_call7_call0_call0_v5 : Ref sig .tc := ⟨.hbm, 1308, rfl⟩
abbrev main_call7_call0_call0_v6 : Ref sig .tc := ⟨.hbm, 1309, rfl⟩
abbrev main_call7_call0_call0_v7 : Ref sig .tc := ⟨.hbm, 1310, rfl⟩
abbrev main_call7_call0_call0_cst_1 : Ref sig .tc := ⟨.hbm, 1311, rfl⟩
abbrev main_call7_call0_call0_v8 : Ref sig .tc := ⟨.hbm, 1312, rfl⟩
abbrev main_call7_call0_call0_cst_2 : Ref sig .tc := ⟨.hbm, 1313, rfl⟩
abbrev main_call7_call0_call0_v9 : Ref sig .tc := ⟨.hbm, 1314, rfl⟩
abbrev main_call7_call0_call0_v10 : Ref sig .tc := ⟨.hbm, 1315, rfl⟩
abbrev main_call7_call0_call0_v11 : Ref sig .tc := ⟨.hbm, 1316, rfl⟩
abbrev main_call7_call0_call0_v12 : Ref sig .tc := ⟨.hbm, 1317, rfl⟩
abbrev main_call7_call0_call0_cst_3 : Ref sig .tc := ⟨.hbm, 1318, rfl⟩
abbrev main_call7_call0_call0_v13 : Ref sig .tc := ⟨.hbm, 1319, rfl⟩
abbrev main_call7_call0_call0_cst_4 : Ref sig .tc := ⟨.hbm, 1320, rfl⟩
abbrev main_call7_call0_call0_call0_v0 : Ref sig .tc := ⟨.hbm, 1321, rfl⟩
abbrev main_call7_call0_call0_call0_v1 : Ref sig .tc := ⟨.hbm, 1322, rfl⟩
abbrev main_call7_call0_v4 : Ref sig .tc := ⟨.hbm, 1323, rfl⟩
abbrev main_call7_call0_v5 : Ref sig .tc := ⟨.hbm, 1324, rfl⟩
abbrev main_call7_call0_v6 : Ref sig .tc := ⟨.hbm, 1325, rfl⟩
abbrev main_call7_call0_cst_1 : Ref sig .tc := ⟨.hbm, 1326, rfl⟩
abbrev main_call7_call0_v7 : Ref sig .tc := ⟨.hbm, 1327, rfl⟩
abbrev main_call7_call0_v8 : Ref sig .tc := ⟨.hbm, 1328, rfl⟩
abbrev main_call7_call0_v9 : Ref sig .tc := ⟨.hbm, 1329, rfl⟩
abbrev main_call7_call0_v10 : Ref sig .tc := ⟨.hbm, 1330, rfl⟩
abbrev main_call7_call0_v11 : Ref sig .tc := ⟨.hbm, 1331, rfl⟩
abbrev main_call7_call0_v12 : Ref sig .tc := ⟨.hbm, 1332, rfl⟩
abbrev main_call7_call0_v13 : Ref sig .tc := ⟨.hbm, 1333, rfl⟩
abbrev main_call7_call0_v14 : Ref sig .tc := ⟨.hbm, 1334, rfl⟩
abbrev main_call7_call0_v15 : Ref sig .tc := ⟨.hbm, 1335, rfl⟩
abbrev main_call7_call0_v16 : Ref sig .tc := ⟨.hbm, 1336, rfl⟩
abbrev main_call7_v0 : Ref sig .tc := ⟨.hbm, 1337, rfl⟩
abbrev main_call7_v1 : Ref sig .tc := ⟨.hbm, 1338, rfl⟩
abbrev main_call7_call1_cst : Ref sig .tc := ⟨.hbm, 1339, rfl⟩
abbrev main_call7_call1_v0 : Ref sig .tc := ⟨.hbm, 1340, rfl⟩
abbrev main_call7_call1_v1 : Ref sig .tc := ⟨.hbm, 1341, rfl⟩
abbrev main_call7_call1_cst_0 : Ref sig .tc := ⟨.hbm, 1342, rfl⟩
abbrev main_call7_call1_v2 : Ref sig .tc := ⟨.hbm, 1343, rfl⟩
abbrev main_call7_call1_c : Ref sig .tc := ⟨.hbm, 1344, rfl⟩
abbrev main_call7_call1_v3_0 : Ref sig .tc := ⟨.hbm, 1345, rfl⟩
abbrev main_call7_call1_v3_1 : Ref sig .tc := ⟨.hbm, 1346, rfl⟩
abbrev main_call7_call1_v3_2 : Ref sig .tc := ⟨.hbm, 1347, rfl⟩
abbrev main_call7_call1_v3_3 : Ref sig .tc := ⟨.hbm, 1348, rfl⟩
abbrev main_call7_call1_v3_4 : Ref sig .tc := ⟨.hbm, 1349, rfl⟩
abbrev main_call7_call1_while0c_c_5 : Ref sig .tc := ⟨.hbm, 1350, rfl⟩
abbrev main_call7_call1_while0c_v5 : Ref sig .tc := ⟨.hbm, 1351, rfl⟩
abbrev main_call7_call1_while0b_call0_c : Ref sig .tc := ⟨.hbm, 1352, rfl⟩
abbrev main_call7_call1_while0b_call0_c_0 : Ref sig .tc := ⟨.hbm, 1353, rfl⟩
abbrev main_call7_call1_while0b_call0_v0 : Ref sig .tc := ⟨.hbm, 1354, rfl⟩
abbrev main_call7_call1_while0b_v5 : Ref sig .tc := ⟨.hbm, 1355, rfl⟩
abbrev main_call7_call1_while0b_v6 : Ref sig .tc := ⟨.hbm, 1356, rfl⟩
abbrev main_call7_call1_while0b_v7 : Ref sig .tc := ⟨.hbm, 1357, rfl⟩
abbrev main_call7_call1_while0b_v8 : Ref sig .tc := ⟨.hbm, 1358, rfl⟩
abbrev main_call7_call1_while0b_v9 : Ref sig .tc := ⟨.hbm, 1359, rfl⟩
abbrev main_call7_call1_while0b_call1_v0 : Ref sig .tc := ⟨.hbm, 1360, rfl⟩
abbrev main_call7_call1_while0b_call1_c : Ref sig .tc := ⟨.hbm, 1361, rfl⟩
abbrev main_call7_call1_while0b_call1_c_0 : Ref sig .tc := ⟨.hbm, 1362, rfl⟩
abbrev main_call7_call1_while0b_v10 : Ref sig .tc := ⟨.hbm, 1363, rfl⟩
abbrev main_call7_call1_while0b_c_5 : Ref sig .tc := ⟨.hbm, 1364, rfl⟩
abbrev main_call7_call1_while0b_v11 : Ref sig .tc := ⟨.hbm, 1365, rfl⟩
abbrev main_call7_v2 : Ref sig .tc := ⟨.hbm, 1366, rfl⟩
abbrev main_call7_v3 : Ref sig .tc := ⟨.hbm, 1367, rfl⟩
abbrev main_call7_call3_cst : Ref sig .tc := ⟨.hbm, 1368, rfl⟩
abbrev main_call7_call3_v0 : Ref sig .tc := ⟨.hbm, 1369, rfl⟩
abbrev main_call7_call3_v1 : Ref sig .tc := ⟨.hbm, 1370, rfl⟩
abbrev main_call7_call3_cst_0 : Ref sig .tc := ⟨.hbm, 1371, rfl⟩
abbrev main_call7_call3_v2 : Ref sig .tc := ⟨.hbm, 1372, rfl⟩
abbrev main_call7_call3_c : Ref sig .tc := ⟨.hbm, 1373, rfl⟩
abbrev main_call7_call3_v3_0 : Ref sig .tc := ⟨.hbm, 1374, rfl⟩
abbrev main_call7_call3_v3_1 : Ref sig .tc := ⟨.hbm, 1375, rfl⟩
abbrev main_call7_call3_v3_2 : Ref sig .tc := ⟨.hbm, 1376, rfl⟩
abbrev main_call7_call3_v3_3 : Ref sig .tc := ⟨.hbm, 1377, rfl⟩
abbrev main_call7_call3_v3_4 : Ref sig .tc := ⟨.hbm, 1378, rfl⟩
abbrev main_call7_call3_while0c_c_5 : Ref sig .tc := ⟨.hbm, 1379, rfl⟩
abbrev main_call7_call3_while0c_v5 : Ref sig .tc := ⟨.hbm, 1380, rfl⟩
abbrev main_call7_call3_while0b_call0_c : Ref sig .tc := ⟨.hbm, 1381, rfl⟩
abbrev main_call7_call3_while0b_call0_c_0 : Ref sig .tc := ⟨.hbm, 1382, rfl⟩
abbrev main_call7_call3_while0b_call0_v0 : Ref sig .tc := ⟨.hbm, 1383, rfl⟩
abbrev main_call7_call3_while0b_v5 : Ref sig .tc := ⟨.hbm, 1384, rfl⟩
abbrev main_call7_call3_while0b_v6 : Ref sig .tc := ⟨.hbm, 1385, rfl⟩
abbrev main_call7_call3_while0b_v7 : Ref sig .tc := ⟨.hbm, 1386, rfl⟩
abbrev main_call7_call3_while0b_v8 : Ref sig .tc := ⟨.hbm, 1387, rfl⟩
abbrev main_call7_call3_while0b_v9 : Ref sig .tc := ⟨.hbm, 1388, rfl⟩
abbrev main_call7_call3_while0b_call1_v0 : Ref sig .tc := ⟨.hbm, 1389, rfl⟩
abbrev main_call7_call3_while0b_call1_c : Ref sig .tc := ⟨.hbm, 1390, rfl⟩
abbrev main_call7_call3_while0b_call1_c_0 : Ref sig .tc := ⟨.hbm, 1391, rfl⟩
abbrev main_call7_call3_while0b_v10 : Ref sig .tc := ⟨.hbm, 1392, rfl⟩
abbrev main_call7_call3_while0b_c_5 : Ref sig .tc := ⟨.hbm, 1393, rfl⟩
abbrev main_call7_call3_while0b_v11 : Ref sig .tc := ⟨.hbm, 1394, rfl⟩
abbrev main_call7_v4 : Ref sig .tc := ⟨.hbm, 1395, rfl⟩
abbrev main_call7_v5 : Ref sig .tc := ⟨.hbm, 1396, rfl⟩
abbrev main_call7_v6 : Ref sig .tc := ⟨.hbm, 1397, rfl⟩
abbrev main_call7_v7 : Ref sig .tc := ⟨.hbm, 1398, rfl⟩
abbrev main_call7_v8 : Ref sig .tc := ⟨.hbm, 1399, rfl⟩
abbrev main_call7_v9 : Ref sig .tc := ⟨.hbm, 1400, rfl⟩
abbrev main_call7_v10 : Ref sig .tc := ⟨.hbm, 1401, rfl⟩
abbrev main_call7_v11 : Ref sig .tc := ⟨.hbm, 1402, rfl⟩
abbrev main_call7_v12 : Ref sig .tc := ⟨.hbm, 1403, rfl⟩
abbrev main_call7_v13 : Ref sig .tc := ⟨.hbm, 1404, rfl⟩
abbrev main_call7_v14 : Ref sig .tc := ⟨.hbm, 1405, rfl⟩
abbrev main_call7_cst : Ref sig .tc := ⟨.hbm, 1406, rfl⟩
abbrev main_call7_v15 : Ref sig .tc := ⟨.hbm, 1407, rfl⟩
abbrev main_call7_v16 : Ref sig .tc := ⟨.hbm, 1408, rfl⟩
abbrev main_call7_v17 : Ref sig .tc := ⟨.hbm, 1409, rfl⟩
abbrev main_call7_cst_0 : Ref sig .tc := ⟨.hbm, 1410, rfl⟩
abbrev main_call7_v18 : Ref sig .tc := ⟨.hbm, 1411, rfl⟩
abbrev main_call7_v19 : Ref sig .tc := ⟨.hbm, 1412, rfl⟩
abbrev main_call7_v20 : Ref sig .tc := ⟨.hbm, 1413, rfl⟩
abbrev main_call7_cst_1 : Ref sig .tc := ⟨.hbm, 1414, rfl⟩
abbrev main_call7_v21 : Ref sig .tc := ⟨.hbm, 1415, rfl⟩
abbrev main_call7_v22 : Ref sig .tc := ⟨.hbm, 1416, rfl⟩
abbrev main_call7_cst_2 : Ref sig .tc := ⟨.hbm, 1417, rfl⟩
abbrev main_call7_v23 : Ref sig .tc := ⟨.hbm, 1418, rfl⟩
abbrev main_call7_v24 : Ref sig .tc := ⟨.hbm, 1419, rfl⟩
abbrev main_call7_v25 : Ref sig .tc := ⟨.hbm, 1420, rfl⟩
abbrev main_call7_v26 : Ref sig .tc := ⟨.hbm, 1421, rfl⟩
abbrev main_call7_v27 : Ref sig .tc := ⟨.hbm, 1422, rfl⟩
abbrev main_call7_v28 : Ref sig .tc := ⟨.hbm, 1423, rfl⟩
abbrev main_call7_call5_cst : Ref sig .tc := ⟨.hbm, 1424, rfl⟩
abbrev main_call7_call5_v0 : Ref sig .tc := ⟨.hbm, 1425, rfl⟩
abbrev main_call7_call5_v1 : Ref sig .tc := ⟨.hbm, 1426, rfl⟩
abbrev main_call7_call5_cst_0 : Ref sig .tc := ⟨.hbm, 1427, rfl⟩
abbrev main_call7_call5_v2 : Ref sig .tc := ⟨.hbm, 1428, rfl⟩
abbrev main_call7_call5_v3 : Ref sig .tc := ⟨.hbm, 1429, rfl⟩
abbrev main_call7_call5_c : Ref sig .tc := ⟨.hbm, 1430, rfl⟩
abbrev main_call7_call5_call0_cst : Ref sig .tc := ⟨.hbm, 1431, rfl⟩
abbrev main_call7_call5_call0_v0 : Ref sig .tc := ⟨.hbm, 1432, rfl⟩
abbrev main_call7_call5_call0_v1 : Ref sig .tc := ⟨.hbm, 1433, rfl⟩
abbrev main_call7_call5_call0_cst_0 : Ref sig .tc := ⟨.hbm, 1434, rfl⟩
abbrev main_call7_call5_call0_v2 : Ref sig .tc := ⟨.hbm, 1435, rfl⟩
abbrev main_call7_call5_call0_v3 : Ref sig .tc := ⟨.hbm, 1436, rfl⟩
abbrev main_call7_call5_call0_v4 : Ref sig .tc := ⟨.hbm, 1437, rfl⟩
abbrev main_call7_call5_call0_v5 : Ref sig .tc := ⟨.hbm, 1438, rfl⟩
abbrev main_call7_call5_call0_v6 : Ref sig .tc := ⟨.hbm, 1439, rfl⟩
abbrev main_call7_call5_call0_v7 : Ref sig .tc := ⟨.hbm, 1440, rfl⟩
abbrev main_call7_call5_call0_cst_1 : Ref sig .tc := ⟨.hbm, 1441, rfl⟩
abbrev main_call7_call5_call0_v8 : Ref sig .tc := ⟨.hbm, 1442, rfl⟩
abbrev main_call7_call5_call0_cst_2 : Ref sig .tc := ⟨.hbm, 1443, rfl⟩
abbrev main_call7_call5_call0_v9 : Ref sig .tc := ⟨.hbm, 1444, rfl⟩
abbrev main_call7_call5_call0_v10 : Ref sig .tc := ⟨.hbm, 1445, rfl⟩
abbrev main_call7_call5_call0_v11 : Ref sig .tc := ⟨.hbm, 1446, rfl⟩
abbrev main_call7_call5_call0_v12 : Ref sig .tc := ⟨.hbm, 1447, rfl⟩
abbrev main_call7_call5_call0_cst_3 : Ref sig .tc := ⟨.hbm, 1448, rfl⟩
abbrev main_call7_call5_call0_v13 : Ref sig .tc := ⟨.hbm, 1449, rfl⟩
abbrev main_call7_call5_call0_cst_4 : Ref sig .tc := ⟨.hbm, 1450, rfl⟩
abbrev main_call7_call5_call0_call0_v0 : Ref sig .tc := ⟨.hbm, 1451, rfl⟩
abbrev main_call7_call5_call0_call0_v1 : Ref sig .tc := ⟨.hbm, 1452, rfl⟩
abbrev main_call7_call5_v4 : Ref sig .tc := ⟨.hbm, 1453, rfl⟩
abbrev main_call7_call5_v5 : Ref sig .tc := ⟨.hbm, 1454, rfl⟩
abbrev main_call7_call5_v6 : Ref sig .tc := ⟨.hbm, 1455, rfl⟩
abbrev main_call7_call5_cst_1 : Ref sig .tc := ⟨.hbm, 1456, rfl⟩
abbrev main_call7_call5_v7 : Ref sig .tc := ⟨.hbm, 1457, rfl⟩
abbrev main_call7_call5_v8 : Ref sig .tc := ⟨.hbm, 1458, rfl⟩
abbrev main_call7_call5_v9 : Ref sig .tc := ⟨.hbm, 1459, rfl⟩
abbrev main_call7_call5_v10 : Ref sig .tc := ⟨.hbm, 1460, rfl⟩
abbrev main_call7_call5_v11 : Ref sig .tc := ⟨.hbm, 1461, rfl⟩
abbrev main_call7_call5_v12 : Ref sig .tc := ⟨.hbm, 1462, rfl⟩
abbrev main_call7_call5_v13 : Ref sig .tc := ⟨.hbm, 1463, rfl⟩
abbrev main_call7_call5_v14 : Ref sig .tc := ⟨.hbm, 1464, rfl⟩
abbrev main_call7_call5_v15 : Ref sig .tc := ⟨.hbm, 1465, rfl⟩
abbrev main_call7_call5_v16 : Ref sig .tc := ⟨.hbm, 1466, rfl⟩
abbrev main_call7_v29 : Ref sig .tc := ⟨.hbm, 1467, rfl⟩
abbrev main_call7_v30 : Ref sig .tc := ⟨.hbm, 1468, rfl⟩
abbrev main_call7_v31 : Ref sig .tc := ⟨.hbm, 1469, rfl⟩
abbrev main_call7_v32 : Ref sig .tc := ⟨.hbm, 1470, rfl⟩
abbrev main_call7_v33 : Ref sig .tc := ⟨.hbm, 1471, rfl⟩
abbrev main_call7_v34 : Ref sig .tc := ⟨.hbm, 1472, rfl⟩
abbrev main_call7_v35 : Ref sig .tc := ⟨.hbm, 1473, rfl⟩
abbrev main_call7_cst_3 : Ref sig .tc := ⟨.hbm, 1474, rfl⟩
abbrev main_call7_v36 : Ref sig .tc := ⟨.hbm, 1475, rfl⟩
abbrev main_call7_v37 : Ref sig .tc := ⟨.hbm, 1476, rfl⟩
abbrev main_call7_v38 : Ref sig .tc := ⟨.hbm, 1477, rfl⟩
abbrev main_call7_cst_4 : Ref sig .tc := ⟨.hbm, 1478, rfl⟩
abbrev main_call7_v39 : Ref sig .tc := ⟨.hbm, 1479, rfl⟩
abbrev main_call7_v40 : Ref sig .tc := ⟨.hbm, 1480, rfl⟩
abbrev main_call7_v41 : Ref sig .tc := ⟨.hbm, 1481, rfl⟩
abbrev main_call7_cst_5 : Ref sig .tc := ⟨.hbm, 1482, rfl⟩
abbrev main_call7_v42 : Ref sig .tc := ⟨.hbm, 1483, rfl⟩
abbrev main_call7_v43 : Ref sig .tc := ⟨.hbm, 1484, rfl⟩
abbrev main_call7_cst_6 : Ref sig .tc := ⟨.hbm, 1485, rfl⟩
abbrev main_call7_v44 : Ref sig .tc := ⟨.hbm, 1486, rfl⟩
abbrev main_call7_v45 : Ref sig .tc := ⟨.hbm, 1487, rfl⟩
abbrev main_call7_v46 : Ref sig .tc := ⟨.hbm, 1488, rfl⟩
abbrev main_call7_v47 : Ref sig .tc := ⟨.hbm, 1489, rfl⟩
abbrev main_call7_v48 : Ref sig .tc := ⟨.hbm, 1490, rfl⟩
abbrev main_call7_v49 : Ref sig .tc := ⟨.hbm, 1491, rfl⟩
abbrev main_call7_v50 : Ref sig .tc := ⟨.hbm, 1492, rfl⟩
abbrev main_call7_v51 : Ref sig .tc := ⟨.hbm, 1493, rfl⟩
abbrev main_call7_v52 : Ref sig .tc := ⟨.hbm, 1494, rfl⟩
abbrev main_v181 : Ref sig .tc := ⟨.hbm, 1495, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩

abbrev main_while2_count : Scf.Loop 32 := ⟨0#32, 2048#32, 1#32⟩

abbrev main_while3_count : Scf.Loop 32 := ⟨0#32, 2048#32, 1#32⟩

abbrev main_while4_count : Scf.Loop 32 := ⟨0#32, 2048#32, 1#32⟩

abbrev main_while5_count : Scf.Loop 32 := ⟨0#32, 2048#32, 1#32⟩

abbrev main_while6_count : Scf.Loop 32 := ⟨0#32, 2048#32, 1#32⟩

abbrev main_while7_count : Scf.Loop 32 := ⟨0#32, 2048#32, 1#32⟩

abbrev main_while8_count : Scf.Loop 32 := ⟨0#32, 2048#32, 1#32⟩

abbrev main_while9_count : Scf.Loop 32 := ⟨0#32, 2048#32, 1#32⟩

abbrev main_while10_count : Scf.Loop 32 := ⟨0#32, 2048#32, 1#32⟩

abbrev main_while11_count : Scf.Loop 32 := ⟨0#32, 2048#32, 1#32⟩
-- ==== Proof.Spec.lean ====
/- The rows both programs compute, over the extended reals, coordinate by coordinate; and the laws that join the two ways of
   normalising a row and the two ways of running the linear recurrence. -/
module

public import Idealize.ShloMosaic.Lib.Pointwise

@[expose] public section

noncomputable section

namespace Cert.Spec

open Idealize.ShloMosaic
open scoped BigOperators

/-! ## Normalising a row -/

/-- The small number added to a variance. -/
abbrev eps : EReal := Ideal.ofBits .f32 0x3727C5AC#32

/-- The mean of a row, its sum over `cnt`. -/
def mean {n : ℕ} (cnt : BitVec 32) (v : Fin n → EReal) : EReal := Ideal.div (∑ k, v k) (Ideal.ofBits .f32 cnt)

/-- The distance from the mean. -/
def dev {n : ℕ} (cnt : BitVec 32) (v : Fin n → EReal) (k : Fin n) : EReal := v k - mean cnt v

/-- The mean square of the distances. -/
def var {n : ℕ} (cnt : BitVec 32) (v : Fin n → EReal) : EReal := Ideal.div (∑ k, dev cnt v k * dev cnt v k) (Ideal.ofBits .f32 cnt)

/-- The normalised row. -/
def ln {n : ℕ} (cnt : BitVec 32) (v g b : Fin n → EReal) (j : Fin n) : EReal :=
  dev cnt v j * Ideal.rsqrt (var cnt v + eps) * g j + b j

/-- The pattern of 512. -/
theorem bits512 : Ideal.ofBits .f32 0x44000000#32 = ((512 : ℝ) : EReal) := by
  simp [Ideal.ofBits, Ideal.ieee, -EReal.coe_mul]; norm_num

/-- The pattern of 128. -/
theorem bits128 : Ideal.ofBits .f32 0x43000000#32 = ((128 : ℝ) : EReal) := by
  simp [Ideal.ofBits, Ideal.ieee, -EReal.coe_mul]; norm_num

/-- The small number is positive. -/
theorem eps_pos : 0 < eps := by
  have h : eps = ((10995116 / 2 ^ 40 : ℝ) : EReal) := by
    simp [eps, Ideal.ofBits, Ideal.ieee, -EReal.coe_mul]; norm_num
  rw [h]
  exact EReal.coe_pos.mpr (by norm_num)

/-- A square is not negative. -/
theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- A variance over a positive count is not negative. -/
theorem var_nonneg {n : ℕ} {cnt : BitVec 32} (hc : 0 < Ideal.ofBits .f32 cnt) (v : Fin n → EReal) : 0 ≤ var cnt v := by
  unfold var Ideal.div
  rw [if_neg hc.ne']
  exact mul_nonneg (Finset.sum_nonneg fun k _ => mul_self_nonneg' _) (EReal.inv_nonneg_of_nonneg hc.le)

/-- Over a positive number, dividing by the root is multiplying by the reciprocal root. -/
theorem div_sqrt (c : EReal) {y : EReal} (hy : 0 < y) : Ideal.div c (Ideal.sqrt y) = c * Ideal.rsqrt y := by
  induction y with
  | bot => exact absurd hy (by simp)
  | top =>
    have e1 : Ideal.sqrt ⊤ = ⊤ := rfl
    have e2 : Ideal.rsqrt ⊤ = 0 := rfl
    rw [e1, e2, Ideal.div, if_neg EReal.top_ne_zero, EReal.inv_top]
  | coe r =>
    have hr : 0 < r := EReal.coe_pos.mp hy
    have hs : (Real.sqrt r : EReal) ≠ 0 := by
      rw [Ne, EReal.coe_eq_zero]
      exact (Real.sqrt_pos.mpr hr).ne'
    have e1 : Ideal.sqrt (r : EReal) = (Real.sqrt r : EReal) := if_neg hr.not_gt
    have e2 : Ideal.rsqrt (r : EReal) = ((Real.sqrt r)⁻¹ : ℝ) := (if_neg hr.not_gt).trans (if_neg hr.ne')
    rw [e1, e2, Ideal.div, if_neg hs, EReal.coe_inv]

/-- Dividing the distance by the root of the variance gives the same normalised row. -/
theorem ln_div {n : ℕ} {cnt : BitVec 32} (hc : 0 < Ideal.ofBits .f32 cnt) (v g b : Fin n → EReal) (j : Fin n) :
    Ideal.div (dev cnt v j) (Ideal.sqrt (var cnt v + eps)) * g j + b j = ln cnt v g b j := by
  unfold ln
  rw [div_sqrt]
  exact lt_of_lt_of_le eps_pos (le_add_of_nonneg_left (var_nonneg hc v))

/-! ## The activation -/

/-- The activation, by the hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-! ## The recurrence -/

/-- The state of the recurrence before step `t`, from zero. -/
def st (a : EReal) (u : ℕ → EReal) : ℕ → EReal
  | 0 => 0
  | t + 1 => a * st a u t + u t

/-- The doubling form: after `r` rounds. -/
def dbl (a : EReal) (u : ℕ → EReal) : ℕ → ℕ → EReal
  | 0 => u
  | r + 1 => fun t => dbl a u r t + a ^ 2 ^ r * (if 2 ^ r ≤ t then dbl a u r (t - 2 ^ r) else 0)

/-- The sum of the last `n` inputs, decayed. -/
def tail (a : EReal) (u : ℕ → EReal) (n t : ℕ) : EReal := ∑ j ∈ Finset.range n, a ^ j * (if j ≤ t then u (t - j) else 0)

/-- A power of a decay is a real, not negative. -/
theorem pow_decay {a : EReal} (h0 : 0 ≤ a) (h1 : a ≠ ⊤) (m : ℕ) : 0 ≤ a ^ m ∧ a ^ m ≠ ⊤ := by
  lift a to ℝ using ⟨h1, (lt_of_lt_of_le EReal.bot_lt_zero h0).ne'⟩
  rw [← EReal.coe_pow]
  exact ⟨EReal.coe_nonneg.mpr (pow_nonneg (EReal.coe_nonneg.mp h0) m), EReal.coe_ne_top _⟩

/-- A decay goes through a sum. -/
theorem decay_sum {a : EReal} (h0 : 0 ≤ a) (h1 : a ≠ ⊤) (f : ℕ → EReal) (n : ℕ) :
    a * ∑ j ∈ Finset.range n, f j = ∑ j ∈ Finset.range n, a * f j := by
  induction n with
  | zero => simp
  | succ n ih => rw [Finset.sum_range_succ, Finset.sum_range_succ, EReal.left_distrib_of_nonneg_of_ne_top h0 h1, ih]

/-- Two tails side by side. -/
theorem tail_add {a : EReal} (h0 : 0 ≤ a) (h1 : a ≠ ⊤) (u : ℕ → EReal) (m n t : ℕ) :
    tail a u (m + n) t = tail a u m t + a ^ m * (if m ≤ t then tail a u n (t - m) else 0) := by
  unfold tail
  rw [Finset.sum_range_add]
  congr 1
  split
  · rename_i hmt
    rw [decay_sum (pow_decay h0 h1 m).1 (pow_decay h0 h1 m).2]
    refine Finset.sum_congr rfl fun j _ => ?_
    rw [pow_add, mul_assoc]
    by_cases hj : j ≤ t - m
    · rw [if_pos (by omega), if_pos hj, Nat.sub_sub]
    · rw [if_neg (by omega), if_neg hj]
  · rename_i hmt
    rw [mul_zero]
    refine Finset.sum_eq_zero fun j _ => ?_
    rw [if_neg (by omega), mul_zero]

/-- The doubling form is a tail. -/
theorem dbl_eq {a : EReal} (h0 : 0 ≤ a) (h1 : a ≠ ⊤) (u : ℕ → EReal) (r t : ℕ) : dbl a u r t = tail a u (2 ^ r) t := by
  induction r generalizing t with
  | zero => simp [dbl, tail]
  | succ r ih =>
    rw [pow_succ, mul_two, tail_add h0 h1, dbl]
    simp only [ih]

/-- The recurrence is a tail that reaches back to the start. -/
theorem st_eq {a : EReal} (h0 : 0 ≤ a) (h1 : a ≠ ⊤) (u : ℕ → EReal) (t : ℕ) : ∀ n, t < n → st a u (t + 1) = tail a u n t := by
  induction t with
  | zero =>
    intro n hn
    obtain ⟨k, rfl⟩ : ∃ k, n = 1 + k := ⟨n - 1, by omega⟩
    rw [tail_add h0 h1]
    simp [st, tail]
  | succ t ih =>
    intro n hn
    obtain ⟨k, rfl⟩ : ∃ k, n = 1 + k := ⟨n - 1, by omega⟩
    rw [tail_add h0 h1, st, ih k (by omega)]
    simp [tail, add_comm]

/-- Eleven doublings are the recurrence on 2048 steps. -/
theorem dbl_st {a : EReal} (h0 : 0 ≤ a) (h1 : a ≠ ⊤) (u : ℕ → EReal) (t : ℕ) (ht : t < 2048) : dbl a u 11 t = st a u (t + 1) := by
  rw [dbl_eq h0 h1, st_eq h0 h1 u t (2 ^ 11) (by norm_num; exact ht)]

/-- The recurrence reads only the steps before. -/
theorem st_congr (a : EReal) {u v : ℕ → EReal} (t : ℕ) (h : ∀ s < t, u s = v s) : st a u t = st a v t := by
  induction t with
  | zero => rfl
  | succ t ih => rw [st, st, ih fun s hs => h s (by omega), h t (by omega)]

/-- The doubling form reads only the steps so far. -/
theorem dbl_congr (a : EReal) {u v : ℕ → EReal} (N : ℕ) (h : ∀ s < N, u s = v s) (r : ℕ) : ∀ t < N, dbl a u r t = dbl a v r t := by
  induction r with
  | zero => exact h
  | succ r ih =>
    intro t ht
    show dbl a u r t + _ = dbl a v r t + _
    rw [ih t ht]
    split
    · rw [ih _ (lt_of_le_of_lt (Nat.sub_le _ _) ht)]
    · rfl

/-! ## A layer -/

/-- One layer's weights. -/
structure LW where
  ga : Fin 512 → EReal
  ba : Fin 512 → EReal
  A : Fin 64 → EReal
  Bm : Fin 512 → Fin 64 → EReal
  Cf : Fin 64 → Fin 512 → EReal
  Cb : Fin 64 → Fin 512 → EReal
  D : Fin 512 → EReal
  gf : Fin 512 → EReal
  bf : Fin 512 → EReal
  W1 : Fin 512 → Fin 1024 → EReal
  b1 : Fin 1024 → EReal
  W2 : Fin 1024 → Fin 512 → EReal
  b2 : Fin 512 → EReal

/-- A column of a sequence of rows, zero past its end. -/
def col {n : ℕ} (u : Fin 2048 → Fin n → EReal) (k : Fin n) (t : ℕ) : EReal := if h : t < 2048 then u ⟨t, h⟩ k else 0

/-- The projected rows. -/
def proj {m n : ℕ} (z : Fin 2048 → Fin m → EReal) (w : Fin m → Fin n → EReal) (t : Fin 2048) (k : Fin n) : EReal := ∑ i, z t i * w i k

/-- The recurrence from the front. -/
def fwd (a : Fin 64 → EReal) (u : Fin 2048 → Fin 64 → EReal) (t : Fin 2048) (n : Fin 64) : EReal := st (a n) (col u n) (t.val + 1)

/-- The recurrence from the back. -/
def bwd (a : Fin 64 → EReal) (u : Fin 2048 → Fin 64 → EReal) (t : Fin 2048) (n : Fin 64) : EReal :=
  st (a n) (fun s => col u n (2047 - s)) (2047 - t.val + 1)

/-- The state-space sum of normalised rows. -/
def mix (p : LW) (z : Fin 2048 → Fin 512 → EReal) (t : Fin 2048) (j : Fin 512) : EReal :=
  proj (fwd p.A (proj z p.Bm)) p.Cf t j + proj (bwd p.A (proj z p.Bm)) p.Cb t j + z t j * p.D j

/-- The normalised rows. -/
def lnRows {n : ℕ} (cnt : BitVec 32) (g b : Fin n → EReal) (h : Fin 2048 → Fin n → EReal) (t : Fin 2048) : Fin n → EReal := ln cnt (h t) g b

/-- The first half of a layer. -/
def half (p : LW) (mask : Fin 2048 → EReal) (h : Fin 2048 → Fin 512 → EReal) (t : Fin 2048) (j : Fin 512) : EReal :=
  h t j + gelu (mix p (lnRows 0x44000000#32 p.ga p.ba h) t j) * mask t

/-- The feed-forward sum of normalised rows. -/
def ff (p : LW) (z : Fin 2048 → Fin 512 → EReal) (t : Fin 2048) (j : Fin 512) : EReal :=
  proj (fun t i => gelu (proj z p.W1 t i + p.b1 i)) p.W2 t j + p.b2 j

/-- The second half of a layer. -/
def rest (p : LW) (mask : Fin 2048 → EReal) (h : Fin 2048 → Fin 512 → EReal) (t : Fin 2048) (j : Fin 512) : EReal :=
  h t j + ff p (lnRows 0x44000000#32 p.gf p.bf h) t j * mask t

/-- A layer. -/
def layer (p : LW) (mask : Fin 2048 → EReal) (h : Fin 2048 → Fin 512 → EReal) : Fin 2048 → Fin 512 → EReal := rest p mask (half p mask h)

/-- Row `k` of a stack of vectors. -/
def vecAt {n : ℕ} (X : FVec Ideal ⟨2, ![6, n]⟩ .f32) (k : ℕ) (j : Fin n) : EReal := X (ix2 ⟨k % 6, Nat.mod_lt _ (by norm_num)⟩ j)

/-- Matrix `k` of a stack of matrices. -/
def matAt {m n : ℕ} (X : FVec Ideal ⟨3, ![6, m, n]⟩ .f32) (k : ℕ) (i : Fin m) (j : Fin n) : EReal :=
  X (ix3 ⟨k % 6, Nat.mod_lt _ (by norm_num)⟩ i j)

/-- The layers' weights, stacked. -/
structure Stacked where
  ga : FVec Ideal ⟨2, ![6, 512]⟩ .f32
  ba : FVec Ideal ⟨2, ![6, 512]⟩ .f32
  A : FVec Ideal ⟨2, ![6, 64]⟩ .f32
  Bm : FVec Ideal ⟨3, ![6, 512, 64]⟩ .f32
  Cf : FVec Ideal ⟨3, ![6, 64, 512]⟩ .f32
  Cb : FVec Ideal ⟨3, ![6, 64, 512]⟩ .f32
  D : FVec Ideal ⟨2, ![6, 512]⟩ .f32
  gf : FVec Ideal ⟨2, ![6, 512]⟩ .f32
  bf : FVec Ideal ⟨2, ![6, 512]⟩ .f32
  W1 : FVec Ideal ⟨3, ![6, 512, 1024]⟩ .f32
  b1 : FVec Ideal ⟨2, ![6, 1024]⟩ .f32
  W2 : FVec Ideal ⟨3, ![6, 1024, 512]⟩ .f32
  b2 : FVec Ideal ⟨2, ![6, 512]⟩ .f32

/-- Layer `k`'s weights. -/
def Stacked.at (s : Stacked) (k : ℕ) : LW :=
  ⟨vecAt s.ga k, vecAt s.ba k, vecAt s.A k, matAt s.Bm k, matAt s.Cf k, matAt s.Cb k, vecAt s.D k, vecAt s.gf k, vecAt s.bf k, matAt s.W1 k,
    vecAt s.b1 k, matAt s.W2 k, vecAt s.b2 k⟩

/-! ## The embedding -/

/-- The embedding's weights. -/
structure HW where
  g1 : Fin 128 → EReal
  b1 : Fin 128 → EReal
  W : Fin 128 → Fin 512 → EReal
  b : Fin 512 → EReal
  g2 : Fin 512 → EReal
  b2 : Fin 512 → EReal
  pos : Fin 2048 → Fin 512 → EReal

/-- The rows before the second normalisation. -/
def emb (p : HW) (mask : Fin 2048 → EReal) (x : Fin 2048 → Fin 128 → EReal) (t : Fin 2048) (j : Fin 512) : EReal :=
  proj (lnRows 0x43000000#32 p.g1 p.b1 fun t d => x t d * mask t) p.W t j + p.b j

/-- The embedded rows. -/
def head (p : HW) (mask : Fin 2048 → EReal) (x : Fin 2048 → Fin 128 → EReal) (t : Fin 2048) (j : Fin 512) : EReal :=
  (lnRows 0x44000000#32 p.g2 p.b2 (emb p mask x) t j + p.pos t j) * mask t

/-- The embedding's weights as arrays. -/
structure Entry where
  g1 : FVec Ideal ⟨1, ![128]⟩ .f32
  b1 : FVec Ideal ⟨1, ![128]⟩ .f32
  W : FVec Ideal ⟨2, ![128, 512]⟩ .f32
  b : FVec Ideal ⟨1, ![512]⟩ .f32
  g2 : FVec Ideal ⟨1, ![512]⟩ .f32
  b2 : FVec Ideal ⟨1, ![512]⟩ .f32
  pos : FVec Ideal ⟨3, ![1, 2048, 512]⟩ .f32

/-- A vector's entries. -/
def ent {n : ℕ} (X : FVec Ideal ⟨1, ![n]⟩ .f32) (k : Fin n) : EReal := X (ix1 k)

/-- A matrix's entries. -/
def mat {m n : ℕ} (X : FVec Ideal ⟨2, ![m, n]⟩ .f32) (i : Fin m) (k : Fin n) : EReal := X (ix2 i k)

/-- One batch element's rows. -/
def slab {m n : ℕ} (X : FVec Ideal ⟨3, ![16, m, n]⟩ .f32) (b : Fin 16) (t : Fin m) (k : Fin n) : EReal := X (ix3 b t k)

/-- The embedding's weights' entries. -/
def Entry.ents (e : Entry) : HW :=
  ⟨ent e.g1, ent e.b1, mat e.W, ent e.b, ent e.g2, ent e.b2, fun t j => e.pos (ix3 0 t j)⟩

/-- The mask of the valid rows. -/
def valid (len : BitVec 32) (t : Fin 2048) : EReal := (FloatOps.uitofp .f32 (IntOp.cmpi .slt (BitVec.ofNat 32 t.val) len) : Ideal .f32)

/-- The rows before layer `k`. -/
def state (p : HW) (s : ℕ → LW) (mask : Fin 2048 → EReal) (x : Fin 2048 → Fin 128 → EReal) : ℕ → Fin 2048 → Fin 512 → EReal
  | 0 => head p mask x
  | k + 1 => layer (s k) mask (state p s mask x k)

/-- One batch element's final rows. -/
def final (x : FVec Ideal ⟨3, ![16, 2048, 128]⟩ .f32) (len : IVec ⟨1, ![16]⟩ 32) (e : Entry) (s : Stacked) (b : Fin 16) : Fin 2048 → Fin 512 → EReal :=
  state e.ents s.at (valid (len (ix1 b))) (slab x b) 6

end Cert.Spec

end
-- ==== Proof.KerScan.lean ====
/- The kernel's scan by doubling strides, read over the extended reals. -/
module

public import proofs.«01_k».proof.Proof.Gen.KernelIdeal.Skeleton
public import proofs.«01_k».proof.Proof.Spec
public import Idealize.ShloMosaic.Lib.Pointwise.IndexVar

@[expose] public section

set_option maxRecDepth 16384

noncomputable section

namespace Cert.KernelIdeal.Val

open Idealize.ShloMosaic Cert.Spec Cert.KernelIdeal.Gen

/-- The rows after `r` rounds from the front. -/
def Fwd (r : ℕ) (a : Fin 64 → EReal) (u : Fin 2048 → Fin 64 → EReal) (Y : FVec Ideal S2048x64 .f32) : Prop :=
  ∀ t n, Y (ix2 t n) = dbl (a n) (col u n) r t.val

/-- The rows after `r` rounds from the back. -/
def Bwd (r : ℕ) (a : Fin 64 → EReal) (u : Fin 2048 → Fin 64 → EReal) (Y : FVec Ideal S2048x64 .f32) : Prop :=
  ∀ t n, Y (ix2 t n) = dbl (a n) (fun s => col u n (2047 - s)) r (2047 - t.val)

/-- The decay after `r` rounds. -/
def Pow (r : ℕ) (a : Fin 64 → EReal) (D : FVec Ideal S1x64 .f32) : Prop := ∀ n, D (ix2 0 n) = a n ^ 2 ^ r

/-- A block of zeros. -/
def Zero {s : ℕ} (Z : FVec Ideal ⟨2, ![s, 64]⟩ .f32) : Prop := ∀ t n, Z (ix2 t n) = 0

/-- Squaring the decay is one more round. -/
theorem Pow.next {r : ℕ} {a : Fin 64 → EReal} {D : FVec Ideal S1x64 .f32} (h : Pow r a D) : Pow (r + 1) a (mulf D D) := by
  intro n
  have e : mulf D D (ix2 0 n) = D (ix2 0 n) * D (ix2 0 n) := rfl
  rw [e, h n, ← pow_add, pow_succ, Nat.mul_two]

/-- A doubling step is one more round from the front. -/
theorem Fwd.next {r q : ℕ} {a : Fin 64 → EReal} {u : Fin 2048 → Fin 64 → EReal} {Y : FVec Ideal S2048x64 .f32} {D : FVec Ideal S1x64 .f32}
    (s : ℕ) {Z : FVec Ideal ⟨2, ![s, 64]⟩ .f32}
    (hs : s = 2 ^ r) (hsum : q + s = 2048) (h : Fwd r a u Y) (hd : Pow r a D) (hz : Zero Z) (hb : S1x64.Broadcasts S2048x64)
    (hq : S2048x64.Slices ![0, 0] ⟨2, ![q, 64]⟩) (hc : Shape.Concatenates [⟨2, ![s, 64]⟩, ⟨2, ![q, 64]⟩] S2048x64 0) :
    Fwd (r + 1) a u (addf Y (mulf (broadcastTo S2048x64 D hb)
      (concatenate S2048x64 0 [⟨⟨2, ![s, 64]⟩, Z⟩, ⟨⟨2, ![q, 64]⟩, extractStridedSlice ⟨2, ![q, 64]⟩ ![0, 0] Y hq⟩] hc))) := by
  intro t n
  pointwise
  rw [h t n, hd n, dbl]
  congr 2
  by_cases e : t.val < s
  · have c : ¬ 2 ^ r ≤ t.val := by omega
    rw [dif_pos e, if_neg c]
    exact hz _ _
  · have c : 2 ^ r ≤ t.val := by omega
    rw [dif_neg e, if_pos c, ← hs]
    exact h _ _

/-- A doubling step is one more round from the back. -/
theorem Bwd.next {r q : ℕ} {a : Fin 64 → EReal} {u : Fin 2048 → Fin 64 → EReal} {Y : FVec Ideal S2048x64 .f32} {D : FVec Ideal S1x64 .f32}
    (s : ℕ) {Z : FVec Ideal ⟨2, ![s, 64]⟩ .f32}
    (hs : s = 2 ^ r) (hsum : q + s = 2048) (h : Bwd r a u Y) (hd : Pow r a D) (hz : Zero Z) (hb : S1x64.Broadcasts S2048x64)
    (hq : S2048x64.Slices ![s, 0] ⟨2, ![q, 64]⟩) (hc : Shape.Concatenates [⟨2, ![q, 64]⟩, ⟨2, ![s, 64]⟩] S2048x64 0) :
    Bwd (r + 1) a u (addf Y (mulf (broadcastTo S2048x64 D hb)
      (concatenate S2048x64 0 [⟨⟨2, ![q, 64]⟩, extractStridedSlice ⟨2, ![q, 64]⟩ ![s, 0] Y hq⟩, ⟨⟨2, ![s, 64]⟩, Z⟩] hc))) := by
  intro t n
  pointwise
  rw [h t n, hd n, dbl]
  congr 2
  by_cases e : t.val < q
  · have c : 2 ^ r ≤ 2047 - t.val := by omega
    have e' : 2047 - t.val - s = 2047 - (s + t.val) := by omega
    rw [dif_pos e, if_pos c, ← hs, e']
    exact h _ _
  · have c : ¬ 2 ^ r ≤ 2047 - t.val := by omega
    rw [dif_neg e, if_neg c]
    exact hz _ _

/-! ## The payloads -/

/-- The entries of a matrix of rows. -/
def rows {m n : ℕ} (X : FVec Ideal ⟨2, ![m, n]⟩ .f32) (t : Fin m) (k : Fin n) : EReal := X (ix2 t k)

/-- The entries of a vector under a unit axis. -/
def row1 {n : ℕ} (X : FVec Ideal ⟨2, ![1, n]⟩ .f32) (k : Fin n) : EReal := X (ix2 0 k)

/-- The entries of a vector under two unit axes. -/
def row2 {n : ℕ} (X : FVec Ideal ⟨3, ![1, 1, n]⟩ .f32) (k : Fin n) : EReal := X (ix3 0 0 k)

/-- The entries of a matrix under a unit axis. -/
def rows1 {m n : ℕ} (X : FVec Ideal ⟨3, ![1, m, n]⟩ .f32) (t : Fin m) (k : Fin n) : EReal := X (ix3 0 t k)

/-- The block of 1 rows of padding is zero. -/
theorem zero1 : Zero (s := 1) (k0_pay12 (F := Ideal)) := by intro t n; pointwise [k0_pay12]
/-- The block of 2 rows of padding is zero. -/
theorem zero2 : Zero (s := 2) (k0_pay14 (F := Ideal)) := by intro t n; pointwise [k0_pay14]
/-- The block of 4 rows of padding is zero. -/
theorem zero4 : Zero (s := 4) (k0_pay16 (F := Ideal)) := by intro t n; pointwise [k0_pay16]
/-- The block of 8 rows of padding is zero. -/
theorem zero8 : Zero (s := 8) (k0_pay18 (F := Ideal)) := by intro t n; pointwise [k0_pay18]
/-- The block of 16 rows of padding is zero. -/
theorem zero16 : Zero (s := 16) (k0_pay22 (F := Ideal) (Scalar.ofBits .f32 0x00000000#32)) := by intro t n; pointwise [k0_pay22]
/-- The block of 32 rows of padding is zero. -/
theorem zero32 : Zero (s := 32) (k0_pay24 (F := Ideal)) := by intro t n; pointwise [k0_pay24]
/-- The block of 64 rows of padding is zero. -/
theorem zero64 : Zero (s := 64) (k0_pay26 (F := Ideal)) := by intro t n; pointwise [k0_pay26]
/-- The block of 128 rows of padding is zero. -/
theorem zero128 : Zero (s := 128) (k0_pay28 (F := Ideal)) := by intro t n; pointwise [k0_pay28]
/-- The block of 256 rows of padding is zero. -/
theorem zero256 : Zero (s := 256) (k0_pay31 (F := Ideal)) := by intro t n; pointwise [k0_pay31]
/-- The block of 512 rows of padding is zero. -/
theorem zero512 : Zero (s := 512) (broadcast S512x64 (Scalar.ofBits .f32 0x00000000#32 : Ideal .f32)) := by intro t n; pointwise
/-- The block of 1024 rows of padding is zero. -/
theorem zero1024 : Zero (s := 1024) (broadcast S1024x64 (Scalar.ofBits .f32 0x00000000#32 : Ideal .f32)) := by intro t n; pointwise

/-- The scan's input is the projected rows. -/
theorem input (v35 : FVec Ideal S2048x512 .f32) (v37 : FVec Ideal S512x64 .f32) : rows (k0_pay10 (F := Ideal) v35 v37) = proj (rows v35) (rows v37) := by
  funext t n
  pointwise [k0_pay10, rows, proj]

/-- No rounds from the front leave the rows. -/
theorem fwd0 {Y : FVec Ideal S2048x64 .f32} (a : Fin 64 → EReal) : Fwd 0 a (rows Y) Y := fun t n => (dif_pos (c := t.val < 2048) t.isLt : col (rows Y) n t.val = rows Y t n).symm

/-- No rounds from the back leave the rows. -/
theorem bwd0 {Y : FVec Ideal S2048x64 .f32} (a : Fin 64 → EReal) : Bwd 0 a (rows Y) Y := fun t n => by
  have e : 2047 - (2047 - t.val) = t.val := by omega
  show _ = col (rows Y) n (2047 - (2047 - t.val))
  rw [e]
  exact (dif_pos (c := t.val < 2048) t.isLt : col (rows Y) n t.val = rows Y t n).symm

section
variable (v35 : FVec Ideal S2048x512 .f32) (v37 : FVec Ideal S512x64 .f32) (v39 : FVec Ideal S1x1x64 .f32)

/-- The decay after no rounds. -/
theorem pow0 : Pow 0 (row2 v39) (k0_pay11 (F := Ideal) v39) := by
  intro n
  rw [pow_zero, pow_one]
  pointwise [k0_pay11, row2]

/-- The decay after one round. -/
theorem pow1 : Pow 1 (row2 v39) (k0_pay13 (F := Ideal) v39) := (pow0 v39).next
/-- The decay after two rounds. -/
theorem pow2 : Pow 2 (row2 v39) (k0_pay15 (F := Ideal) v39) := (pow1 v39).next
/-- The decay after three rounds. -/
theorem pow3 : Pow 3 (row2 v39) (k0_pay17 (F := Ideal) v39) := (pow2 v39).next
/-- The decay after four rounds. -/
theorem pow4 : Pow 4 (row2 v39) (k0_pay21 (F := Ideal) v39) := (pow3 v39).next

/-- The rows after four rounds from the front. -/
theorem fwd4 : Fwd 4 (row2 v39) (proj (rows v35) (rows v37)) (k0_pay19 (F := Ideal) v35 v37 v39) := by
  rw [← input]
  exact Fwd.next 8 rfl rfl (Fwd.next 4 rfl rfl (Fwd.next 2 rfl rfl (Fwd.next 1 rfl rfl (fwd0 _) (pow0 v39) zero1 _ _ _) (pow1 v39) zero2 _ _ _)
    (pow2 v39) zero4 _ _ _) (pow3 v39) zero8 _ _ _

/-- The rows after four rounds from the back. -/
theorem bwd4 : Bwd 4 (row2 v39) (proj (rows v35) (rows v37)) (k0_pay20 (F := Ideal) v35 v37 v39) := by
  rw [← input]
  exact Bwd.next 8 rfl rfl (Bwd.next 4 rfl rfl (Bwd.next 2 rfl rfl (Bwd.next 1 rfl rfl (bwd0 _) (pow0 v39) zero1 _ _ _) (pow1 v39) zero2 _ _ _)
    (pow2 v39) zero4 _ _ _) (pow3 v39) zero8 _ _ _
end

section
variable {a : Fin 64 → EReal} {u : Fin 2048 → Fin 64 → EReal} {v82 v87 : FVec Ideal S2048x64 .f32} {v88 : FVec Ideal S1x64 .f32}

/-- The decay after five rounds. -/
theorem pow5 (h : Pow 4 a v88) : Pow 5 a (k0_pay23 (F := Ideal) v88) := h.next
/-- The decay after six rounds. -/
theorem pow6 (h : Pow 4 a v88) : Pow 6 a (k0_pay25 (F := Ideal) v88) := (pow5 h).next
/-- The decay after seven rounds. -/
theorem pow7 (h : Pow 4 a v88) : Pow 7 a (k0_pay27 (F := Ideal) v88) := (pow6 h).next
/-- The decay after eight rounds. -/
theorem pow8 (h : Pow 4 a v88) : Pow 8 a (k0_pay30 (F := Ideal) v88) := (pow7 h).next

/-- The rows after nine rounds from the front. -/
theorem fwd9 (hf : Fwd 4 a u v82) (h : Pow 4 a v88) : Fwd 9 a u (k0_pay32 (F := Ideal) v82 v88 (Scalar.ofBits .f32 0x00000000#32)) :=
  Fwd.next 256 rfl rfl (Fwd.next 128 rfl rfl (Fwd.next 64 rfl rfl (Fwd.next 32 rfl rfl (Fwd.next 16 rfl rfl hf h zero16 _ _ _) (pow5 h) zero32 _ _ _)
    (pow6 h) zero64 _ _ _) (pow7 h) zero128 _ _ _) (pow8 h) zero256 _ _ _

/-- The rows after eight rounds from the back. -/
theorem bwd8 (hf : Bwd 4 a u v87) (h : Pow 4 a v88) : Bwd 8 a u (k0_pay29 (F := Ideal) v87 v88 (Scalar.ofBits .f32 0x00000000#32)) :=
  Bwd.next 128 rfl rfl (Bwd.next 64 rfl rfl (Bwd.next 32 rfl rfl (Bwd.next 16 rfl rfl hf h zero16 _ _ _) (pow5 h) zero32 _ _ _)
    (pow6 h) zero64 _ _ _) (pow7 h) zero128 _ _ _
end

end Cert.KernelIdeal.Val

end
-- ==== Proof.KerPay.lean ====
/- What the kernel stores, read over the extended reals. -/
module

public import proofs.«01_k».proof.Proof.KerScan

@[expose] public section

set_option maxRecDepth 16384

noncomputable section

namespace Cert.KernelIdeal.Val

open Idealize.ShloMosaic Cert.Spec Cert.KernelIdeal.Gen

/-! ## The mask and the embedding -/

/-- The entries of a column. -/
def colOf (m : FVec Ideal S2048x1 .f32) (t : Fin 2048) : EReal := m (ix2 t 0)

/-- The mask column holds 1 at the valid rows. -/
theorem mask_at (v1 : BitVec 32) : colOf (k0_pay5 (F := Ideal) v1) = valid v1 := by
  funext t
  pointwise [k0_pay5, valid, colOf]
  have e : ∀ b : BitVec 1, (BitVec.setWidth 32 b).toInt = (b.toNat : Int) := by decide
  show (((BitVec.setWidth 32 _).toInt : ℝ) : EReal) = ((BitVec.toNat _ : ℝ) : EReal)
  rw [e]
  rfl

/-- The rows before the second normalisation. -/
theorem embed_at (v6 : FVec Ideal S2048x1 .f32) (x : FVec Ideal S1x2048x128 .f32) (g b : FVec Ideal S1x128 .f32) (W : FVec Ideal S128x512 .f32)
    (c : FVec Ideal S1x512 .f32) :
    rows (k0_pay2 (F := Ideal) v6 x g b W c)
      = fun t j => proj (lnRows 0x43000000#32 (row1 g) (row1 b) fun t d => rows1 x t d * colOf v6 t) (rows W) t j + row1 c j := by
  funext t j
  pointwise [k0_pay2, rows, rows1, row1, proj, lnRows, ln, dev, var, mean, eps, colOf]

/-- The embedded rows: normalised, the positions added, masked. -/
theorem start_at (v1 : BitVec 32) (e : FVec Ideal S2048x512 .f32) (g b : FVec Ideal S1x512 .f32) (p : FVec Ideal S1x2048x512 .f32) :
    rows1 (k0_pay6 (F := Ideal) v1 e (k0_pay3 g) (k0_pay4 b) p)
      = fun t j => (lnRows 0x44000000#32 (row1 g) (row1 b) (rows e) t j + rows1 p t j) * valid v1 t := by
  funext t j
  rw [← mask_at]
  pointwise [k0_pay6, k0_pay3, k0_pay4, rows, rows1, row1, lnRows, ln, dev, var, mean, eps, colOf]

/-! ## A layer -/

/-- The block of rows without its unit axis. -/
theorem rows_at (h : FVec Ideal S1x2048x512 .f32) : rows (k0_pay7 (F := Ideal) h) = rows1 h := by
  funext t j
  pointwise [k0_pay7, rows, rows1]

/-- The normalised rows. -/
theorem ln_at (h : FVec Ideal S1x2048x512 .f32) (g b : FVec Ideal S1x1x512 .f32) :
    rows (k0_pay8 (F := Ideal) h g b) = lnRows 0x44000000#32 (row2 g) (row2 b) (rows1 h) := by
  funext t j
  pointwise [k0_pay8, k0_pay7, rows, rows1, row2, lnRows, ln, dev, var, mean, eps]

/-- The input matrix without its unit axis. -/
theorem in_at (w : FVec Ideal S1x512x64 .f32) : rows (k0_pay9 (F := Ideal) w) = rows1 w := by
  funext t j
  pointwise [k0_pay9, rows, rows1]

/-- Two scans side by side times the two stacked matrices is the sum of the two products. -/
theorem pair_at (X Y : FVec Ideal S2048x64 .f32) (C : FVec Ideal S1x128x512 .f32) (t : Fin 2048) (j : Fin 512) :
    matmul (φ₁ := .f32) (φ₂ := .f32) dot_S2048x128_S128x512_S2048x512_1_0_0_1_n_n none
        (concatenate S2048x128 1 [⟨S2048x64, X⟩, ⟨S2048x64, Y⟩] concatenates_S2048x64_S2048x64_S2048x128_d1)
        (shapeCast S128x512 C shapeCasts_S1x128x512_S128x512) (constant S2048x512 .f32 0x00000000#32) (ix2 t j)
      = proj (rows X) (fun i j => C (ix3 0 ⟨i.val, by omega⟩ j)) t j + proj (rows Y) (fun i j => C (ix3 0 ⟨64 + i.val, by omega⟩ j)) t j := by
  pointwise [proj, rows]

/-- Eleven rounds from the front are the scan from the front. -/
theorem fwd11 {a : Fin 64 → EReal} {u : Fin 2048 → Fin 64 → EReal} {Y : FVec Ideal S2048x64 .f32} (h : Fwd 11 a u Y)
    (h0 : ∀ n, 0 ≤ a n) (h1 : ∀ n, a n ≠ ⊤) : rows Y = fwd a u := by
  funext t n
  exact (h t n).trans (dbl_st (h0 n) (h1 n) _ _ t.isLt)

/-- Eleven rounds from the back are the scan from the back. -/
theorem bwd11 {a : Fin 64 → EReal} {u : Fin 2048 → Fin 64 → EReal} {Y : FVec Ideal S2048x64 .f32} (h : Bwd 11 a u Y)
    (h0 : ∀ n, 0 ≤ a n) (h1 : ∀ n, a n ≠ ⊤) : rows Y = bwd a u := by
  funext t n
  exact (h t n).trans (dbl_st (h0 n) (h1 n) _ _ (by omega))

/-- The scan's rows projected, as the kernel forms them. -/
def mixPay (z : FVec Ideal S2048x512 .f32) (w : FVec Ideal S512x64 .f32) (A : FVec Ideal S1x1x64 .f32) (C : FVec Ideal S1x128x512 .f32)
    (D : FVec Ideal S1x1x512 .f32) : FVec Ideal S2048x512 .f32 :=
  k0_pay34 z (k0_pay29 (k0_pay20 z w A) (k0_pay21 A) (Scalar.ofBits .f32 0x00000000#32)) (k0_pay30 (k0_pay21 A))
    (k0_pay32 (k0_pay19 z w A) (k0_pay21 A) (Scalar.ofBits .f32 0x00000000#32))
    (k0_pay33 (k0_pay20 z w A) (k0_pay21 A) (Scalar.ofBits .f32 0x00000000#32)) C D

/-- The mixed rows are the specification's. -/
theorem mix_at (z : FVec Ideal S2048x512 .f32) (w : FVec Ideal S512x64 .f32) (A : FVec Ideal S1x1x64 .f32) (C : FVec Ideal S1x128x512 .f32)
    (D : FVec Ideal S1x1x512 .f32) (h0 : ∀ n, 0 ≤ row2 A n) (h1 : ∀ n, row2 A n ≠ ⊤) (t : Fin 2048) (j : Fin 512) :
    rows (mixPay z w A C D) t j
      = proj (fwd (row2 A) (proj (rows z) (rows w))) (fun i j => C (ix3 0 ⟨i.val, by omega⟩ j)) t j
        + proj (bwd (row2 A) (proj (rows z) (rows w))) (fun i j => C (ix3 0 ⟨64 + i.val, by omega⟩ j)) t j + rows z t j * row2 D j := by
  have p4 := pow4 A
  have f11 := fwd11 (Fwd.next 1024 rfl rfl (Fwd.next 512 rfl rfl (fwd9 (fwd4 z w A) p4) (pow8 p4).next zero512 broadcasts_S1x64_S2048x64
    slices_S2048x64_o0_0_S1536x64 concatenates_S512x64_S1536x64_S2048x64_d0) (pow8 p4).next.next zero1024 broadcasts_S1x64_S2048x64
    slices_S2048x64_o0_0_S1024x64 concatenates_S1024x64_S1024x64_S2048x64_d0) h0 h1
  have b11 := bwd11 (Bwd.next 1024 rfl rfl (Bwd.next 512 rfl rfl (Bwd.next 256 rfl rfl (bwd8 (bwd4 z w A) p4) (pow8 p4) zero256 broadcasts_S1x64_S2048x64
    slices_S2048x64_o256_0_S1792x64 concatenates_S1792x64_S256x64_S2048x64_d0) (pow8 p4).next zero512 broadcasts_S1x64_S2048x64
    slices_S2048x64_o512_0_S1536x64 concatenates_S1536x64_S512x64_S2048x64_d0) (pow8 p4).next.next zero1024 broadcasts_S1x64_S2048x64
    slices_S2048x64_o1024_0_S1024x64 concatenates_S1024x64_S1024x64_S2048x64_d0) h0 h1
  have d : broadcastTo S2048x512 (shapeCast S1x512 D shapeCasts_S1x1x512_S1x512) broadcasts_S1x512_S2048x512 (ix2 t j) = row2 D j := by
    pointwise [row2]
  rw [← f11, ← b11, ← pair_at, ← d]
  rfl

/-- The rows after the first half of a layer. -/
theorem half_at (v6 : FVec Ideal S2048x1 .f32) (h m : FVec Ideal S2048x512 .f32) (t : Fin 2048) (j : Fin 512) :
    rows h t j + gelu (rows m t j) * colOf v6 t
      = rows (k0_pay37 (F := Ideal) v6 h m (addf (broadcast S2048x512 (Scalar.ofBits .f32 0x3F800000#32)) (tanh (mulf (broadcast S2048x512 (Scalar.ofBits .f32 0x3F4C422A#32)) (addf m (mulf (broadcast S2048x512 (Scalar.ofBits .f32 0x3D372713#32)) (mulf m (mulf m m))))))) k0_pay36) t j := by
  pointwise [k0_pay37, k0_pay36, rows, gelu, colOf]

/-- The hidden rows of the second half, before its last product. -/
theorem ff1_at (v6 : FVec Ideal S2048x1 .f32) (a b c d : FVec Ideal S2048x512 .f32) (g β : FVec Ideal S1x1x512 .f32) (W : FVec Ideal S1x512x1024 .f32)
    (e : FVec Ideal S1x1x1024 .f32) (t : Fin 2048) (i : Fin 1024) :
    rows (k0_pay38 (F := Ideal) v6 a b c d g β W e) t i
      = proj (lnRows 0x44000000#32 (row2 g) (row2 β) (rows (k0_pay37 (F := Ideal) v6 a b c d))) (rows1 W) t i + row2 e i := by
  rw [k0_pay38]
  generalize k0_pay37 v6 a b c d = X
  pointwise [rows, rows1, row2, proj, lnRows, ln, dev, var, mean, eps]

/-- The rows after the second half of a layer. -/
theorem ff2_at (v6 : FVec Ideal S2048x1 .f32) (h : FVec Ideal S2048x512 .f32) (f : FVec Ideal S2048x1024 .f32) (W : FVec Ideal S1x1024x512 .f32)
    (e : FVec Ideal S1x1x512 .f32) (t : Fin 2048) (j : Fin 512) :
    rows1 (k0_pay1 (F := Ideal) v6 h f (addf f (mulf (broadcast S2048x1024 (Scalar.ofBits .f32 0x3D372713#32)) (mulf f (mulf f f)))) W e) t j
      = rows h t j + (proj (fun t i => gelu (rows f t i)) (rows1 W) t j + row2 e j) * colOf v6 t := by
  pointwise [k0_pay1, rows, rows1, row2, proj, gelu, colOf]

/-- What a point stores, from the rows before its layer and the layer's blocks. -/
def outPay (v1 : BitVec 32) (h : FVec Ideal S1x2048x512 .f32) (ga ba : FVec Ideal S1x1x512 .f32) (A : FVec Ideal S1x1x64 .f32)
    (Bm : FVec Ideal S1x512x64 .f32) (C : FVec Ideal S1x128x512 .f32) (D gf bf : FVec Ideal S1x1x512 .f32) (W1 : FVec Ideal S1x512x1024 .f32)
    (b1 : FVec Ideal S1x1x1024 .f32) (W2 : FVec Ideal S1x1024x512 .f32) (b2 : FVec Ideal S1x1x512 .f32) : FVec Ideal S1x2048x512 .f32 :=
  let z := k0_pay8 h ga ba
  let w := k0_pay9 Bm
  let x := mixPay z w A C D
  let y := k0_pay35 z (k0_pay29 (k0_pay20 z w A) (k0_pay21 A) (Scalar.ofBits .f32 0x00000000#32)) (k0_pay30 (k0_pay21 A))
    (k0_pay32 (k0_pay19 z w A) (k0_pay21 A) (Scalar.ofBits .f32 0x00000000#32))
    (k0_pay33 (k0_pay20 z w A) (k0_pay21 A) (Scalar.ofBits .f32 0x00000000#32)) C D
  k0_pay1 (k0_pay5 v1) (k0_pay37 (k0_pay5 v1) (k0_pay7 h) x y k0_pay36) (k0_pay38 (k0_pay5 v1) (k0_pay7 h) x y k0_pay36 gf bf W1 b1)
    (k0_pay39 (k0_pay5 v1) (k0_pay7 h) x y k0_pay36 gf bf W1 b1) W2 b2

/-- A layer's weights, read from its blocks. -/
def blkW (ga ba : FVec Ideal S1x1x512 .f32) (A : FVec Ideal S1x1x64 .f32)
    (Bm : FVec Ideal S1x512x64 .f32) (C : FVec Ideal S1x128x512 .f32) (D gf bf : FVec Ideal S1x1x512 .f32) (W1 : FVec Ideal S1x512x1024 .f32)
    (b1 : FVec Ideal S1x1x1024 .f32) (W2 : FVec Ideal S1x1024x512 .f32) (b2 : FVec Ideal S1x1x512 .f32) : LW :=
  ⟨row2 ga, row2 ba, row2 A, rows1 Bm, fun i j => C (ix3 0 ⟨i.val, by omega⟩ j), fun i j => C (ix3 0 ⟨64 + i.val, by omega⟩ j), row2 D, row2 gf, row2 bf,
    rows1 W1, row2 b1, rows1 W2, row2 b2⟩

/-- What a point stores is its layer of the rows it found. -/
theorem out_at (v1 : BitVec 32) (h : FVec Ideal S1x2048x512 .f32) (ga ba : FVec Ideal S1x1x512 .f32) (A : FVec Ideal S1x1x64 .f32)
    (Bm : FVec Ideal S1x512x64 .f32) (C : FVec Ideal S1x128x512 .f32) (D gf bf : FVec Ideal S1x1x512 .f32) (W1 : FVec Ideal S1x512x1024 .f32)
    (b1 : FVec Ideal S1x1x1024 .f32) (W2 : FVec Ideal S1x1024x512 .f32) (b2 : FVec Ideal S1x1x512 .f32)
    (h0 : ∀ n, 0 ≤ row2 A n) (h1 : ∀ n, row2 A n ≠ ⊤) :
    rows1 (outPay v1 h ga ba A Bm C D gf bf W1 b1 W2 b2) = layer (blkW ga ba A Bm C D gf bf W1 b1 W2 b2) (valid v1) (rows1 h) := by
  have e1 : rows (mixPay (k0_pay8 h ga ba) (k0_pay9 Bm) A C D)
      = mix (blkW ga ba A Bm C D gf bf W1 b1 W2 b2) (lnRows 0x44000000#32 (row2 ga) (row2 ba) (rows1 h)) := by
    funext t j
    rw [mix_at _ _ _ _ _ h0 h1, ln_at, in_at]
    rfl
  have e2 : rows (k0_pay37 (k0_pay5 v1) (k0_pay7 h) (mixPay (k0_pay8 h ga ba) (k0_pay9 Bm) A C D)
      (k0_pay35 (k0_pay8 h ga ba) (k0_pay29 (k0_pay20 (k0_pay8 h ga ba) (k0_pay9 Bm) A) (k0_pay21 A) (Scalar.ofBits .f32 0x00000000#32)) (k0_pay30 (k0_pay21 A))
        (k0_pay32 (k0_pay19 (k0_pay8 h ga ba) (k0_pay9 Bm) A) (k0_pay21 A) (Scalar.ofBits .f32 0x00000000#32))
        (k0_pay33 (k0_pay20 (k0_pay8 h ga ba) (k0_pay9 Bm) A) (k0_pay21 A) (Scalar.ofBits .f32 0x00000000#32)) C D) k0_pay36)
      = half (blkW ga ba A Bm C D gf bf W1 b1 W2 b2) (valid v1) (rows1 h) := by
    funext t j
    refine (half_at _ _ _ t j).symm.trans ?_
    rw [e1, rows_at, mask_at]
    rfl
  funext t j
  refine (ff2_at _ _ _ _ _ t j).trans ?_
  rw [e2, mask_at]
  have e3 := fun t i => ff1_at (k0_pay5 v1) (k0_pay7 h) (mixPay (k0_pay8 h ga ba) (k0_pay9 Bm) A C D)
      (k0_pay35 (k0_pay8 h ga ba) (k0_pay29 (k0_pay20 (k0_pay8 h ga ba) (k0_pay9 Bm) A) (k0_pay21 A) (Scalar.ofBits .f32 0x00000000#32)) (k0_pay30 (k0_pay21 A))
        (k0_pay32 (k0_pay19 (k0_pay8 h ga ba) (k0_pay9 Bm) A) (k0_pay21 A) (Scalar.ofBits .f32 0x00000000#32))
        (k0_pay33 (k0_pay20 (k0_pay8 h ga ba) (k0_pay9 Bm) A) (k0_pay21 A) (Scalar.ofBits .f32 0x00000000#32)) C D) k0_pay36 gf bf W1 b1 t i
  simp only [e3, e2]
  rfl

/-- The rows a batch element's first point stores before its layer. -/
def startPay (v1 : BitVec 32) (x : FVec Ideal S1x2048x128 .f32) (p : FVec Ideal S1x2048x512 .f32) (W : FVec Ideal S128x512 .f32) (c : FVec Ideal S1x512 .f32)
    (g b : FVec Ideal S1x128 .f32) (g' b' : FVec Ideal S1x512 .f32) : FVec Ideal S1x2048x512 .f32 :=
  k0_pay6 v1 (k0_pay2 (k0_pay5 v1) x g b W c) (k0_pay3 g') (k0_pay4 b') p

/-- The first point's rows before its layer are the embedded rows. -/
theorem head_at (v1 : BitVec 32) (x : FVec Ideal S1x2048x128 .f32) (p : FVec Ideal S1x2048x512 .f32) (W : FVec Ideal S128x512 .f32) (c : FVec Ideal S1x512 .f32)
    (g b : FVec Ideal S1x128 .f32) (g' b' : FVec Ideal S1x512 .f32) :
    rows1 (startPay v1 x p W c g b g' b') = head ⟨row1 g, row1 b, rows W, row1 c, row1 g', row1 b', rows1 p⟩ (valid v1) (rows1 x) := by
  rw [startPay, start_at, embed_at, mask_at]
  rfl

end Cert.KernelIdeal.Val

end
-- ==== Proof.KerBlocks.lean ====
/- The kernel's blocks at a point, read off the arguments. -/
module

public import proofs.«01_k».proof.Proof.Gen.KernelIdeal.Frame
public import proofs.«01_k».proof.Proof.KerPay
public import Idealize.ShloMosaic.Lib.Pipeline.ValueKit
public import Idealize.ShloMosaic.Lib.Pipeline.ReadBack

@[expose] public section

set_option maxRecDepth 16384

noncomputable section

namespace Cert.KernelIdeal.Val

open Idealize.ShloMosaic Cert.Spec Cert.KernelIdeal Cert.KernelIdeal.Gen Idealize.SL.Sem Idealize.ShloMosaic.TcCoe

variable (m : (ℓ : Loc nD τ sig) → Buf (Elt Ideal) ℓ) (c : Dev nD) (t : Fin cfg0.N)

/-- The windows that a batch element moves. -/
theorem idxB : ∀ t : Fin cfg0.N, win0_1.index t = ![t.val / 6, 0, 0] ∧ win0_21.index t = ![t.val / 6, 0, 0] := by decide +kernel

/-- The windows that never move. -/
theorem idxC : ∀ t : Fin cfg0.N, win0_2.index t = ![0, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_0.index t = ![0] := by decide +kernel

/-- The windows that a layer moves. -/
theorem idxL : ∀ t : Fin cfg0.N, win0_9.index t = ![t.val % 6, 0, 0] ∧ win0_10.index t = ![t.val % 6, 0, 0] ∧ win0_11.index t = ![t.val % 6, 0, 0]
    ∧ win0_12.index t = ![t.val % 6, 0, 0] ∧ win0_13.index t = ![t.val % 6, 0, 0] ∧ win0_14.index t = ![t.val % 6, 0, 0] := by decide +kernel

/-- The windows that a layer moves, the rest. -/
theorem idxL' : ∀ t : Fin cfg0.N, win0_15.index t = ![t.val % 6, 0, 0] ∧ win0_16.index t = ![t.val % 6, 0, 0] ∧ win0_17.index t = ![t.val % 6, 0, 0]
    ∧ win0_18.index t = ![t.val % 6, 0, 0] ∧ win0_19.index t = ![t.val % 6, 0, 0] ∧ win0_20.index t = ![t.val % 6, 0, 0] := by decide +kernel

/-- A point's batch element is one of the 16. -/
theorem point_lt : t.val / 6 < 16 := by have h : t.val < grid0.N := t.isLt; simp only [N_0] at h; omega

/-- A point's batch element. -/
def elt : Fin 16 := ⟨t.val / 6, point_lt t⟩

/-- The layers' weights among the arguments. -/
def stackK : Stacked :=
  ⟨m ((c : Thread nD τ).loc main_arg9), m ((c : Thread nD τ).loc main_arg10), m ((c : Thread nD τ).loc main_arg11), m ((c : Thread nD τ).loc main_arg12),
    m ((c : Thread nD τ).loc main_arg13), m ((c : Thread nD τ).loc main_arg14), m ((c : Thread nD τ).loc main_arg15), m ((c : Thread nD τ).loc main_arg16),
    m ((c : Thread nD τ).loc main_arg17), m ((c : Thread nD τ).loc main_arg18), m ((c : Thread nD τ).loc main_arg19), m ((c : Thread nD τ).loc main_arg20),
    m ((c : Thread nD τ).loc main_arg21)⟩

/-- The embedding's weights among the arguments. -/
def entryK : Entry :=
  ⟨m ((c : Thread nD τ).loc main_arg2), m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8)⟩

/-- The rows among the arguments. -/
def xK : FVec Ideal S16x2048x128 .f32 := m ((c : Thread nD τ).loc main_arg0)

/-- The lengths among the arguments. -/
def lenK : IVec S16 32 := m ((c : Thread nD τ).loc main_arg1)

/-- The rows' block is the batch element's rows. -/
theorem blk1 : rows1 (m := 2048) (n := 128) (iblk m c 1 t) = slab (xK m c) (elt t) := by
  funext r d
  rw [rows1, slab, xK, elt]
  blk_ext [iblk, V, (idxB t).1]

/-- The positions' block is the positions. -/
theorem blk2 : rows1 (m := 2048) (n := 512) (iblk m c 2 t) = (entryK m c).ents.pos := by
  funext r d
  rw [rows1]
  show _ = m ((c : Thread nD τ).loc main_arg8) (ix3 0 r d)
  blk_ext [iblk, V, (idxC t).1]

/-- The projection's block is the projection. -/
theorem blk3 : rows (m := 128) (n := 512) (iblk m c 3 t) = (entryK m c).ents.W := by
  funext r d
  rw [rows]
  show _ = m ((c : Thread nD τ).loc main_arg4) (ix2 r d)
  blk_ext [iblk, V, idxC t]

/-- The bias's block is the bias. -/
theorem blk4 : row1 (n := 512) (iblk m c 4 t) = (entryK m c).ents.b := by
  funext d
  rw [row1]
  show _ = m ((c : Thread nD τ).loc main_arg5) (ix1 d)
  blk_point [iblk, V, idxC t]

/-- The first scale's block is the first scale. -/
theorem blk5 : row1 (n := 128) (iblk m c 5 t) = (entryK m c).ents.g1 := by
  funext d
  rw [row1]
  show _ = m ((c : Thread nD τ).loc main_arg2) (ix1 d)
  blk_point [iblk, V, idxC t]

/-- The first shift's block is the first shift. -/
theorem blk6 : row1 (n := 128) (iblk m c 6 t) = (entryK m c).ents.b1 := by
  funext d
  rw [row1]
  show _ = m ((c : Thread nD τ).loc main_arg3) (ix1 d)
  blk_point [iblk, V, idxC t]

/-- The second scale's block is the second scale. -/
theorem blk7 : row1 (n := 512) (iblk m c 7 t) = (entryK m c).ents.g2 := by
  funext d
  rw [row1]
  show _ = m ((c : Thread nD τ).loc main_arg6) (ix1 d)
  blk_point [iblk, V, idxC t]

/-- The second shift's block is the second shift. -/
theorem blk8 : row1 (n := 512) (iblk m c 8 t) = (entryK m c).ents.b2 := by
  funext d
  rw [row1]
  show _ = m ((c : Thread nD τ).loc main_arg7) (ix1 d)
  blk_point [iblk, V, idxC t]

/-- Block 9 is the layer's vector. -/
theorem blk9 : row2 (n := 512) (iblk m c 9 t) = vecAt (stackK m c).ga (t.val % 6) := by
  funext d
  rw [row2, vecAt]
  show _ = m ((c : Thread nD τ).loc main_arg9) (ix2 _ d)
  blk_point [iblk, V, idxL t]

/-- Block 10 is the layer's vector. -/
theorem blk10 : row2 (n := 512) (iblk m c 10 t) = vecAt (stackK m c).ba (t.val % 6) := by
  funext d
  rw [row2, vecAt]
  show _ = m ((c : Thread nD τ).loc main_arg10) (ix2 _ d)
  blk_point [iblk, V, idxL t]

/-- Block 11 is the layer's vector. -/
theorem blk11 : row2 (n := 64) (iblk m c 11 t) = vecAt (stackK m c).A (t.val % 6) := by
  funext d
  rw [row2, vecAt]
  show _ = m ((c : Thread nD τ).loc main_arg11) (ix2 _ d)
  blk_point [iblk, V, idxL t]

/-- Block 14 is the layer's vector. -/
theorem blk14 : row2 (n := 512) (iblk m c 14 t) = vecAt (stackK m c).D (t.val % 6) := by
  funext d
  rw [row2, vecAt]
  show _ = m ((c : Thread nD τ).loc main_arg15) (ix2 _ d)
  blk_point [iblk, V, idxL t]

/-- Block 15 is the layer's vector. -/
theorem blk15 : row2 (n := 512) (iblk m c 15 t) = vecAt (stackK m c).gf (t.val % 6) := by
  funext d
  rw [row2, vecAt]
  show _ = m ((c : Thread nD τ).loc main_arg16) (ix2 _ d)
  blk_point [iblk, V, idxL' t]

/-- Block 16 is the layer's vector. -/
theorem blk16 : row2 (n := 512) (iblk m c 16 t) = vecAt (stackK m c).bf (t.val % 6) := by
  funext d
  rw [row2, vecAt]
  show _ = m ((c : Thread nD τ).loc main_arg17) (ix2 _ d)
  blk_point [iblk, V, idxL' t]

/-- Block 18 is the layer's vector. -/
theorem blk18 : row2 (n := 1024) (iblk m c 18 t) = vecAt (stackK m c).b1 (t.val % 6) := by
  funext d
  rw [row2, vecAt]
  show _ = m ((c : Thread nD τ).loc main_arg19) (ix2 _ d)
  blk_point [iblk, V, idxL' t]

/-- Block 20 is the layer's vector. -/
theorem blk20 : row2 (n := 512) (iblk m c 20 t) = vecAt (stackK m c).b2 (t.val % 6) := by
  funext d
  rw [row2, vecAt]
  show _ = m ((c : Thread nD τ).loc main_arg21) (ix2 _ d)
  blk_point [iblk, V, idxL' t]

/-- Block 12 is the layer's matrix. -/
theorem blk12 : rows1 (m := 512) (n := 64) (iblk m c 12 t) = matAt (stackK m c).Bm (t.val % 6) := by
  funext r d
  rw [rows1, matAt]
  show _ = m ((c : Thread nD τ).loc main_arg12) (ix3 _ r d)
  blk_ext [iblk, V, idxL t]

/-- Block 17 is the layer's matrix. -/
theorem blk17 : rows1 (m := 512) (n := 1024) (iblk m c 17 t) = matAt (stackK m c).W1 (t.val % 6) := by
  funext r d
  rw [rows1, matAt]
  show _ = m ((c : Thread nD τ).loc main_arg18) (ix3 _ r d)
  blk_ext [iblk, V, idxL' t]

/-- Block 19 is the layer's matrix. -/
theorem blk19 : rows1 (m := 1024) (n := 512) (iblk m c 19 t) = matAt (stackK m c).W2 (t.val % 6) := by
  funext r d
  rw [rows1, matAt]
  show _ = m ((c : Thread nD τ).loc main_arg20) (ix3 _ r d)
  blk_ext [iblk, V, idxL' t]

/-- The length the body reads at a point. -/
def lenAt : BitVec 32 :=
  View.ld (iblk m c 0 t : IVec S16 32) (Rect.unit (k0_off1 (grid0.coords t)) ![1] (Gen.k0_off1_inb (grid0.coords t))) (Shape.Idx.first (show 0 < S1.numel by decide +kernel))

end Cert.KernelIdeal.Val

end
-- ==== Proof.KerCat.lean ====
/- The kernel's concatenated weights and its length at a point. -/
module

public import proofs.«01_k».proof.Proof.KerBlocks

@[expose] public section

set_option maxRecDepth 16384

noncomputable section

namespace Cert.KernelIdeal.Val

open Idealize.ShloMosaic Cert.Spec Cert.KernelIdeal Cert.KernelIdeal.Gen Idealize.SL.Sem Idealize.ShloMosaic.TcCoe

variable (m : (ℓ : Loc nD τ sig) → Buf (Elt Ideal) ℓ) (c : Dev nD) (t : Fin cfg0.N)

/-- The concatenated stacks. -/
theorem cat_at (l : Fin 6) (i : Fin 128) (j : Fin 512) : (V m c main_v0 : FVec Ideal S6x128x512 .f32) (ix3 l i j)
    = if h : i.val < 64 then (stackK m c).Cf (ix3 l ⟨i.val, h⟩ j) else (stackK m c).Cb (ix3 l ⟨i.val - 64, by omega⟩ j) := by
  entry_read
  pointwise
  rfl

/-- The index the body reads the lengths at is the batch element. -/
theorem lenIdx : ∀ t : Fin cfg0.N, ((Rect.unit (s := S16) (k0_off1 (grid0.coords t)) ![1] (Gen.k0_off1_inb (grid0.coords t))).idx
    (Shape.Idx.first (show 0 < S1.numel by decide +kernel)) 0).val = t.val / 6 := by
  decide +kernel

/-- The lengths' block is the lengths. -/
theorem blk0 (k : Fin 16) : (iblk m c 0 t : IVec S16 32) (ix1 k) = lenK m c (ix1 k) := by
  rw [lenK]
  blk_ext [iblk, V, idxC t]

/-- The length read at a point is its batch element's. -/
theorem lenAt_eq : lenAt m c t = lenK m c (ix1 (elt t)) := by
  rw [← blk0 m c t (elt t), lenAt]
  refine congrArg (iblk m c 0 t : IVec S16 32) (funext fun a => ?_)
  match a with
  | ⟨0, _⟩ => exact Fin.ext (lenIdx t)

/-- Block 13 is the layer's rows of the concatenated stacks. -/
theorem blk13 (i : Fin 128) (j : Fin 512) : (iblk m c 13 t : FVec Ideal S1x128x512 .f32) (ix3 0 i j)
    = (V m c main_v0 : FVec Ideal S6x128x512 .f32) (ix3 ⟨t.val % 6, Nat.mod_lt _ (by norm_num)⟩ i j) := by
  blk_ext! [iblk, idxL t]

/-- The first half of block 13 is the layer's forward matrix. -/
theorem blk13f : (fun (i : Fin 64) (j : Fin 512) => (iblk m c 13 t : FVec Ideal S1x128x512 .f32) (ix3 0 ⟨i.val, by omega⟩ j))
    = matAt (stackK m c).Cf (t.val % 6) := by
  funext i j
  rw [blk13, cat_at, dif_pos i.isLt, matAt]
  congr 2
  exact Fin.ext (Nat.mod_mod _ _).symm

/-- The second half of block 13 is the layer's backward matrix. -/
theorem blk13b : (fun (i : Fin 64) (j : Fin 512) => (iblk m c 13 t : FVec Ideal S1x128x512 .f32) (ix3 0 ⟨64 + i.val, by omega⟩ j))
    = matAt (stackK m c).Cb (t.val % 6) := by
  funext i j
  rw [blk13, cat_at, dif_neg (by simp), matAt]
  congr 2
  · exact Fin.ext (Nat.mod_mod _ _).symm
  · exact Fin.ext (Nat.add_sub_cancel_left _ _)

/-- A point's weights are its layer's. -/
theorem blkW_eq : blkW (iblk m c 9 t) (iblk m c 10 t) (iblk m c 11 t) (iblk m c 12 t) (iblk m c 13 t) (iblk m c 14 t) (iblk m c 15 t)
    (iblk m c 16 t) (iblk m c 17 t) (iblk m c 18 t) (iblk m c 19 t) (iblk m c 20 t) = (stackK m c).at (t.val % 6) := by
  rw [blkW, blk9, blk10, blk11, blk12, blk13f, blk13b, blk14, blk15, blk16, blk17, blk18, blk19, blk20, Stacked.at]

/-- The embedding's weights at a point are the embedding's. -/
theorem headW_eq : (⟨row1 (iblk m c 5 t), row1 (iblk m c 6 t), rows (iblk m c 3 t), row1 (iblk m c 4 t), row1 (iblk m c 7 t), row1 (iblk m c 8 t),
    rows1 (iblk m c 2 t)⟩ : HW) = (entryK m c).ents := by
  rw [blk5, blk6, blk3, blk4, blk7, blk8, blk2]

end Cert.KernelIdeal.Val

end
-- ==== Proof.KerStep.lean ====
/- The kernel's output block at a point. -/
module

public import proofs.«01_k».proof.Proof.KerBlocks

@[expose] public section

set_option maxRecDepth 16384

noncomputable section

namespace Cert.KernelIdeal.Val

open Idealize.ShloMosaic Cert.Spec Cert.KernelIdeal Cert.KernelIdeal.Gen Idealize.SL.Sem Idealize.ShloMosaic.TcCoe

variable (m : (ℓ : Loc nD τ sig) → Buf (Elt Ideal) ℓ) (c : Dev nD) (t : Fin cfg0.N)

/-- The output block after a batch element's first point: its layer over the embedded rows. -/
theorem stepA (h0 : t.val % 6 = 0) : outsAt0 m c t.val t.isLt
    = outPay (lenAt m c t) (startPay (lenAt m c t) (iblk m c 1 t) (iblk m c 2 t) (iblk m c 3 t) (iblk m c 4 t) (iblk m c 5 t) (iblk m c 6 t)
        (iblk m c 7 t) (iblk m c 8 t)) (iblk m c 9 t) (iblk m c 10 t) (iblk m c 11 t) (iblk m c 12 t) (iblk m c 13 t) (iblk m c 14 t) (iblk m c 15 t)
      (iblk m c 16 t) (iblk m c 17 t) (iblk m c 18 t) (iblk m c 19 t) (iblk m c 20 t) := by
  rw [outsAt0_A m c t h0]
  frame_out
  rfl

/-- The output block after a later point: its layer over the block the point before left. -/
theorem stepB (h0 : ¬ t.val % 6 = 0) : outsAt0 m c t.val t.isLt
    = outPay (lenAt m c t) (outsAt0 m c (t.val - 1) (Nat.lt_of_le_of_lt (Nat.sub_le _ _) t.isLt)) (iblk m c 9 t) (iblk m c 10 t) (iblk m c 11 t)
      (iblk m c 12 t) (iblk m c 13 t) (iblk m c 14 t) (iblk m c 15 t) (iblk m c 16 t) (iblk m c 17 t) (iblk m c 18 t) (iblk m c 19 t) (iblk m c 20 t) := by
  rw [outsAt0_B m c t h0]
  frame_out
  rfl

end Cert.KernelIdeal.Val

end
-- ==== Proof.KerValue.lean ====
/- The kernel's result. -/
module

public import proofs.«01_k».proof.Proof.KerCat
public import proofs.«01_k».proof.Proof.KerStep

@[expose] public section

set_option maxRecDepth 16384

noncomputable section

namespace Cert.KernelIdeal.Val

open Idealize.ShloMosaic Cert.Spec Cert.KernelIdeal Cert.KernelIdeal.Gen Idealize.SL.Sem Idealize.ShloMosaic.TcCoe

variable (m : (ℓ : Loc nD τ sig) → Buf (Elt Ideal) ℓ) (c : Dev nD)

/-- The decays are non-negative and finite. -/
def Decays (X : FVec Ideal ⟨2, ![6, 64]⟩ .f32) : Prop := ∀ l n, 0 ≤ X (ix2 l n) ∧ X (ix2 l n) ≠ ⊤

/-- The rows a batch element has after `k` layers. -/
def rowsAfter (b : Fin 16) (k : ℕ) : Fin 2048 → Fin 512 → EReal :=
  state (entryK m c).ents (stackK m c).at (valid (lenK m c (ix1 b))) (slab (xK m c) b) k

variable (hd : Decays (stackK m c).A)

include hd in
/-- A point's layer takes the rows it is given to its layer's rows. -/
theorem layer_at (t : Fin cfg0.N) (h : FVec Ideal S1x2048x512 .f32) : rows1 (outPay (lenAt m c t) h (iblk m c 9 t) (iblk m c 10 t) (iblk m c 11 t)
      (iblk m c 12 t) (iblk m c 13 t) (iblk m c 14 t) (iblk m c 15 t) (iblk m c 16 t) (iblk m c 17 t) (iblk m c 18 t) (iblk m c 19 t) (iblk m c 20 t))
    = layer ((stackK m c).at (t.val % 6)) (valid (lenK m c (ix1 (elt t)))) (rows1 h) := by
  rw [out_at, blkW_eq, lenAt_eq]
  · intro n
    rw [blk11]
    exact (hd _ n).1
  · intro n
    rw [blk11]
    exact (hd _ n).2

include hd in
/-- The output block after a point. -/
theorem block_at : ∀ (n : ℕ) (h : n < cfg0.N), rows1 (m := 2048) (n := 512) (outsAt0 m c n h) = rowsAfter m c (elt ⟨n, h⟩) (n % 6 + 1) := by
  intro n
  induction n with
  | zero =>
    intro h
    rw [stepA m c ⟨0, h⟩ rfl, layer_at m c hd, head_at, headW_eq, lenAt_eq, blk1]
    rfl
  | succ n ih =>
    intro h
    by_cases h0 : (n + 1) % 6 = 0
    · rw [stepA m c ⟨n + 1, h⟩ h0, layer_at m c hd, head_at, headW_eq, lenAt_eq, blk1]
      simp only [h0]
      rfl
    · have e : elt ⟨n, Nat.lt_of_succ_lt h⟩ = elt ⟨n + 1, h⟩ := Fin.ext (by simp only [elt]; omega)
      rw [stepB m c ⟨n + 1, h⟩ h0, layer_at m c hd]
      have := ih (Nat.lt_of_succ_lt h)
      rw [e, show n % 6 + 1 = (n + 1) % 6 by omega] at this
      refine (congrArg _ this).trans ?_
      rfl

/-- The kernel's result as one array. -/
def result : FVec Ideal S16x2048x512 .f32 := fun i => final (xK m c) (lenK m c) (entryK m c) (stackK m c) (i 0) (i 1) (i 2)

include hd in
/-- The output array after the run. -/
theorem arr_eq : (dats m 0 c).arrAt 21 cfg0.N = (result m c : S16x2048x512.Idx → EReal) := by
  refine (dats m 0 c).arrAt_eq_of_covers 21 _ (by decide +kernel) fun t hf y => ?_
  have hq : t.val % 6 = 5 := flush0_21 t |>.mp hf
  blk_simp
  rw [after0_21]
  have key : ∀ (r : Fin 2048) (d : Fin 512), outsAt0 m c t.val t.isLt (ix3 0 r d) = result m c ((win0_21.blk t).view.emb (ix3 0 r d)) := by
    intro r d
    have e : ∀ X : FVec Ideal S16x2048x512 .f32, X ((win0_21.blk t).view.emb (ix3 0 r d)) = X (ix3 (elt t) r d) := by
      intro X
      blk_ext! [elt, idxB t]
    rw [e (result m c)]
    refine (congrFun (congrFun (block_at m c hd t.val t.isLt) r) d).trans ?_
    rw [hq]
    rfl
  have ey : y = (ix3 0 (y 1) (y 2) : S1x2048x512.Idx) := by
    funext a
    match a with
    | ⟨0, _⟩ => exact Subsingleton.elim (α := Fin 1) _ _
    | ⟨1, _⟩ => rfl
    | ⟨2, _⟩ => rfl
  rw [ey]
  exact key _ _

end Cert.KernelIdeal.Val

end
-- ==== Proof.Decay.lean ====
/- What the precondition says of the decays. -/
module

public import proofs.«01_k».proof.Defs
public import proofs.«01_k».proof.Proof.KerValue
public import Idealize.ShloMosaic.Lib.ReduceAll

@[expose] public section

set_option maxRecDepth 16384

noncomputable section

namespace Cert.Pre_decay

open Idealize.ShloMosaic Cert.Spec Idealize.SL.Sem

/-- The bit pattern of the upper bound is infinity. -/
theorem ofBits_inf : (FloatOps.ofBits .f32 0x7F800000#32 : Ideal .f32) = (⊤ : EReal) := by
  show Ideal.ieee 8 23 (0x7F800000#32 : BitVec 32) = ⊤
  have e1 : ((0x7F800000#32 : BitVec 32).extractLsb' 23 8).toNat = 2 ^ 8 - 1 := by decide +kernel
  have e2 : ((0x7F800000#32 : BitVec 32).extractLsb' 0 23).toNat = 0 := by decide +kernel
  have e3 : ((0x7F800000#32 : BitVec 32).extractLsb' (8 + 23) 1 == 1#1) = false := by decide +kernel
  unfold Ideal.ieee
  simp only [e1, e2, e3, if_true, Bool.false_eq_true, if_false]

variable [Facts]

/-- The precondition at one index of the decays. -/
theorem decays_at (X : FVec Ideal S6x64 .f32) (j : S_.Idx)
    (h : Host.reduce IntOp.andi (andi (cmpf .oge X (broadcastInDim S6x64 ![] Facts.bcast_S_S6x64 (constant S_ .f32 0x00000000#32)))
      (cmpf .olt X (broadcastInDim S6x64 ![] Facts.bcast_S_S6x64 (constant S_ .f32 0x7F800000#32)))) (constantI S_ 1 1#1)
      Facts.reducesTo_S6x64_S_d0_1 Facts.h_S_ j = 1#1) : Cert.KernelIdeal.Val.Decays X := by
  intro l n
  haveI : Subsingleton S_.Idx := ⟨fun a b => funext fun i => i.elim0⟩
  obtain ⟨h1, h2⟩ := IntOp.andi_eq_one.1 (Host.reduce_andi_all _ _ _ _ j h (ix2 l n))
  have g1 : BitVec.ofBool (decide ((FloatOps.ofBits .f32 0x00000000#32 : Ideal .f32) ≤ X (ix2 l n))) = 1#1 := h1
  have g2 : BitVec.ofBool (decide (X (ix2 l n) < (FloatOps.ofBits .f32 0x7F800000#32 : Ideal .f32))) = 1#1 := h2
  have z : (FloatOps.ofBits .f32 0x00000000#32 : Ideal .f32) = (0 : EReal) := Ideal.ofBits_zero_f32
  rw [z] at g1
  rw [ofBits_inf] at g2
  constructor
  · by_contra hn
    rw [decide_eq_false hn] at g1
    exact absurd g1 (by decide)
  · intro hn
    rw [hn, decide_eq_false (lt_irrefl _)] at g2
    exact absurd g2 (by decide)

/-- The precondition makes every device's decays non-negative and finite. -/
theorem decays (m : (ℓ : Loc Cert.KernelIdeal.nD Cert.KernelIdeal.τ Cert.KernelIdeal.sig) → Buf (Elt Ideal) ℓ) (h : Pre_KernelIdeal_decay m)
    (c : Dev Cert.KernelIdeal.nD) : Cert.KernelIdeal.Val.Decays (Cert.KernelIdeal.Val.stackK m c).A := by
  have e := congrFun (h c) (fun i => i.elim0)
  exact decays_at _ _ e

end Cert.Pre_decay

end
-- ==== Proof.Frag.lean ====
/- Fragments of the reference program: a list of @main's items with the total function they compute on the buffers, the
   equation their results satisfy, and the interval of buffer numbers they write. Two fragments one after the other are
   one again, so a function's body is one fragment however often it is called. -/
module

public import proofs.«01_k».proof.ReferenceIdeal
public import proofs.«01_k».proof.Proof.Gen.ReferenceIdeal
public import Idealize.ShloMosaic.Lib.StableHlo.RunLoop

@[expose] public section

noncomputable section

namespace Cert.ReferenceIdeal.Frags

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs sub_ucRefs)
open TcCoe

variable {F : FTy → Type} [FloatOps F] [Facts]

/-- The buffers of one device. -/
abbrev Bufs (F : FTy → Type) [FloatOps F] : Type := Valuation τ sig (Elt F)

/-- An item of the program. -/
abbrev Item (F : FTy → Type) [FloatOps F] : Type 1 :=
  Prog (TpuEff nD τ sig (Elt F) (HostLoop.Sig (Pipeline.Sig Λ₀ (Fin 0) fun p => (pcfgs (F := F) p).Adm) 12) .tc) PUnit

/-- The number of a buffer among the signature's. -/
abbrev key (r : Ref sig .tc) : ℕ := r.idx.val

/-- No pipeline is admitted: there is none. -/
abbrev noAdm : (p : Fin 0) → (pcfgs (F := F) p).Adm := fun p => p.elim0
/-- No ticket: there is none. -/
abbrev noTk : Fin 0 → Ticket (Ix := Unit) (Name := ℕ) (U := Option PUnit) (Lvl := ℕ) (nD := nD) (τ := τ) (pcfgs (F := F)) noAdm :=
  fun j => j.elim0
/-- No cell is indexed. -/
abbrev noIx : GSem nD τ sig → Finset Unit := fun _ => ∅
/-- Every level is zero. -/
abbrev zeroLv : GSem nD τ sig → Unit → ℕ := fun _ _ => 0

local notation "𝕄" => MT nD τ sig Unit (Elt F) ℕ (Option PUnit) ℕ

/-- What rides beside the buffers: that the core owes nothing. -/
abbrev Rest (c : Dev nD) : sProp 𝕄 := iprop(∃ W, owes (c : Thread nD τ) (0 : CellTallies nD τ sig Unit) W)

/-- The state at an item's boundary: every buffer at its contents, and nothing owed. -/
abbrev At (W : Dev nD → Bufs F) (c : Dev nD) : sProp 𝕄 :=
  iprop(held (c : Thread nD τ) (ucRefs τ sig) (W c) ∗ Rest (F := F) c)

/-- The segments the run is made of. -/
abbrev Segs (F : FTy → Type) [FloatOps F] [Facts] : Type 1 :=
  List (CSeg (pcfgs (F := F)) noAdm (defs₀ (F := F)) Variants.none noIx zeroLv (loops (F := F)) (noTk (F := F)))

/-- The items take the buffers from `W` to `W'`. -/
def Piece (ps : List (Item F)) (W W' : Dev nD → Bufs F) : Prop :=
  ∃ segs : Segs F, segs.map CSeg.prog = ps ∧ CSeg.Chains (At W) segs (At W')

/-- Items after items. -/
theorem Piece.append {ps qs : List (Item F)} {W W' W'' : Dev nD → Bufs F} (h : Piece ps W W') (h' : Piece qs W' W'') :
    Piece (ps ++ qs) W W'' := by
  obtain ⟨l, hl, hc⟩ := h
  obtain ⟨l', hl', hc'⟩ := h'
  exact ⟨l ++ l', by rw [List.map_append, hl, hl'], CSeg.Chains.append hc hc'⟩

/-- One operation. -/
theorem Piece.op (op : HloOp τ sig (Elt F)) (hs : op.bufs ⊆ tcRefs τ sig) (hf : op.fresh = ∅) (W : Dev nD → Bufs F) :
    Piece [hlo rfl op fun _ => .ret ⟨⟩] W fun c => op.result (W c) :=
  ⟨[CSeg.ofOps _ _ _ _ _ _ _ _ (ucRefs τ sig) [op] (fun o ho => by
      rw [List.mem_singleton.mp ho]; exact sub_ucRefs op hs) (fun o ho => by rw [List.mem_singleton.mp ho]; exact hf) W (Rest (F := F))],
    rfl, ⟨fun _ => .rfl, fun _ => .rfl⟩⟩

/-- A fragment. When `ok` computes to true, its items write only buffers numbered from `lo` below `hi`, run as `T` says, and
    leave buffers at which `eqn` holds for whatever keeps them. -/
structure Frag (F : FTy → Type) [FloatOps F] [Facts] where
  ps : List (Item F)
  T : Bufs F → Bufs F
  eqn : Bufs F → Prop
  lo : ℕ
  hi : ℕ
  ok : Bool
  le : ok = true → lo ≤ hi
  fr : ok = true → ∀ (V : Bufs F) (r : Ref sig .tc), (key r < lo ∨ hi ≤ key r) → T V (Proc.devRef .tc r) = V (Proc.devRef .tc r)
  heq : ok = true → ∀ V U : Bufs F, (∀ r : Ref sig .tc, key r < lo → U (Proc.devRef .tc r) = V (Proc.devRef .tc r)) →
    (∀ r : Ref sig .tc, lo ≤ key r → key r < hi → U (Proc.devRef .tc r) = T V (Proc.devRef .tc r)) → eqn U
  run : ok = true → ∀ W : Dev nD → Bufs F, Piece ps W fun c => T (W c)

namespace Frag

/-- One fragment after another. -/
def then' (f g : Frag F) : Frag F where
  ps := f.ps ++ g.ps
  T := fun V => g.T (f.T V)
  eqn := fun U => f.eqn U ∧ g.eqn U
  lo := f.lo
  hi := g.hi
  ok := f.ok && g.ok && decide (f.hi ≤ g.lo)
  le := fun h => by
    simp only [Bool.and_eq_true, decide_eq_true_eq] at h
    have := f.le h.1.1; have := g.le h.1.2; omega
  fr := fun h V r hr => by
    simp only [Bool.and_eq_true, decide_eq_true_eq] at h
    have h1 := f.le h.1.1; have h2 := g.le h.1.2; have h3 := h.2
    rw [g.fr h.1.2 _ r (by rcases hr with hr | hr; · exact Or.inl (by omega)
                           · exact Or.inr hr),
      f.fr h.1.1 _ r (by rcases hr with hr | hr; · exact Or.inl hr
                         · exact Or.inr (by omega))]
  heq := fun h V U hb hi => by
    simp only [Bool.and_eq_true, decide_eq_true_eq] at h
    have h1 := f.le h.1.1; have h2 := g.le h.1.2; have h3 := h.2
    have hf : ∀ r : Ref sig .tc, f.lo ≤ key r → key r < f.hi → U (Proc.devRef .tc r) = f.T V (Proc.devRef .tc r) := fun r ha hb' => by
      rw [hi r ha (by omega), g.fr h.1.2 _ r (Or.inl (by omega))]
    refine ⟨f.heq h.1.1 V U hb hf, g.heq h.1.2 (f.T V) U (fun r hr => ?_) (fun r ha hb' => hi r (by omega) hb')⟩
    rcases Nat.lt_or_ge (key r) f.lo with hc | hc
    · rw [hb r hc, f.fr h.1.1 _ r (Or.inl hc)]
    rcases Nat.lt_or_ge (key r) f.hi with hd | hd
    · exact hf r hc hd
    · rw [hi r hc (by omega), g.fr h.1.2 _ r (Or.inl hr)]
  run := fun h W => by
    simp only [Bool.and_eq_true, decide_eq_true_eq] at h
    exact (f.run h.1.1 W).append (g.run h.1.2 _)

/-- The fragments of a list, one after another, the last one apart. -/
def seqs : List (Frag F) → Frag F → Frag F
  | [], g => g
  | f :: fs, g => f.then' (seqs fs g)

/-- A fragment with a consequence of its equation. -/
def weaken (f : Frag F) (e : Bufs F → Prop) (h : ∀ U, f.eqn U → e U) : Frag F :=
  { f with eqn := e, heq := fun ho V U h₁ h₂ => h U (f.heq ho V U h₁ h₂) }

/-- A fragment without an equation. -/
def forget (f : Frag F) : Frag F := f.weaken (fun _ => True) fun _ _ => trivial

/-- One operation writing one buffer, its equation read off its result, `srcs` the buffers it reads. -/
def ofOp (op : HloOp τ sig (Elt F)) (y : Ref sig .tc) (hw : op.writes = {Proc.devRef .tc y}) (hs : op.bufs ⊆ tcRefs τ sig)
    (hf : op.fresh = ∅) (srcs : List (Ref sig .tc)) (e : Bufs F → Prop)
    (he : ∀ V U : Bufs F, (∀ s ∈ srcs, U (Proc.devRef .tc s) = V (Proc.devRef .tc s)) →
      U (Proc.devRef .tc y) = op.result V (Proc.devRef .tc y) → e U) : Frag F where
  ps := [hlo rfl op fun _ => .ret ⟨⟩]
  T := op.result
  eqn := e
  lo := key y
  hi := key y + 1
  ok := srcs.all fun s => decide (key s < key y)
  le := fun _ => Nat.le_succ _
  fr := fun _ V r hr => op.result_of_not_mem V fun hb => by
    rw [hw, Finset.mem_singleton] at hb
    rw [Proc.devRef_injective _ hb] at hr
    omega
  heq := fun ho V U h₁ h₂ => he V U (fun s hs => h₁ s (by simpa using List.all_eq_true.mp ho s hs)) (h₂ y (le_refl _) (Nat.lt_succ_self _))
  run := fun _ W => Piece.op op hs hf W

end Frag

/-- The contents of a typed reference's buffer. -/
def val {T : BufTy} (x : TRef sig T) (U : Bufs F) : T.Contents (Elt F) := x.ofBuf (U (Proc.devRef .tc x.ref))

variable {Tx Ta Tb Tc Ty : BufTy}

/-- A constant. -/
def nullF (y : TRef sig Ty) (v : Ty.Contents (Elt F)) : Frag F :=
  Frag.ofOp (TRef.nullary y v) y.ref rfl (nullary_bufs_sub ..) rfl [] (fun U => val y U = v) fun V U _ h => by
    unfold val; rw [h, nullary_result, TRef.ofBuf_toBuf]

/-- An operation of one operand. -/
def unF (x : TRef sig Tx) (y : TRef sig Ty) (f : Tx.Contents (Elt F) → Ty.Contents (Elt F)) : Frag F :=
  Frag.ofOp (TRef.unary x y f) y.ref rfl (unary_bufs_sub ..) rfl [x.ref] (fun U => val y U = f (val x U)) fun V U hs h => by
    unfold val; rw [h, unary_result, TRef.ofBuf_toBuf, hs _ List.mem_cons_self]

/-- An operation of two operands. -/
def binF (a : TRef sig Ta) (b : TRef sig Tb) (y : TRef sig Ty)
    (f : Ta.Contents (Elt F) → Tb.Contents (Elt F) → Ty.Contents (Elt F)) : Frag F :=
  Frag.ofOp (TRef.binary a b y f) y.ref rfl (binary_bufs_sub ..) rfl [a.ref, b.ref] (fun U => val y U = f (val a U) (val b U))
    fun V U hs h => by
      unfold val; rw [h, binary_result, TRef.ofBuf_toBuf, hs a.ref (by simp), hs b.ref (by simp)]

/-- An operation of three operands. -/
def terF (c : TRef sig Tc) (a : TRef sig Ta) (b : TRef sig Tb) (y : TRef sig Ty)
    (f : Tc.Contents (Elt F) → Ta.Contents (Elt F) → Tb.Contents (Elt F) → Ty.Contents (Elt F)) : Frag F :=
  Frag.ofOp (TRef.ternary c a b y f) y.ref rfl (ternary_bufs_sub ..) rfl [c.ref, a.ref, b.ref]
    (fun U => val y U = f (val c U) (val a U) (val b U)) fun V U hs h => by
      unfold val; rw [h, ternary_result, TRef.ofBuf_toBuf, hs c.ref (by simp), hs a.ref (by simp), hs b.ref (by simp)]

/-- A reshape. -/
def shapeF (x : TRef sig Tx) (y : TRef sig Ty) (he : Tx.elt = Ty.elt) (hn : Tx.shape.ShapeCasts Ty.shape) : Frag F :=
  Frag.ofOp (TRef.reshape x y he hn) y.ref rfl (reshape_bufs_sub ..) rfl [x.ref]
    (fun U => val y U = fun i => he ▸ shapeCast Ty.shape (val x U) hn i) fun V U hs h => by
      unfold val
      rw [h, reshape_result, hs _ List.mem_cons_self]
      obtain ⟨xr, xt, _, _⟩ := x
      obtain ⟨yr, yt, _, _⟩ := y
      subst xt; subst yt
      rfl

/-- An operation of one operand and index operands. -/
def unIxF (a : TRef sig Ta) {n : ℕ} (ix : Fin n → TRef sig Tx) (y : TRef sig Ty)
    (f : Ta.Contents (Elt F) → (Fin n → Tx.Contents (Elt F)) → Ty.Contents (Elt F)) : Frag F :=
  Frag.ofOp (TRef.unaryIndexed a ix y f) y.ref rfl (unaryIndexed_bufs_sub ..) rfl (a.ref :: List.ofFn fun k => (ix k).ref)
    (fun U => val y U = f (val a U) fun k => val (ix k) U) fun V U hs h => by
      unfold val; rw [h, unaryIndexed_result, TRef.ofBuf_toBuf, hs a.ref (by simp)]
      congr 1; funext k; rw [hs (ix k).ref (by simp [List.mem_ofFn])]

/-- An operation of two operands and index operands. -/
def binIxF (a : TRef sig Ta) (b : TRef sig Tb) {n : ℕ} (ix : Fin n → TRef sig Tx) (y : TRef sig Ty)
    (f : Ta.Contents (Elt F) → Tb.Contents (Elt F) → (Fin n → Tx.Contents (Elt F)) → Ty.Contents (Elt F)) : Frag F :=
  Frag.ofOp (TRef.binaryIndexed a b ix y f) y.ref rfl (binaryIndexed_bufs_sub ..) rfl (a.ref :: b.ref :: List.ofFn fun k => (ix k).ref)
    (fun U => val y U = f (val a U) (val b U) fun k => val (ix k) U) fun V U hs h => by
      unfold val; rw [h, binaryIndexed_result, TRef.ofBuf_toBuf, hs a.ref (by simp), hs b.ref (by simp)]
      congr 1; funext k; rw [hs (ix k).ref (by simp [List.mem_ofFn])]

end Cert.ReferenceIdeal.Frags

end
-- ==== Proof.RefNorm.lean ====
/- The reference's normalisation as one fragment, at either width, with the function it computes. -/
module

public import proofs.«01_k».proof.Proof.Frag

@[expose] public section

noncomputable section

namespace Cert.ReferenceIdeal.Frags

open Idealize.ShloMosaic Idealize.ShloMosaic.StableHlo
open Idealize.SL.Sem Facts₀ Facts

variable {F : FTy → Type} [FloatOps F] [Facts]

/-- The shape of a row tensor of width `n`. -/
abbrev Rows (n : ℕ) : Shape := ⟨3, ![16, 2048, n]⟩
/-- The shape of one vector of width `n`. -/
abbrev Vect (n : ℕ) : Shape := ⟨1, ![n]⟩
/-- The shape of one vector of width `n` under two unit axes. -/
abbrev Vect1 (n : ℕ) : Shape := ⟨3, ![1, 1, n]⟩

/-- The shape facts the operations of a normalisation of width `n` ask for. -/
structure Wide (n : ℕ) : Prop where
  red : (Rows n).ReducesTo [2] S16x2048
  col : S16x2048x1.BroadcastsInDim (Rows n) (![0, 1, 2] : Fin 3 → Fin (Rows n).rank)
  lift : (Vect n).BroadcastsInDim (Vect1 n) (![2] : Fin 1 → Fin (Vect1 n).rank)
  row : (Vect1 n).BroadcastsInDim (Rows n) (![0, 1, 2] : Fin 3 → Fin (Rows n).rank)

/-- Width 128. -/
theorem wide128 : Wide 128 :=
  ⟨reducesTo_S16x2048x128_S16x2048_d2, bcast_S16x2048x1_S16x2048x128_0_1_2, bcast_S128_S1x1x128_2, bcast_S1x1x128_S16x2048x128_0_1_2⟩
/-- Width 512. -/
theorem wide512 : Wide 512 :=
  ⟨reducesTo_S16x2048x512_S16x2048_d2, bcast_S16x2048x1_S16x2048x512_0_1_2, bcast_S512_S1x1x512_2, bcast_S1x1x512_S16x2048x512_0_1_2⟩

/-! ## The selection -/

/-- `p` chooses between the rows `a` and the one value `b`. -/
def whereFn (p : (⟨S_, .i1⟩ : BufTy).Contents (Elt F)) (a : (⟨S16x2048x1, .f32⟩ : BufTy).Contents (Elt F))
    (b : (⟨S_, .f32⟩ : BufTy).Contents (Elt F)) : (⟨S16x2048x1, .f32⟩ : BufTy).Contents (Elt F) :=
  select (broadcastInDim S16x2048x1 ![] bcast_S_S16x2048x1 p) a (broadcastInDim S16x2048x1 ![] bcast_S_S16x2048x1 b)

/-- The selection's fragment. -/
def whereF (a0 : TRef sig ⟨S_, .i1⟩) (a1 : TRef sig ⟨S16x2048x1, .f32⟩) (a2 : TRef sig ⟨S_, .f32⟩) (φ : fn_where.Bufs) : Frag F :=
  (Frag.seqs [unF a2 φ.v0 id, unF φ.v0 φ.v1 (broadcastInDim S16x2048x1 ![] bcast_S_S16x2048x1)]
    (terF a0 a1 φ.v1 φ.v2 (fun p a b => select (broadcastInDim S16x2048x1 ![] bcast_S_S16x2048x1 p) a b))).weaken
    (fun U => val φ.v2 U = whereFn (val a0 U) (val a1 U) (val a2 U)) fun U h => by
      obtain ⟨h0, h1, h2⟩ := h
      rw [show val φ.v2 U = _ from h2, show val φ.v1 U = _ from h1, show val φ.v0 U = _ from h0]
      rfl

/-- The selection's body is its fragment's items. -/
theorem whereF_prog (a0 a1 a2) (φ : fn_where.Bufs) : fn_where.body (F := F) a0 a1 a2 φ = Pipeline.chain (whereF a0 a1 a2 φ).ps := by
  chain_rfl

/-! ## The variance -/

/-- The buffers of one variance. -/
structure VarRefs (n : ℕ) where
  cst : TRef sig ⟨S_, .f32⟩
  v0 : TRef sig ⟨S16x2048, .f32⟩
  v1 : TRef sig ⟨S16x2048x1, .f32⟩
  cst_0 : TRef sig ⟨S_, .f32⟩
  v2 : TRef sig ⟨S16x2048x1, .f32⟩
  v3 : TRef sig ⟨S16x2048x1, .f32⟩
  v4 : TRef sig ⟨Rows n, .f32⟩
  v5 : TRef sig ⟨Rows n, .f32⟩
  v6 : TRef sig ⟨Rows n, .f32⟩
  v7 : TRef sig ⟨S_, .f32⟩
  cst_1 : TRef sig ⟨S_, .f32⟩
  v8 : TRef sig ⟨S_, .f32⟩
  cst_2 : TRef sig ⟨S_, .f32⟩
  v9 : TRef sig ⟨S16x2048, .f32⟩
  v10 : TRef sig ⟨S16x2048x1, .f32⟩
  v11 : TRef sig ⟨S16x2048x1, .f32⟩
  v12 : TRef sig ⟨S16x2048x1, .f32⟩
  cst_3 : TRef sig ⟨S_, .f32⟩
  v13 : TRef sig ⟨S_, .i1⟩
  cst_4 : TRef sig ⟨S_, .f32⟩
  call0 : fn_where.Bufs

/-- The mean of each row: its sum over `cnt`. -/
def meanFn {n : ℕ} (w : Wide n) (cnt : BitVec 32) (X : (⟨Rows n, .f32⟩ : BufTy).Contents (Elt F)) :
    (⟨S16x2048x1, .f32⟩ : BufTy).Contents (Elt F) :=
  Host.divf (broadcastInDim S16x2048x1 ![0, 1] bcast_S16x2048_S16x2048x1_0_1 (Host.reduceAdd X (constant S_ .f32 0x00000000#32) w.red h_S_))
    (broadcastInDim S16x2048x1 ![] bcast_S_S16x2048x1 (constant S_ .f32 cnt))

/-- The variance of each row, `k` degrees of freedom taken off the count. -/
def varFn {n : ℕ} (w : Wide n) (cnt : BitVec 32) (X : (⟨Rows n, .f32⟩ : BufTy).Contents (Elt F)) (k : (⟨S_, .i32⟩ : BufTy).Contents (Elt F)) :
    (⟨S16x2048x1, .f32⟩ : BufTy).Contents (Elt F) :=
  let d : (⟨Rows n, .f32⟩ : BufTy).Contents (Elt F) := subf X (broadcastInDim (Rows n) ![0, 1, 2] w.col (meanFn w cnt X))
  let t : (⟨S_, .f32⟩ : BufTy).Contents (Elt F) := subf (constant S_ .f32 cnt) (sitofp .f32 k)
  whereFn (cmpf .ogt t (constant S_ .f32 0x00000000#32))
    (Host.divf (broadcastInDim S16x2048x1 ![0, 1] bcast_S16x2048_S16x2048x1_0_1
        (Host.reduceAdd (mulf d d) (constant S_ .f32 0x00000000#32) w.red h_S_))
      (broadcastInDim S16x2048x1 ![] bcast_S_S16x2048x1 t))
    (constant S_ .f32 0x7FC00000#32)

/-- The variance's fragment. -/
def varF {n : ℕ} (w : Wide n) (cnt : BitVec 32) (a0 : TRef sig ⟨Rows n, .f32⟩) (a1 : TRef sig ⟨S_, .i32⟩) (φ : VarRefs n) : Frag F :=
  (Frag.seqs [nullF φ.cst (constant S_ .f32 0x00000000#32),
      binF a0 φ.cst φ.v0 (fun x v => Host.reduceAdd x v w.red h_S_),
      unF φ.v0 φ.v1 (broadcastInDim S16x2048x1 ![0, 1] bcast_S16x2048_S16x2048x1_0_1),
      nullF φ.cst_0 (constant S_ .f32 cnt),
      unF φ.cst_0 φ.v2 (broadcastInDim S16x2048x1 ![] bcast_S_S16x2048x1),
      binF φ.v1 φ.v2 φ.v3 Host.divf,
      unF φ.v3 φ.v4 (broadcastInDim (Rows n) ![0, 1, 2] w.col),
      binF a0 φ.v4 φ.v5 subf,
      binF φ.v5 φ.v5 φ.v6 mulf,
      unF a1 φ.v7 (sitofp .f32),
      nullF φ.cst_1 (constant S_ .f32 cnt),
      binF φ.cst_1 φ.v7 φ.v8 subf,
      nullF φ.cst_2 (constant S_ .f32 0x00000000#32),
      binF φ.v6 φ.cst_2 φ.v9 (fun x v => Host.reduceAdd x v w.red h_S_),
      unF φ.v9 φ.v10 (broadcastInDim S16x2048x1 ![0, 1] bcast_S16x2048_S16x2048x1_0_1),
      unF φ.v8 φ.v11 (broadcastInDim S16x2048x1 ![] bcast_S_S16x2048x1),
      binF φ.v10 φ.v11 φ.v12 Host.divf,
      nullF φ.cst_3 (constant S_ .f32 0x00000000#32),
      binF φ.v8 φ.cst_3 φ.v13 (cmpf .ogt),
      nullF φ.cst_4 (constant S_ .f32 0x7FC00000#32)]
    (whereF φ.v13 φ.v12 φ.cst_4 φ.call0)).weaken
    (fun U => val φ.call0.v2 U = varFn w cnt (val a0 U) (val a1 U)) fun U h => by
      obtain ⟨h0, h1, h2, h3, h4, h5, h6, h7, h8, h9, h10, h11, h12, h13, h14, h15, h16, h17, h18, h19, h20⟩ := h
      rw [show val φ.call0.v2 U = _ from h20, show val φ.cst_4 U = _ from h19, show val φ.v13 U = _ from h18, show val φ.cst_3 U = _ from h17,
        show val φ.v12 U = _ from h16, show val φ.v11 U = _ from h15, show val φ.v10 U = _ from h14, show val φ.v9 U = _ from h13,
        show val φ.cst_2 U = _ from h12, show val φ.v8 U = _ from h11, show val φ.cst_1 U = _ from h10, show val φ.v7 U = _ from h9,
        show val φ.v6 U = _ from h8, show val φ.v5 U = _ from h7, show val φ.v4 U = _ from h6, show val φ.v3 U = _ from h5,
        show val φ.v2 U = _ from h4, show val φ.cst_0 U = _ from h3, show val φ.v1 U = _ from h2, show val φ.v0 U = _ from h1,
        show val φ.cst U = _ from h0]
      rfl

/-- The buffers of a variance of width 128. -/
abbrev var128 (φ : fn_var.Bufs) : VarRefs 128 :=
  ⟨φ.cst, φ.v0, φ.v1, φ.cst_0, φ.v2, φ.v3, φ.v4, φ.v5, φ.v6, φ.v7, φ.cst_1, φ.v8, φ.cst_2, φ.v9, φ.v10, φ.v11, φ.v12, φ.cst_3, φ.v13, φ.cst_4, φ.call0⟩
/-- The buffers of a variance of width 512. -/
abbrev var512 (φ : fn_var_1.Bufs) : VarRefs 512 :=
  ⟨φ.cst, φ.v0, φ.v1, φ.cst_0, φ.v2, φ.v3, φ.v4, φ.v5, φ.v6, φ.v7, φ.cst_1, φ.v8, φ.cst_2, φ.v9, φ.v10, φ.v11, φ.v12, φ.cst_3, φ.v13, φ.cst_4, φ.call0⟩

/-! ## The normalisation -/

/-- The buffers of one normalisation. -/
structure LnRefs (n : ℕ) where
  cst : TRef sig ⟨S_, .f32⟩
  v0 : TRef sig ⟨S16x2048, .f32⟩
  v1 : TRef sig ⟨S16x2048x1, .f32⟩
  cst_0 : TRef sig ⟨S_, .f32⟩
  v2 : TRef sig ⟨S16x2048x1, .f32⟩
  v3 : TRef sig ⟨S16x2048x1, .f32⟩
  c : TRef sig ⟨S_, .i32⟩
  call0 : VarRefs n
  v5 : TRef sig ⟨Rows n, .f32⟩
  v6 : TRef sig ⟨Rows n, .f32⟩
  cst_1 : TRef sig ⟨S_, .f32⟩
  v7 : TRef sig ⟨S16x2048x1, .f32⟩
  v8 : TRef sig ⟨S16x2048x1, .f32⟩
  v9 : TRef sig ⟨S16x2048x1, .f32⟩
  v10 : TRef sig ⟨Rows n, .f32⟩
  v11 : TRef sig ⟨Rows n, .f32⟩
  v12 : TRef sig ⟨Vect1 n, .f32⟩
  v13 : TRef sig ⟨Rows n, .f32⟩
  v14 : TRef sig ⟨Rows n, .f32⟩
  v15 : TRef sig ⟨Vect1 n, .f32⟩
  v16 : TRef sig ⟨Rows n, .f32⟩
  v17 : TRef sig ⟨Rows n, .f32⟩

/-- A vector along every row. -/
def rowFn {n : ℕ} (w : Wide n) (g : (⟨Vect n, .f32⟩ : BufTy).Contents (Elt F)) : (⟨Rows n, .f32⟩ : BufTy).Contents (Elt F) :=
  broadcastInDim (Rows n) ![0, 1, 2] w.row (broadcastInDim (Vect1 n) ![2] w.lift g)

/-- The normalised rows, scaled by `g` and shifted by `b`. -/
def lnFn {n : ℕ} (w : Wide n) (cnt : BitVec 32) (X : (⟨Rows n, .f32⟩ : BufTy).Contents (Elt F)) (g b : (⟨Vect n, .f32⟩ : BufTy).Contents (Elt F)) :
    (⟨Rows n, .f32⟩ : BufTy).Contents (Elt F) :=
  addf (mulf (Host.divf (subf X (broadcastInDim (Rows n) ![0, 1, 2] w.col (meanFn w cnt X)))
      (broadcastInDim (Rows n) ![0, 1, 2] w.col
        (Host.sqrt (addf (varFn w cnt X (constantI S_ 32 0#32)) (broadcastInDim S16x2048x1 ![] bcast_S_S16x2048x1 (constant S_ .f32 0x3727C5AC#32))))))
    (rowFn w g)) (rowFn w b)

/-- The normalisation's fragment. -/
def lnF {n : ℕ} (w : Wide n) (cnt : BitVec 32) (a0 : TRef sig ⟨Rows n, .f32⟩) (a1 a2 : TRef sig ⟨Vect n, .f32⟩) (φ : LnRefs n) : Frag F :=
  (Frag.seqs [nullF φ.cst (constant S_ .f32 0x00000000#32),
      binF a0 φ.cst φ.v0 (fun x v => Host.reduceAdd x v w.red h_S_),
      unF φ.v0 φ.v1 (broadcastInDim S16x2048x1 ![0, 1] bcast_S16x2048_S16x2048x1_0_1),
      nullF φ.cst_0 (constant S_ .f32 cnt),
      unF φ.cst_0 φ.v2 (broadcastInDim S16x2048x1 ![] bcast_S_S16x2048x1),
      binF φ.v1 φ.v2 φ.v3 Host.divf,
      nullF φ.c (constantI S_ 32 0#32),
      varF w cnt a0 φ.c φ.call0,
      unF φ.v3 φ.v5 (broadcastInDim (Rows n) ![0, 1, 2] w.col),
      binF a0 φ.v5 φ.v6 subf,
      nullF φ.cst_1 (constant S_ .f32 0x3727C5AC#32),
      unF φ.cst_1 φ.v7 (broadcastInDim S16x2048x1 ![] bcast_S_S16x2048x1),
      binF φ.call0.call0.v2 φ.v7 φ.v8 addf,
      unF φ.v8 φ.v9 Host.sqrt,
      unF φ.v9 φ.v10 (broadcastInDim (Rows n) ![0, 1, 2] w.col),
      binF φ.v6 φ.v10 φ.v11 Host.divf,
      unF a1 φ.v12 (broadcastInDim (Vect1 n) ![2] w.lift),
      unF φ.v12 φ.v13 (broadcastInDim (Rows n) ![0, 1, 2] w.row),
      binF φ.v11 φ.v13 φ.v14 mulf,
      unF a2 φ.v15 (broadcastInDim (Vect1 n) ![2] w.lift),
      unF φ.v15 φ.v16 (broadcastInDim (Rows n) ![0, 1, 2] w.row)]
    (binF φ.v14 φ.v16 φ.v17 addf)).weaken
    (fun U => val φ.v17 U = lnFn w cnt (val a0 U) (val a1 U) (val a2 U)) fun U h => by
      obtain ⟨h0, h1, h2, h3, h4, h5, h6, h7, h8, h9, h10, h11, h12, h13, h14, h15, h16, h17, h18, h19, h20, h21⟩ := h
      rw [show val φ.v17 U = _ from h21, show val φ.v16 U = _ from h20, show val φ.v15 U = _ from h19, show val φ.v14 U = _ from h18,
        show val φ.v13 U = _ from h17, show val φ.v12 U = _ from h16, show val φ.v11 U = _ from h15, show val φ.v10 U = _ from h14,
        show val φ.v9 U = _ from h13, show val φ.v8 U = _ from h12, show val φ.v7 U = _ from h11, show val φ.cst_1 U = _ from h10,
        show val φ.v6 U = _ from h9, show val φ.v5 U = _ from h8, show val φ.call0.call0.v2 U = _ from h7, show val φ.c U = _ from h6,
        show val φ.v3 U = _ from h5, show val φ.v2 U = _ from h4, show val φ.cst_0 U = _ from h3, show val φ.v1 U = _ from h2,
        show val φ.v0 U = _ from h1, show val φ.cst U = _ from h0]
      rfl

/-- The buffers of a normalisation of width 128. -/
abbrev ln128 (φ : fn_ln.Bufs) : LnRefs 128 :=
  ⟨φ.cst, φ.v0, φ.v1, φ.cst_0, φ.v2, φ.v3, φ.c, var128 φ.call0, φ.v5, φ.v6, φ.cst_1, φ.v7, φ.v8, φ.v9, φ.v10, φ.v11, φ.v12, φ.v13, φ.v14, φ.v15, φ.v16, φ.v17⟩
/-- The buffers of the embedding's normalisation of width 512. -/
abbrev ln512 (φ : fn_ln_0.Bufs) : LnRefs 512 :=
  ⟨φ.cst, φ.v0, φ.v1, φ.cst_0, φ.v2, φ.v3, φ.c, var512 φ.call0, φ.v5, φ.v6, φ.cst_1, φ.v7, φ.v8, φ.v9, φ.v10, φ.v11, φ.v12, φ.v13, φ.v14, φ.v15, φ.v16, φ.v17⟩
/-- The buffers of a layer's normalisation of width 512. -/
abbrev ln512' (φ : fn_ln_2.Bufs) : LnRefs 512 :=
  ⟨φ.cst, φ.v0, φ.v1, φ.cst_0, φ.v2, φ.v3, φ.c, var512 φ.call0, φ.v5, φ.v6, φ.cst_1, φ.v7, φ.v8, φ.v9, φ.v10, φ.v11, φ.v12, φ.v13, φ.v14, φ.v15, φ.v16, φ.v17⟩

/-- The first normalisation's body is its fragment's items. -/
theorem ln128_prog (a0 a1 a2) (φ : fn_ln.Bufs) :
    fn_ln.body (F := F) a0 a1 a2 φ = Pipeline.chain (lnF wide128 0x43000000#32 a0 a1 a2 (ln128 φ)).ps := by
  chain_rfl
/-- The second normalisation's body is its fragment's items. -/
theorem ln512_prog (a0 a1 a2) (φ : fn_ln_0.Bufs) :
    fn_ln_0.body (F := F) a0 a1 a2 φ = Pipeline.chain (lnF wide512 0x44000000#32 a0 a1 a2 (ln512 φ)).ps := by
  chain_rfl
/-- A layer's normalisation's body is its fragment's items. -/
theorem ln512'_prog (a0 a1 a2) (φ : fn_ln_2.Bufs) :
    fn_ln_2.body (F := F) a0 a1 a2 φ = Pipeline.chain (lnF wide512 0x44000000#32 a0 a1 a2 (ln512' φ)).ps := by
  chain_rfl

end Cert.ReferenceIdeal.Frags

end
-- ==== Proof.RefScan.lean ====
/- The reference's scan as one fragment: its host loop's trips, the buffers they carry, and the function it computes. -/
module

public import proofs.«01_k».proof.Proof.Frag
public import Idealize.ShloMosaic.Lib.Scf.ExitTest
public import Idealize.ShloMosaic.Lib.Scf.Counter

@[expose] public section

noncomputable section

namespace Cert.ReferenceIdeal.Frags

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs sub_ucRefs)
open TcCoe Facts₀ Facts

variable {F : FTy → Type} [FloatOps F] [Facts]

/-! ## One row read, one row written -/

/-- The start of a row: its number, then zeros. -/
def start (t : (⟨S_, .i32⟩ : BufTy).Contents (Elt F)) : Fin 3 → (⟨S_, .i32⟩ : BufTy).Contents (Elt F) :=
  ![t, constantI S_ 32 0#32, constantI S_ 32 0#32]

/-- Row `t` of `X`. -/
def idxFn (X : (⟨S2048x16x64, .f32⟩ : BufTy).Contents (Elt F)) (t : (⟨S_, .i32⟩ : BufTy).Contents (Elt F)) :
    (⟨S16x64, .f32⟩ : BufTy).Contents (Elt F) :=
  shapeCast S16x64 (Host.dynamicSlice S1x16x64 X (fun k => (start (F := F) t k (Shape.Idx.first h_S_)).toInt) sliceFits_S2048x16x64_S1x16x64)
    shapeCasts_S1x16x64_S16x64

/-- `X` with row `t` replaced by `u`. -/
def updFn (X : (⟨S2048x16x64, .f32⟩ : BufTy).Contents (Elt F)) (u : (⟨S16x64, .f32⟩ : BufTy).Contents (Elt F))
    (t : (⟨S_, .i32⟩ : BufTy).Contents (Elt F)) : (⟨S2048x16x64, .f32⟩ : BufTy).Contents (Elt F) :=
  Host.dynamicUpdateSlice X (broadcastInDim S1x16x64 ![1, 2] bcast_S16x64_S1x16x64_1_2 u)
    (fun k => (start (F := F) t k (Shape.Idx.first h_S_)).toInt) updateFits_S2048x16x64_S1x16x64

/-- Three index operands, the last two zero, are a row's start. -/
theorem start_eq {a c d : TRef sig ⟨S_, .i32⟩} {U : Bufs F} (hc : val c U = constantI S_ 32 0#32) (hd : val d U = constantI S_ 32 0#32) :
    (fun k => val ((![a, c, d] : Fin 3 → TRef sig ⟨S_, .i32⟩) k) U) = start (F := F) (val a U) := by
  funext k
  fin_cases k
  · rfl
  · exact hc
  · exact hd

/-- The fragment reading a row. -/
def idxF (a0 : TRef sig ⟨S2048x16x64, .f32⟩) (a1 : TRef sig ⟨S_, .i32⟩) (φ : fn_dynamic_index_in_dim.Bufs) : Frag F :=
  (Frag.seqs [nullF φ.c (constantI S_ 32 0#32), nullF φ.c_0 (constantI S_ 32 0#32),
      unIxF a0 ![a1, φ.c, φ.c_0] φ.v0 (fun x i => Host.dynamicSlice S1x16x64 x (fun k => (i k (Shape.Idx.first h_S_)).toInt) sliceFits_S2048x16x64_S1x16x64)]
    (shapeF φ.v0 φ.v1 (rfl : (.f32 : EltTy) = .f32) shapeCasts_S1x16x64_S16x64)).weaken
    (fun U => val φ.v1 U = idxFn (val a0 U) (val a1 U)) fun U h => by
      obtain ⟨h0, h1, h2, h3⟩ := h
      rw [show val φ.v1 U = _ from h3, show val φ.v0 U = _ from h2, start_eq h0 h1]
      rfl

/-- The fragment writing a row. -/
def updF (a0 : TRef sig ⟨S2048x16x64, .f32⟩) (a1 : TRef sig ⟨S16x64, .f32⟩) (a2 : TRef sig ⟨S_, .i32⟩) (φ : fn_dynamic_update_index_in_dim.Bufs) : Frag F :=
  (Frag.seqs [unF a1 φ.v0 (broadcastInDim S1x16x64 ![1, 2] bcast_S16x64_S1x16x64_1_2), nullF φ.c (constantI S_ 32 0#32), nullF φ.c_0 (constantI S_ 32 0#32)]
    (binIxF a0 φ.v0 ![a2, φ.c, φ.c_0] φ.v1 (fun x u i => Host.dynamicUpdateSlice x u (fun k => (i k (Shape.Idx.first h_S_)).toInt) updateFits_S2048x16x64_S1x16x64))).weaken
    (fun U => val φ.v1 U = updFn (val a0 U) (val a1 U) (val a2 U)) fun U h => by
      obtain ⟨h0, h1, h2, h3⟩ := h
      rw [show val φ.v1 U = _ from h3, show val φ.v0 U = _ from h0, start_eq h1 h2]
      rfl

/-! ## What the loop computes -/

/-- The counter before trip `k`. -/
def ctr (k : ℕ) : (⟨S_, .i32⟩ : BufTy).Contents (Elt F) := fun _ => Scf.iv 0#32 1#32 k

/-- The sequence with its time axis first. -/
def timeFirst (X : (⟨S16x2048x64, .f32⟩ : BufTy).Contents (Elt F)) : (⟨S2048x16x64, .f32⟩ : BufTy).Contents (Elt F) :=
  transpose S2048x16x64 [1, 0, 2] X transposes_S16x2048x64_S2048x16x64_1_0_2

/-- The next state: the old one decayed, the row added. -/
def nextFn (A : (⟨S64, .f32⟩ : BufTy).Contents (Elt F)) (s r : (⟨S16x64, .f32⟩ : BufTy).Contents (Elt F)) : (⟨S16x64, .f32⟩ : BufTy).Contents (Elt F) :=
  addf (mulf (broadcastInDim S16x64 ![0, 1] bcast_S1x64_S16x64_0_1 (broadcastInDim S1x64 ![1] bcast_S64_S1x64_1 A)) s) r

/-- The state before trip `k`. -/
def stFn (X : (⟨S16x2048x64, .f32⟩ : BufTy).Contents (Elt F)) (A : (⟨S64, .f32⟩ : BufTy).Contents (Elt F)) : ℕ → (⟨S16x64, .f32⟩ : BufTy).Contents (Elt F)
  | 0 => broadcastInDim S16x64 ![] bcast_S_S16x64 (constant S_ .f32 0x00000000#32)
  | k + 1 => nextFn A (stFn X A k) (idxFn (timeFirst X) (ctr (F := F) k))

/-- The states collected before trip `k`. -/
def arrFn (X : (⟨S16x2048x64, .f32⟩ : BufTy).Contents (Elt F)) (A : (⟨S64, .f32⟩ : BufTy).Contents (Elt F)) : ℕ → (⟨S2048x16x64, .f32⟩ : BufTy).Contents (Elt F)
  | 0 => broadcastInDim S2048x16x64 ![] bcast_S_S2048x16x64 (constant S_ .f32 0x00000000#32)
  | k + 1 => updFn (arrFn X A k) (stFn X A (k + 1)) (ctr (F := F) k)

/-- The scan: every state, the batch axis first again. -/
def scanFn (X : (⟨S16x2048x64, .f32⟩ : BufTy).Contents (Elt F)) (A : (⟨S64, .f32⟩ : BufTy).Contents (Elt F)) : (⟨S16x2048x64, .f32⟩ : BufTy).Contents (Elt F) :=
  transpose S16x2048x64 [1, 0, 2] (arrFn X A 2048) transposes_S2048x16x64_S16x2048x64_1_0_2

/-! ## The pieces of the scan -/

section Scan

variable (a0 : TRef sig ⟨S16x2048x64, .f32⟩) (a1 : TRef sig ⟨S64, .f32⟩) (φ : fn_scan.Bufs)

/-- Before the loop. -/
def preF : Frag F :=
  Frag.seqs [nullF φ.cst (constant S_ .f32 0x00000000#32),
      unF φ.cst φ.v0 (broadcastInDim S16x64 ![] bcast_S_S16x64),
      unF a0 φ.v1 (transpose S2048x16x64 [1, 0, 2] · transposes_S16x2048x64_S2048x16x64_1_0_2),
      nullF φ.cst_0 (constant S_ .f32 0x00000000#32),
      unF φ.cst_0 φ.v2 (broadcastInDim S2048x16x64 ![] bcast_S_S2048x16x64),
      nullF φ.c (constantI S_ 32 0#32),
      unF φ.v1 φ.v3_0 id, unF a1 φ.v3_1 id, unF φ.c φ.v3_2 id, unF φ.v0 φ.v3_3 id]
    (unF φ.v2 φ.v3_4 id)

/-- The condition. -/
def condF : Frag F :=
  Frag.seqs [nullF φ.while0c_c_5 (constantI S_ 32 2048#32)] (binF φ.v3_2 φ.while0c_c_5 φ.while0c_v5 (cmpi .slt))

/-- A trip's body up to its copies. -/
def bodyF : Frag F :=
  Frag.seqs [idxF φ.v3_0 φ.v3_2 φ.while0b_call0,
      unF φ.v3_1 φ.while0b_v6 (broadcastInDim S1x64 ![1] bcast_S64_S1x64_1),
      unF φ.while0b_v6 φ.while0b_v7 (broadcastInDim S16x64 ![0, 1] bcast_S1x64_S16x64_0_1),
      binF φ.while0b_v7 φ.v3_3 φ.while0b_v8 mulf,
      binF φ.while0b_v8 φ.while0b_call0.v1 φ.while0b_v9 addf,
      updF φ.v3_4 φ.while0b_v9 φ.v3_2 φ.while0b_call1,
      nullF φ.while0b_c_5 (constantI S_ 32 1#32)]
    (binF φ.v3_2 φ.while0b_c_5 φ.while0b_v11 addi)

/-- After the loop. -/
def postF : Frag F := unF φ.v3_4 φ.v4 (transpose S16x2048x64 [1, 0, 2] · transposes_S2048x16x64_S16x2048x64_1_0_2)

/-- The condition's operations. -/
def condOps : List (HloOp τ sig (Elt F)) :=
  [TRef.nullary φ.while0c_c_5 (constantI S_ 32 2048#32), TRef.binary φ.v3_2 φ.while0c_c_5 φ.while0c_v5 (cmpi .slt)]

/-- A trip's copies into the carried buffers. -/
def copyOps : List (HloOp τ sig (Elt F)) :=
  [TRef.unary φ.while0b_v11 φ.v3_2 id, TRef.unary φ.while0b_v9 φ.v3_3 id, TRef.unary φ.while0b_call1.v1 φ.v3_4 id]

/-- A trip's operations. -/
def bodyOps : List (HloOp τ sig (Elt F)) :=
  [TRef.nullary φ.while0b_call0.c (constantI S_ 32 0#32),
    TRef.nullary φ.while0b_call0.c_0 (constantI S_ 32 0#32),
    TRef.unaryIndexed φ.v3_0 ![φ.v3_2, φ.while0b_call0.c, φ.while0b_call0.c_0] φ.while0b_call0.v0
      (fun x i => Host.dynamicSlice S1x16x64 x (fun k => (i k (Shape.Idx.first h_S_)).toInt) sliceFits_S2048x16x64_S1x16x64),
    TRef.reshape φ.while0b_call0.v0 φ.while0b_call0.v1 (rfl : (.f32 : EltTy) = .f32) shapeCasts_S1x16x64_S16x64,
    TRef.unary φ.v3_1 φ.while0b_v6 (broadcastInDim S1x64 ![1] bcast_S64_S1x64_1),
    TRef.unary φ.while0b_v6 φ.while0b_v7 (broadcastInDim S16x64 ![0, 1] bcast_S1x64_S16x64_0_1),
    TRef.binary φ.while0b_v7 φ.v3_3 φ.while0b_v8 mulf,
    TRef.binary φ.while0b_v8 φ.while0b_call0.v1 φ.while0b_v9 addf,
    TRef.unary φ.while0b_v9 φ.while0b_call1.v0 (broadcastInDim S1x16x64 ![1, 2] bcast_S16x64_S1x16x64_1_2),
    TRef.nullary φ.while0b_call1.c (constantI S_ 32 0#32),
    TRef.nullary φ.while0b_call1.c_0 (constantI S_ 32 0#32),
    TRef.binaryIndexed φ.v3_4 φ.while0b_call1.v0 ![φ.v3_2, φ.while0b_call1.c, φ.while0b_call1.c_0] φ.while0b_call1.v1
      (fun x u i => Host.dynamicUpdateSlice x u (fun k => (i k (Shape.Idx.first h_S_)).toInt) updateFits_S2048x16x64_S1x16x64),
    TRef.nullary φ.while0b_c_5 (constantI S_ 32 1#32),
    TRef.binary φ.v3_2 φ.while0b_c_5 φ.while0b_v11 addi] ++ copyOps φ

/-- The loop's operations touch the program's buffers only, and make none fresh. -/
theorem bodyOps_plain : Plain [bodyOps (F := F) φ] := by
  refine Plain.cons ?_ Plain.nil ?_
  · simp [bodyOps, copyOps, TRef.nullary, TRef.unary, TRef.binary, TRef.unaryIndexed, TRef.binaryIndexed, TRef.reshape]
  · intro op h
    simp only [bodyOps, copyOps, List.cons_append, List.nil_append, List.mem_cons, List.not_mem_nil, or_false] at h
    rcases h with h | h | h | h | h | h | h | h | h | h | h | h | h | h | h | h | h <;> (subst h; rfl)

/-- The condition's operations compute what its fragment does. -/
theorem after_condOps (V : Bufs F) : after (condOps φ) V = (condF (F := F) φ).T V := rfl

/-- A trip's operations compute what its fragment does, then the copies. -/
theorem after_bodyOps (V : Bufs F) : after (bodyOps φ) V = after (copyOps φ) ((bodyF (F := F) φ).T V) := by
  rw [bodyOps, after_append]
  simp only [after_cons, after_nil, bodyF, idxF, updF, Frag.weaken, Frag.seqs, Frag.then', unF, binF, nullF, unIxF, binIxF, shapeF, Frag.ofOp]

/-- The buffers after `k` trips. -/
def trip (V : Bufs F) : ℕ → Bufs F
  | 0 => V
  | k + 1 => after (bodyOps φ) (after (condOps φ) (trip V k))

/-- The loop's contents on every core are the trips from its own. -/
theorem atTrip_eq (W : Dev nD → Bufs F) (k : ℕ) (c : Dev nD) : atTrip (condOps φ) [bodyOps φ] W k c = trip φ (W c) k := by
  induction k with
  | zero => rfl
  | succ k ih => rw [atTrip_succ, ih]; rfl

/-! ## The order of the buffers -/

/-- What is computed about the buffers' numbers. -/
def scanOk : Bool :=
  (preF (F := F) a0 a1 φ).ok && (condF (F := F) φ).ok && (bodyF (F := F) φ).ok && (postF (F := F) φ).ok
    && decide ((preF (F := F) a0 a1 φ).hi ≤ (condF (F := F) φ).lo) && decide ((condF (F := F) φ).hi ≤ (bodyF (F := F) φ).lo)
    && decide ((bodyF (F := F) φ).hi ≤ (postF (F := F) φ).lo)
    && decide (key a0.ref < (preF (F := F) a0 a1 φ).lo) && decide (key a1.ref < (preF (F := F) a0 a1 φ).lo)

/-- The same as separate facts. -/
structure Ordered : Prop where
  pre : (preF (F := F) a0 a1 φ).ok = true
  cond : (condF (F := F) φ).ok = true
  body : (bodyF (F := F) φ).ok = true
  post : (postF (F := F) φ).ok = true
  cb : key φ.while0c_v5.ref + 1 ≤ key φ.while0b_call0.c.ref
  bp : key φ.while0b_v11.ref + 1 ≤ key φ.v4.ref
  x : key a0.ref < key φ.cst.ref
  a : key a1.ref < key φ.cst.ref
  k0 : key φ.cst.ref ≤ key φ.v3_0.ref
  k1 : key φ.v3_0.ref < key φ.v3_1.ref
  k2 : key φ.v3_1.ref < key φ.v3_2.ref
  k3 : key φ.v3_2.ref < key φ.v3_3.ref
  k4 : key φ.v3_3.ref < key φ.v3_4.ref
  k5 : key φ.v3_4.ref < key φ.while0c_c_5.ref
  k6 : key φ.while0c_c_5.ref < key φ.while0c_v5.ref
  k7 : key φ.while0b_call0.c.ref ≤ key φ.while0b_v11.ref

/-- The check of the buffers gives their order. -/
theorem Ordered.of_ok (h : scanOk (F := F) a0 a1 φ = true) : Ordered (F := F) a0 a1 φ := by
  unfold scanOk at h
  simp only [Bool.and_eq_true, decide_eq_true_eq] at h
  obtain ⟨⟨⟨⟨⟨⟨⟨⟨hp, hc⟩, hb⟩, ho⟩, h1⟩, h2⟩, h3⟩, h4⟩, h5⟩ := h
  have hbl := (bodyF (F := F) φ).le hb
  have hp' := hp
  have hc' := hc
  simp only [preF, condF, Frag.seqs, Frag.then', unF, binF, nullF, Frag.ofOp, Bool.and_eq_true, decide_eq_true_eq, List.all_cons, List.all_nil, Bool.and_true] at hp' hc' h1 h2 h3 h4 h5
  refine ⟨hp, hc, hb, ho, h2, h3, h4, h5, ?_, ?_, ?_, ?_, ?_, ?_, ?_, ?_⟩
  case refine_8 =>
    have : (bodyF (F := F) φ).hi = key φ.while0b_v11.ref + 1 := rfl
    have : (bodyF (F := F) φ).lo = key φ.while0b_call0.c.ref := rfl
    have hne : (bodyF (F := F) φ).lo < (bodyF (F := F) φ).hi := by
      simp only [bodyF, idxF, updF, Frag.weaken, Frag.seqs, Frag.then', unF, binF, nullF, unIxF, binIxF, shapeF, Frag.ofOp, Bool.and_eq_true, decide_eq_true_eq, List.all_cons, List.all_nil, Bool.and_true] at hb ⊢
      omega
    omega
  all_goals omega

end Scan

/-- A fragment's equation holds where it has just run. -/
theorem Frag.self (f : Frag F) (ho : f.ok = true) (V : Bufs F) : f.eqn (f.T V) :=
  f.heq ho V _ (fun r hr => f.fr ho V r (Or.inl hr)) fun _ _ _ => rfl

/-- Reading a buffer that a fragment leaves alone. -/
theorem Frag.val_fr (f : Frag F) (ho : f.ok = true) (V : Bufs F) {T : BufTy} (x : TRef sig T) (h : key x.ref < f.lo ∨ f.hi ≤ key x.ref) :
    val x (f.T V) = val x V := by
  unfold val; rw [f.fr ho V x.ref h]

section Copies

variable (φ : fn_scan.Bufs)

/-- The copies change the carried buffers only. -/
theorem copy_of_ne (V : Bufs F) (r : Ref sig .tc) (h2 : key r ≠ key φ.v3_2.ref) (h3 : key r ≠ key φ.v3_3.ref) (h4 : key r ≠ key φ.v3_4.ref) :
    after (copyOps φ) V (Proc.devRef .tc r) = V (Proc.devRef .tc r) := by
  have ne : ∀ y : Ref sig .tc, key r ≠ key y → (Proc.devRef .tc r : DevRef τ sig) ∉ ({Proc.devRef .tc y} : Finset (DevRef τ sig)) := fun y hy hm =>
    hy (congrArg key (Proc.devRef_injective _ (Finset.mem_singleton.mp hm)))
  rw [copyOps, after_cons, after_cons, after_cons, after_nil, HloOp.result_of_not_mem _ _ (ne _ h4), HloOp.result_of_not_mem _ _ (ne _ h3),
    HloOp.result_of_not_mem _ _ (ne _ h2)]

/-- The counter after the copies. -/
theorem copy_v2 (V : Bufs F) (h3 : key φ.v3_2.ref ≠ key φ.v3_3.ref) (h4 : key φ.v3_2.ref ≠ key φ.v3_4.ref) :
    val φ.v3_2 (after (copyOps φ) V) = val φ.while0b_v11 V := by
  have ne : ∀ y : Ref sig .tc, key φ.v3_2.ref ≠ key y → (Proc.devRef .tc φ.v3_2.ref : DevRef τ sig) ∉ ({Proc.devRef .tc y} : Finset (DevRef τ sig)) := fun y hy hm =>
    hy (congrArg key (Proc.devRef_injective _ (Finset.mem_singleton.mp hm)))
  unfold val
  rw [copyOps, after_cons, after_cons, after_cons, after_nil, HloOp.result_of_not_mem _ _ (ne _ h4), HloOp.result_of_not_mem _ _ (ne _ h3),
    unary_result, TRef.ofBuf_toBuf]
  rfl

/-- The state after the copies. -/
theorem copy_v3 (V : Bufs F) (h4 : key φ.v3_3.ref ≠ key φ.v3_4.ref) (h2 : key φ.while0b_v9.ref ≠ key φ.v3_2.ref) :
    val φ.v3_3 (after (copyOps φ) V) = val φ.while0b_v9 V := by
  have ne : ∀ r y : Ref sig .tc, key r ≠ key y → (Proc.devRef .tc r : DevRef τ sig) ∉ ({Proc.devRef .tc y} : Finset (DevRef τ sig)) := fun r y hy hm =>
    hy (congrArg key (Proc.devRef_injective _ (Finset.mem_singleton.mp hm)))
  unfold val
  rw [copyOps, after_cons, after_cons, after_cons, after_nil, HloOp.result_of_not_mem _ _ (ne _ _ h4), unary_result, TRef.ofBuf_toBuf,
    HloOp.result_of_not_mem _ _ (ne _ _ h2)]
  rfl

/-- The collected states after the copies. -/
theorem copy_v4 (V : Bufs F) (h2 : key φ.while0b_call1.v1.ref ≠ key φ.v3_2.ref) (h3 : key φ.while0b_call1.v1.ref ≠ key φ.v3_3.ref) :
    val φ.v3_4 (after (copyOps φ) V) = val φ.while0b_call1.v1 V := by
  have ne : ∀ r y : Ref sig .tc, key r ≠ key y → (Proc.devRef .tc r : DevRef τ sig) ∉ ({Proc.devRef .tc y} : Finset (DevRef τ sig)) := fun r y hy hm =>
    hy (congrArg key (Proc.devRef_injective _ (Finset.mem_singleton.mp hm)))
  unfold val
  rw [copyOps, after_cons, after_cons, after_cons, after_nil, unary_result, TRef.ofBuf_toBuf,
    HloOp.result_of_not_mem _ _ (ne _ _ h3), HloOp.result_of_not_mem _ _ (ne _ _ h2)]
  rfl

end Copies

/-! ## The loop's invariant -/

section Loop

variable {a0 : TRef sig ⟨S16x2048x64, .f32⟩} {a1 : TRef sig ⟨S64, .f32⟩} {φ : fn_scan.Bufs}

/-- What the carried buffers hold before trip `k`. -/
structure Inv (φ : fn_scan.Bufs) (X : (⟨S16x2048x64, .f32⟩ : BufTy).Contents (Elt F)) (A : (⟨S64, .f32⟩ : BufTy).Contents (Elt F)) (k : ℕ) (V : Bufs F) : Prop where
  x : val φ.v3_0 V = timeFirst X
  a : val φ.v3_1 V = A
  i : val φ.v3_2 V = ctr k
  s : val φ.v3_3 V = stFn X A k
  r : val φ.v3_4 V = arrFn X A k

/-- It holds on entry. -/
theorem Inv.entry (o : Ordered (F := F) a0 a1 φ) (V : Bufs F) : Inv φ (val a0 V) (val a1 V) 0 ((preF a0 a1 φ).T V) := by
  obtain ⟨e1, e2, e3, e4, e5, e6, e7, e8, e9, e10, e11⟩ := (preF (F := F) a0 a1 φ).self o.pre V
  have ha0 := (preF (F := F) a0 a1 φ).val_fr o.pre V a0 (Or.inl o.x)
  have ha1 := (preF (F := F) a0 a1 φ).val_fr o.pre V a1 (Or.inl o.a)
  constructor
  · rw [show val φ.v3_0 _ = _ from e7, show val φ.v1 _ = _ from e3, ha0]; rfl
  · rw [show val φ.v3_1 _ = _ from e8, ha1]; rfl
  · rw [show val φ.v3_2 _ = _ from e9, show val φ.c _ = _ from e6]; funext j; exact (Scf.iv_zero 0#32 1#32).symm
  · rw [show val φ.v3_3 _ = _ from e10, show val φ.v0 _ = _ from e2, show val φ.cst _ = _ from e1]; rfl
  · rw [show val φ.v3_4 _ = _ from e11, show val φ.v2 _ = _ from e5, show val φ.cst_0 _ = _ from e4]; rfl

/-- What the carried buffers hold is kept by the condition. -/
theorem Inv.cond (o : Ordered (F := F) a0 a1 φ) {X A k} {V : Bufs F} (h : Inv φ X A k V) : Inv φ X A k ((condF φ).T V) := by
  have := o.k1; have := o.k2; have := o.k3; have := o.k4; have := o.k5
  have f : ∀ {T : BufTy} (x : TRef sig T), key x.ref ≤ key φ.v3_4.ref → val x ((condF (F := F) φ).T V) = val x V := fun x hx =>
    (condF (F := F) φ).val_fr o.cond V x (Or.inl (show key x.ref < key φ.while0c_c_5.ref by omega))
  exact ⟨by rw [f _ (by omega), h.x], by rw [f _ (by omega), h.a], by rw [f _ (by omega), h.i], by rw [f _ (by omega), h.s], by rw [f _ (by omega), h.r]⟩

/-- One trip. -/
theorem Inv.step (o : Ordered (F := F) a0 a1 φ) {X A k} {V : Bufs F} (h : Inv φ X A k V) :
    Inv φ X A (k + 1) (after (bodyOps φ) (after (condOps φ) V)) := by
  rw [after_condOps, after_bodyOps]
  have h' := h.cond o
  generalize (condF (F := F) φ).T V = W at h'
  have := o.k1; have := o.k2; have := o.k3; have := o.k4; have := o.k5; have := o.k6; have := o.cb; have := o.k7
  have f : ∀ {T : BufTy} (x : TRef sig T), key x.ref ≤ key φ.v3_4.ref → val x ((bodyF (F := F) φ).T W) = val x W := fun x hx =>
    (bodyF (F := F) φ).val_fr o.body W x (Or.inl (show key x.ref < key φ.while0b_call0.c.ref by omega))
  obtain ⟨e1, e2, e3, e4, e5, e6, e7, e8⟩ := (bodyF (F := F) φ).self o.body W
  have g0 := (f φ.v3_0 (by omega)).trans h'.x
  have g1 := (f φ.v3_1 (by omega)).trans h'.a
  have g2 := (f φ.v3_2 (by omega)).trans h'.i
  have g3 := (f φ.v3_3 (by omega)).trans h'.s
  have g4 := (f φ.v3_4 (by omega)).trans h'.r
  have hb := o.body
  simp only [bodyF, idxF, updF, Frag.weaken, Frag.seqs, Frag.then', unF, binF, nullF, unIxF, binIxF, shapeF, Frag.ofOp, Bool.and_eq_true,
    decide_eq_true_eq, List.all_cons, List.all_nil, Bool.and_true] at hb
  have i9 : key φ.v3_4.ref < key φ.while0b_v9.ref := by omega
  have i1 : key φ.v3_4.ref < key φ.while0b_call1.v1.ref := by omega
  generalize (bodyF (F := F) φ).T W = U at *
  have k9 : val φ.while0b_v9 U = stFn X A (k + 1) := by
    rw [show val φ.while0b_v9 U = _ from e5, show val φ.while0b_v8 U = _ from e4, show val φ.while0b_v7 U = _ from e3,
      show val φ.while0b_v6 U = _ from e2, show val φ.while0b_call0.v1 U = _ from e1, g0, g1, g2, g3]
    rfl
  constructor
  · unfold val; rw [copy_of_ne φ U _ (by omega) (by omega) (by omega)]; exact g0
  · unfold val; rw [copy_of_ne φ U _ (by omega) (by omega) (by omega)]; exact g1
  · rw [copy_v2 φ U (by omega) (by omega), show val φ.while0b_v11 U = _ from e8, show val φ.while0b_c_5 U = _ from e7, g2]
    funext j; exact (Scf.iv_succ 0#32 1#32 k).symm
  · rw [copy_v3 φ U (by omega) (by omega), k9]
  · rw [copy_v4 φ U (by omega) (by omega), show val φ.while0b_call1.v1 U = _ from e6, g4, k9, g2]
    rfl

/-- Every trip. -/
theorem Inv.trips (o : Ordered (F := F) a0 a1 φ) {X A} {V : Bufs F} (h : Inv φ X A 0 V) (k : ℕ) : Inv φ X A k (trip φ V k) := by
  induction k with
  | zero => exact h
  | succ k ih => exact ih.step o

/-- A trip's body writes its own buffers and the carried ones only. -/
theorem trip_fr (o : Ordered (F := F) a0 a1 φ) (V : Bufs F) (k : ℕ) (r : Ref sig .tc) (hr : key r < key φ.v3_2.ref ∨ key φ.v4.ref ≤ key r) :
    trip φ V k (Proc.devRef .tc r) = V (Proc.devRef .tc r) := by
  have := o.k3; have := o.k4; have := o.k5; have := o.k6; have := o.cb; have := o.k7; have := o.bp
  induction k with
  | zero => rfl
  | succ k ih =>
    rw [trip, after_condOps, after_bodyOps, copy_of_ne φ _ _ (by omega) (by omega) (by omega),
      (bodyF (F := F) φ).fr o.body _ r (show key r < key φ.while0b_call0.c.ref ∨ key φ.while0b_v11.ref + 1 ≤ key r by omega),
      (condF (F := F) φ).fr o.cond _ r (show key r < key φ.while0c_c_5.ref ∨ key φ.while0c_v5.ref + 1 ≤ key r by omega), ih]

local notation "𝕄" => MT nD τ sig Unit (Elt F) ℕ (Option PUnit) ℕ

/-- Reading a typed reference's buffer is a cast. -/
theorem val_cast {T : BufTy} (x : TRef sig T) (U : Bufs F) :
    val x U = cast (congrArg (BufTy.Contents (Elt F)) x.ty_eq) (U (Proc.devRef .tc x.ref)) := by
  obtain ⟨r, t, _, _⟩ := x
  subst t
  rfl

/-- A trip's body is its operations in order. -/
theorem while0_body_eq (a0 : TRef sig ⟨S16x2048x64, .f32⟩) (a1 : TRef sig ⟨S64, .f32⟩) (φ : fn_scan.Bufs) :
    fn_scan.while0_body (F := F) a0 a1 φ = Pipeline.chain ([bodyOps φ].map fun ops => (seq ops : Prog _ PUnit)) := by
  chain_rfl

set_option backward.isDefEq.respectTransparency.types false in
/-- The loop's test passes before trip `k` exactly when `k` is below 2048. -/
theorem loop_cond (o : Ordered (F := F) a0 a1 φ) (W : Dev nD → Bufs F) (X : Dev nD → (⟨S16x2048x64, .f32⟩ : BufTy).Contents (Elt F))
    (A : Dev nD → (⟨S64, .f32⟩ : BufTy).Contents (Elt F)) (h : ∀ c, Inv φ (X c) (A c) 0 (W c)) :
    LoopCond (Ix := Unit) (Name := ℕ) (U := Option PUnit) (Lvl := ℕ) (pcfgs (F := F)) defs₀ Variants.none loops (Rest (F := F))
      (fn_scan.while0_cond a0 a1 φ) (condOps φ) [bodyOps φ] W 2048 := by
  intro k hk c bd
  have hi := ((h c).trips o k).i
  rw [← atTrip_eq] at hi
  generalize atTrip (condOps φ) [bodyOps φ] W k c = V at hi ⊢
  have hv : val φ.while0c_v5 (after (condOps φ) V) = cmpi .slt (ctr (F := F) k) (constantI S_ 32 2048#32) := by
    rw [after_condOps]
    obtain ⟨e1, e2⟩ := (condF (F := F) φ).self o.cond V
    have := o.k3; have := o.k4; have := o.k5
    rw [show val φ.while0c_v5 _ = _ from e2, show val φ.while0c_c_5 _ = _ from e1,
      (condF (F := F) φ).val_fr o.cond V φ.v3_2 (Or.inl (show key φ.v3_2.ref < key φ.while0c_c_5.ref by omega)), hi]
  unfold fn_scan.while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    have e := congrFun hv HostLoop.idx0
    rw [val_cast, condOps, after_cons, after_cons, after_nil,
      HloOp.result_of_mem _ _ (show (Proc.devRef .tc φ.while0c_v5.ref : DevRef τ sig) ∈ _ from Finset.mem_singleton_self _)] at e
    refine (Iff.of_eq (congrArg (· = 1#1) e)).trans ?_
    exact Scf.cmpi_slt_iv_ub_iff (lb := 0#32) (ub := 2048#32) (st := 1#32) (by decide) (show k ≤ Scf.trips 0#32 2048#32 1#32 from hk)
  isplitl [Hb]; · iexact Hb
  isplitl [Hh]
  · rw [condOps, after_cons, after_cons, after_nil]; iexact Hh
  iexact HR

/-- The scan as a fragment, its loop's entry found among the program's loops. -/
def scanF (a0 : TRef sig ⟨S16x2048x64, .f32⟩) (a1 : TRef sig ⟨S64, .f32⟩) (φ : fn_scan.Bufs)
    (hl : loops (F := F) φ.while0 = HostLoop.step φ.while0 (fn_scan.while0_cond a0 a1 φ) (fn_scan.while0_body a0 a1 φ)) : Frag F where
  ps := (preF a0 a1 φ).ps ++ ([HostLoop.enter φ.while0] ++ (postF φ).ps)
  T := fun V => (postF φ).T (after (condOps φ) (trip φ ((preF a0 a1 φ).T V) 2048))
  eqn := fun U => val φ.v4 U = scanFn (val a0 U) (val a1 U)
  lo := key φ.cst.ref
  hi := key φ.v4.ref + 1
  ok := scanOk (F := F) a0 a1 φ
  le := fun h => by
    have o := Ordered.of_ok a0 a1 φ h
    have := o.k0; have := o.k1; have := o.k2; have := o.k3; have := o.k4; have := o.k5; have := o.k6; have := o.cb; have := o.k7; have := o.bp
    omega
  fr := fun h V r hr => by
    have o := Ordered.of_ok a0 a1 φ h
    have := o.k0; have := o.k1; have := o.k2; have := o.k3; have := o.k4; have := o.k5; have := o.k6; have := o.cb; have := o.k7; have := o.bp
    rw [(postF (F := F) φ).fr o.post _ r (show key r < key φ.v4.ref ∨ key φ.v4.ref + 1 ≤ key r by omega), after_condOps,
      (condF (F := F) φ).fr o.cond _ r (show key r < key φ.while0c_c_5.ref ∨ key φ.while0c_v5.ref + 1 ≤ key r by omega),
      trip_fr o _ _ r (by omega),
      (preF (F := F) a0 a1 φ).fr o.pre _ r (show key r < key φ.cst.ref ∨ key φ.v3_4.ref + 1 ≤ key r by omega)]
  heq := fun h V U hb hi => by
    have o := Ordered.of_ok a0 a1 φ h
    have := o.k0; have := o.k1; have := o.k2; have := o.k3; have := o.k4; have := o.k5; have := o.k6; have := o.cb; have := o.k7; have := o.bp
    have e0 : val a0 U = val a0 V := by unfold val; rw [hb a0.ref o.x]
    have e1 : val a1 U = val a1 V := by unfold val; rw [hb a1.ref o.a]
    have e4 := hi φ.v4.ref (by omega) (by omega)
    have e : val φ.v4 U = val φ.v4 ((postF φ).T (after (condOps φ) (trip φ ((preF a0 a1 φ).T V) 2048))) := by unfold val; rw [e4]
    rw [e, e0, e1, show val φ.v4 _ = _ from (postF (F := F) φ).self o.post _,
      (postF (F := F) φ).val_fr o.post _ φ.v3_4 (Or.inl (show key φ.v3_4.ref < key φ.v4.ref by omega)), after_condOps,
      (((Inv.entry o V).trips o 2048).cond o).r]
    rfl
  run := fun h W => by
    have o := Ordered.of_ok a0 a1 φ h
    refine ((preF a0 a1 φ).run o.pre W).append (Piece.append ?_ ((postF φ).run o.post _))
    refine ⟨[loopSeg (pcfgs (F := F)) noAdm defs₀ Variants.none noIx zeroLv loops (noTk (F := F)) φ.while0 (fn_scan.while0_cond a0 a1 φ)
      (fn_scan.while0_body a0 a1 φ) hl (condOps φ) [bodyOps φ] (bodyOps_plain φ) (while0_body_eq a0 a1 φ) 2048 (fun c => (preF a0 a1 φ).T (W c)) (Rest (F := F))
      (loop_cond o _ _ _ fun c => Inv.entry o (W c))], rfl, ⟨fun _ => .rfl, fun c => ?_⟩⟩
    rw [loopSeg_post, atTrip_eq]

/-- The scan's body is the fragment's items. -/
theorem scanF_prog (a0 : TRef sig ⟨S16x2048x64, .f32⟩) (a1 : TRef sig ⟨S64, .f32⟩) (φ : fn_scan.Bufs) (hl) :
    fn_scan.body (F := F) a0 a1 φ = Pipeline.chain (scanF a0 a1 φ hl).ps := by chain_rfl

end Loop

end Cert.ReferenceIdeal.Frags

end
-- ==== Proof.RefLayer.lean ====
/- One layer of the reference as one fragment: the cuts of the stacked weights, the layer's body, and the function computed. -/
module

public import proofs.«01_k».proof.Proof.RefNorm
public import proofs.«01_k».proof.Proof.RefScan

@[expose] public section

noncomputable section

namespace Cert.ReferenceIdeal.Frags

open Idealize.ShloMosaic Idealize.ShloMosaic.StableHlo
open Idealize.SL.Sem Facts₀ Facts

variable {F : FTy → Type} [FloatOps F] [Facts]

/-! ## The activation -/

/-- The buffers of one activation of width `n`. -/
structure GeluRefs (n : ℕ) where
  v13 : TRef sig ⟨Rows n, .f32⟩
  v14 : TRef sig ⟨Rows n, .f32⟩
  cst : TRef sig ⟨S_, .f32⟩
  v15 : TRef sig ⟨Rows n, .f32⟩
  v16 : TRef sig ⟨Rows n, .f32⟩
  v17 : TRef sig ⟨Rows n, .f32⟩
  cst_0 : TRef sig ⟨S_, .f32⟩
  v18 : TRef sig ⟨Rows n, .f32⟩
  v19 : TRef sig ⟨Rows n, .f32⟩
  v20 : TRef sig ⟨Rows n, .f32⟩
  cst_1 : TRef sig ⟨S_, .f32⟩
  v21 : TRef sig ⟨Rows n, .f32⟩
  v22 : TRef sig ⟨Rows n, .f32⟩
  cst_2 : TRef sig ⟨S_, .f32⟩
  v23 : TRef sig ⟨Rows n, .f32⟩
  v24 : TRef sig ⟨Rows n, .f32⟩
  v25 : TRef sig ⟨Rows n, .f32⟩

/-- One number everywhere. -/
def fillFn {n : ℕ} (hb : S_.BroadcastsInDim (Rows n) (![] : Fin 0 → Fin (Rows n).rank)) (b : BitVec 32) : (⟨Rows n, .f32⟩ : BufTy).Contents (Elt F) :=
  broadcastInDim (Rows n) ![] hb (constant S_ .f32 b)

/-- The activation. -/
def geluFn {n : ℕ} (hb : S_.BroadcastsInDim (Rows n) (![] : Fin 0 → Fin (Rows n).rank)) (X : (⟨Rows n, .f32⟩ : BufTy).Contents (Elt F)) :
    (⟨Rows n, .f32⟩ : BufTy).Contents (Elt F) :=
  mulf X (mulf (fillFn hb 0x3F000000#32) (addf (fillFn hb 0x3F800000#32)
    (Host.tanh (mulf (fillFn hb 0x3F4C422A#32) (addf X (mulf (fillFn hb 0x3D372713#32) (mulf (mulf X X) X)))))))

/-- The activation's fragment. -/
def geluF {n : ℕ} (hb : S_.BroadcastsInDim (Rows n) (![] : Fin 0 → Fin (Rows n).rank)) (x : TRef sig ⟨Rows n, .f32⟩) (φ : GeluRefs n) : Frag F :=
  (Frag.seqs [binF x x φ.v13 mulf, binF φ.v13 x φ.v14 mulf,
      nullF φ.cst (constant S_ .f32 0x3D372713#32), unF φ.cst φ.v15 (broadcastInDim (Rows n) ![] hb),
      binF φ.v15 φ.v14 φ.v16 mulf, binF x φ.v16 φ.v17 addf,
      nullF φ.cst_0 (constant S_ .f32 0x3F4C422A#32), unF φ.cst_0 φ.v18 (broadcastInDim (Rows n) ![] hb),
      binF φ.v18 φ.v17 φ.v19 mulf, unF φ.v19 φ.v20 Host.tanh,
      nullF φ.cst_1 (constant S_ .f32 0x3F800000#32), unF φ.cst_1 φ.v21 (broadcastInDim (Rows n) ![] hb),
      binF φ.v21 φ.v20 φ.v22 addf,
      nullF φ.cst_2 (constant S_ .f32 0x3F000000#32), unF φ.cst_2 φ.v23 (broadcastInDim (Rows n) ![] hb),
      binF φ.v23 φ.v22 φ.v24 mulf]
    (binF x φ.v24 φ.v25 mulf)).weaken (fun U => val φ.v25 U = geluFn hb (val x U)) fun U h => by
      obtain ⟨h0, h1, h2, h3, h4, h5, h6, h7, h8, h9, h10, h11, h12, h13, h14, h15, h16⟩ := h
      rw [show val φ.v25 U = _ from h16, show val φ.v24 U = _ from h15, show val φ.v23 U = _ from h14, show val φ.cst_2 U = _ from h13,
        show val φ.v22 U = _ from h12, show val φ.v21 U = _ from h11, show val φ.cst_1 U = _ from h10, show val φ.v20 U = _ from h9,
        show val φ.v19 U = _ from h8, show val φ.v18 U = _ from h7, show val φ.cst_0 U = _ from h6, show val φ.v17 U = _ from h5,
        show val φ.v16 U = _ from h4, show val φ.v15 U = _ from h3, show val φ.cst U = _ from h2, show val φ.v14 U = _ from h1,
        show val φ.v13 U = _ from h0]
      rfl

/-! ## The weights -/

/-- One layer's weights. -/
structure Weights (F : FTy → Type) [FloatOps F] where
  ga : (⟨S512, .f32⟩ : BufTy).Contents (Elt F)
  ba : (⟨S512, .f32⟩ : BufTy).Contents (Elt F)
  A : (⟨S64, .f32⟩ : BufTy).Contents (Elt F)
  Bm : (⟨S512x64, .f32⟩ : BufTy).Contents (Elt F)
  Cf : (⟨S64x512, .f32⟩ : BufTy).Contents (Elt F)
  Cb : (⟨S64x512, .f32⟩ : BufTy).Contents (Elt F)
  D : (⟨S512, .f32⟩ : BufTy).Contents (Elt F)
  gf : (⟨S512, .f32⟩ : BufTy).Contents (Elt F)
  bf : (⟨S512, .f32⟩ : BufTy).Contents (Elt F)
  W1 : (⟨S512x1024, .f32⟩ : BufTy).Contents (Elt F)
  b1 : (⟨S1024, .f32⟩ : BufTy).Contents (Elt F)
  W2 : (⟨S1024x512, .f32⟩ : BufTy).Contents (Elt F)
  b2 : (⟨S512, .f32⟩ : BufTy).Contents (Elt F)

/-- The buffers they are in. -/
structure WRefs where
  ga : TRef sig ⟨S512, .f32⟩
  ba : TRef sig ⟨S512, .f32⟩
  A : TRef sig ⟨S64, .f32⟩
  Bm : TRef sig ⟨S512x64, .f32⟩
  Cf : TRef sig ⟨S64x512, .f32⟩
  Cb : TRef sig ⟨S64x512, .f32⟩
  D : TRef sig ⟨S512, .f32⟩
  gf : TRef sig ⟨S512, .f32⟩
  bf : TRef sig ⟨S512, .f32⟩
  W1 : TRef sig ⟨S512x1024, .f32⟩
  b1 : TRef sig ⟨S1024, .f32⟩
  W2 : TRef sig ⟨S1024x512, .f32⟩
  b2 : TRef sig ⟨S512, .f32⟩

/-- What those buffers hold. -/
def WRefs.vals (w : WRefs) (U : Bufs F) : Weights F :=
  ⟨val w.ga U, val w.ba U, val w.A U, val w.Bm U, val w.Cf U, val w.Cb U, val w.D U, val w.gf U, val w.bf U, val w.W1 U, val w.b1 U, val w.W2 U, val w.b2 U⟩

/-! ## The layer's body -/

/-- The mask along every row. -/
def maskFn (mask : (⟨S16x2048x1, .f32⟩ : BufTy).Contents (Elt F)) : (⟨S16x2048x512, .f32⟩ : BufTy).Contents (Elt F) :=
  broadcastInDim S16x2048x512 ![0, 1, 2] bcast_S16x2048x1_S16x2048x512_0_1_2 mask

/-- The state-space sum of normalised rows. -/
def mixFn (p : Weights F) (z : (⟨S16x2048x512, .f32⟩ : BufTy).Contents (Elt F)) : (⟨S16x2048x512, .f32⟩ : BufTy).Contents (Elt F) :=
  let u : (⟨S16x2048x64, .f32⟩ : BufTy).Contents (Elt F) := Host.dotGeneral dot_S16x2048x512_S512x64_S16x2048x64_2_0_01_1_n_n none z p.Bm
  addf (addf (Host.dotGeneral dot_S16x2048x64_S64x512_S16x2048x512_2_0_01_1_n_n none (scanFn u p.A) p.Cf)
      (Host.dotGeneral dot_S16x2048x64_S64x512_S16x2048x512_2_0_01_1_n_n none (Host.reverse [1] (scanFn (Host.reverse [1] u) p.A)) p.Cb))
    (mulf z (rowFn wide512 p.D))

/-- The first half of a layer. -/
def halfFn (p : Weights F) (mask : (⟨S16x2048x1, .f32⟩ : BufTy).Contents (Elt F)) (h : (⟨S16x2048x512, .f32⟩ : BufTy).Contents (Elt F)) :
    (⟨S16x2048x512, .f32⟩ : BufTy).Contents (Elt F) :=
  addf h (mulf (geluFn bcast_S_S16x2048x512 (mixFn p (lnFn wide512 0x44000000#32 h p.ga p.ba))) (maskFn mask))

/-- The feed-forward sum of normalised rows. -/
def ffFn (p : Weights F) (z : (⟨S16x2048x512, .f32⟩ : BufTy).Contents (Elt F)) : (⟨S16x2048x512, .f32⟩ : BufTy).Contents (Elt F) :=
  addf (Host.dotGeneral dot_S16x2048x1024_S1024x512_S16x2048x512_2_0_01_1_n_n none
      (geluFn bcast_S_S16x2048x1024 (addf (Host.dotGeneral dot_S16x2048x512_S512x1024_S16x2048x1024_2_0_01_1_n_n none z p.W1)
        (broadcastInDim S16x2048x1024 ![0, 1, 2] bcast_S1x1x1024_S16x2048x1024_0_1_2 (broadcastInDim S1x1x1024 ![2] bcast_S1024_S1x1x1024_2 p.b1)))) p.W2)
    (rowFn wide512 p.b2)

/-- A layer. -/
def layerFn (p : Weights F) (mask : (⟨S16x2048x1, .f32⟩ : BufTy).Contents (Elt F)) (h : (⟨S16x2048x512, .f32⟩ : BufTy).Contents (Elt F)) :
    (⟨S16x2048x512, .f32⟩ : BufTy).Contents (Elt F) :=
  addf (halfFn p mask h) (mulf (ffFn p (lnFn wide512 0x44000000#32 (halfFn p mask h) p.gf p.bf)) (maskFn mask))

/-- The buffers of a layer's first activation. -/
abbrev gelu1 (φ : fn_layer.Bufs) : GeluRefs 512 :=
  ⟨φ.v13, φ.v14, φ.cst, φ.v15, φ.v16, φ.v17, φ.cst_0, φ.v18, φ.v19, φ.v20, φ.cst_1, φ.v21, φ.v22, φ.cst_2, φ.v23, φ.v24, φ.v25⟩
/-- The buffers of a layer's second activation. -/
abbrev gelu2 (φ : fn_layer.Bufs) : GeluRefs 1024 :=
  ⟨φ.v34, φ.v35, φ.cst_3, φ.v36, φ.v37, φ.v38, φ.cst_4, φ.v39, φ.v40, φ.v41, φ.cst_5, φ.v42, φ.v43, φ.cst_6, φ.v44, φ.v45, φ.v46⟩

/-- A layer's two loops are found among the program's loops. -/
structure HasLoops (F : FTy → Type) [FloatOps F] (w : WRefs) (φ : fn_layer.Bufs) : Prop where
  one : loops (F := F) φ.call1.while0 = HostLoop.step φ.call1.while0 (fn_scan.while0_cond φ.v1 w.A φ.call1) (fn_scan.while0_body φ.v1 w.A φ.call1)
  two : loops (F := F) φ.call3.while0 = HostLoop.step φ.call3.while0 (fn_scan.while0_cond φ.call2.v0 w.A φ.call3) (fn_scan.while0_body φ.call2.v0 w.A φ.call3)

/-- A layer's fragment. -/
def layerF (a0 : TRef sig ⟨S16x2048x512, .f32⟩) (a1 : TRef sig ⟨S16x2048x1, .f32⟩) (w : WRefs) (φ : fn_layer.Bufs) (hl : HasLoops F w φ) : Frag F :=
  (Frag.seqs [lnF wide512 0x44000000#32 a0 w.ga w.ba (ln512' φ.call0),
      binF φ.call0.v17 w.Bm φ.v1 (fun l r => Host.dotGeneral dot_S16x2048x512_S512x64_S16x2048x64_2_0_01_1_n_n none l r),
      scanF φ.v1 w.A φ.call1 hl.one,
      unF φ.v1 φ.call2.v0 (Host.reverse [1]),
      scanF φ.call2.v0 w.A φ.call3 hl.two,
      unF φ.call3.v4 φ.call4.v0 (Host.reverse [1]),
      binF φ.call1.v4 w.Cf φ.v6 (fun l r => Host.dotGeneral dot_S16x2048x64_S64x512_S16x2048x512_2_0_01_1_n_n none l r),
      binF φ.call4.v0 w.Cb φ.v7 (fun l r => Host.dotGeneral dot_S16x2048x64_S64x512_S16x2048x512_2_0_01_1_n_n none l r),
      binF φ.v6 φ.v7 φ.v8 addf,
      unF w.D φ.v9 (broadcastInDim S1x1x512 ![2] bcast_S512_S1x1x512_2),
      unF φ.v9 φ.v10 (broadcastInDim S16x2048x512 ![0, 1, 2] bcast_S1x1x512_S16x2048x512_0_1_2),
      binF φ.call0.v17 φ.v10 φ.v11 mulf,
      binF φ.v8 φ.v11 φ.v12 addf,
      geluF bcast_S_S16x2048x512 φ.v12 (gelu1 φ),
      unF a1 φ.v26 (broadcastInDim S16x2048x512 ![0, 1, 2] bcast_S16x2048x1_S16x2048x512_0_1_2),
      binF φ.v25 φ.v26 φ.v27 mulf,
      binF a0 φ.v27 φ.v28 addf,
      lnF wide512 0x44000000#32 φ.v28 w.gf w.bf (ln512' φ.call5),
      binF φ.call5.v17 w.W1 φ.v30 (fun l r => Host.dotGeneral dot_S16x2048x512_S512x1024_S16x2048x1024_2_0_01_1_n_n none l r),
      unF w.b1 φ.v31 (broadcastInDim S1x1x1024 ![2] bcast_S1024_S1x1x1024_2),
      unF φ.v31 φ.v32 (broadcastInDim S16x2048x1024 ![0, 1, 2] bcast_S1x1x1024_S16x2048x1024_0_1_2),
      binF φ.v30 φ.v32 φ.v33 addf,
      geluF bcast_S_S16x2048x1024 φ.v33 (gelu2 φ),
      binF φ.v46 w.W2 φ.v47 (fun l r => Host.dotGeneral dot_S16x2048x1024_S1024x512_S16x2048x512_2_0_01_1_n_n none l r),
      unF w.b2 φ.v48 (broadcastInDim S1x1x512 ![2] bcast_S512_S1x1x512_2),
      unF φ.v48 φ.v49 (broadcastInDim S16x2048x512 ![0, 1, 2] bcast_S1x1x512_S16x2048x512_0_1_2),
      binF φ.v47 φ.v49 φ.v50 addf,
      unF a1 φ.v51 (broadcastInDim S16x2048x512 ![0, 1, 2] bcast_S16x2048x1_S16x2048x512_0_1_2),
      binF φ.v50 φ.v51 φ.v52 mulf]
    (binF φ.v28 φ.v52 φ.v53 addf)).weaken (fun U => val φ.v53 U = layerFn (w.vals U) (val a1 U) (val a0 U)) fun U h => by
      obtain ⟨h0, h1, h2, h3, h4, h5, h6, h7, h8, h9, h10, h11, h12, h13, h14, h15, h16, h17, h18, h19, h20, h21, h22, h23, h24, h25, h26, h27, h28, h29⟩ := h
      have k28 : val φ.v28 U = halfFn (w.vals U) (val a1 U) (val a0 U) := by
        rw [show val φ.v28 U = _ from h16, show val φ.v27 U = _ from h15, show val φ.v26 U = _ from h14, show val φ.v25 U = _ from h13,
          show val φ.v12 U = _ from h12, show val φ.v11 U = _ from h11, show val φ.v10 U = _ from h10, show val φ.v9 U = _ from h9,
          show val φ.v8 U = _ from h8, show val φ.v7 U = _ from h7, show val φ.v6 U = _ from h6, show val φ.call4.v0 U = _ from h5,
          show val φ.call3.v4 U = _ from h4, show val φ.call2.v0 U = _ from h3, show val φ.call1.v4 U = _ from h2, show val φ.v1 U = _ from h1,
          show val φ.call0.v17 U = _ from h0]
        rfl
      rw [show val φ.v53 U = _ from h29, show val φ.v52 U = _ from h28, show val φ.v51 U = _ from h27, show val φ.v50 U = _ from h26,
        show val φ.v49 U = _ from h25, show val φ.v48 U = _ from h24, show val φ.v47 U = _ from h23, show val φ.v46 U = _ from h22,
        show val φ.v33 U = _ from h21, show val φ.v32 U = _ from h20, show val φ.v31 U = _ from h19, show val φ.v30 U = _ from h18,
        show val φ.call5.v17 U = _ from h17, k28]
      rfl

/-- A layer's body is its fragment's items. -/
theorem layerF_prog (a0 a1) (w : WRefs) (φ : fn_layer.Bufs) (hl : HasLoops F w φ) :
    fn_layer.body (F := F) a0 a1 w.ga w.ba w.A w.Bm w.Cf w.Cb w.D w.gf w.bf w.W1 w.b1 w.W2 w.b2 φ = Pipeline.chain (layerF a0 a1 w φ hl).ps := by
  chain_rfl

/-! ## The cuts of the stacked weights -/

/-- The weights of every layer, stacked. -/
structure Stack (F : FTy → Type) [FloatOps F] where
  ga : (⟨S6x512, .f32⟩ : BufTy).Contents (Elt F)
  ba : (⟨S6x512, .f32⟩ : BufTy).Contents (Elt F)
  A : (⟨S6x64, .f32⟩ : BufTy).Contents (Elt F)
  Bm : (⟨S6x512x64, .f32⟩ : BufTy).Contents (Elt F)
  Cf : (⟨S6x64x512, .f32⟩ : BufTy).Contents (Elt F)
  Cb : (⟨S6x64x512, .f32⟩ : BufTy).Contents (Elt F)
  D : (⟨S6x512, .f32⟩ : BufTy).Contents (Elt F)
  gf : (⟨S6x512, .f32⟩ : BufTy).Contents (Elt F)
  bf : (⟨S6x512, .f32⟩ : BufTy).Contents (Elt F)
  W1 : (⟨S6x512x1024, .f32⟩ : BufTy).Contents (Elt F)
  b1 : (⟨S6x1024, .f32⟩ : BufTy).Contents (Elt F)
  W2 : (⟨S6x1024x512, .f32⟩ : BufTy).Contents (Elt F)
  b2 : (⟨S6x512, .f32⟩ : BufTy).Contents (Elt F)

/-- What @main's arguments hold of them. -/
def stackOf (U : Bufs F) : Stack F :=
  ⟨val (.of main_arg9) U, val (.of main_arg10) U, val (.of main_arg11) U, val (.of main_arg12) U, val (.of main_arg13) U, val (.of main_arg14) U,
    val (.of main_arg15) U, val (.of main_arg16) U, val (.of main_arg17) U, val (.of main_arg18) U, val (.of main_arg19) U, val (.of main_arg20) U,
    val (.of main_arg21) U⟩

/-- The shape facts of layer `k`'s cuts. -/
structure Cut (k : ℕ) : Prop where
  r512 : S6x512.Slices ![k, 0] S1x512
  r64 : S6x64.Slices ![k, 0] S1x64
  r1024 : S6x1024.Slices ![k, 0] S1x1024
  m512x64 : S6x512x64.Slices ![k, 0, 0] S1x512x64
  m64x512 : S6x64x512.Slices ![k, 0, 0] S1x64x512
  m512x1024 : S6x512x1024.Slices ![k, 0, 0] S1x512x1024
  m1024x512 : S6x1024x512.Slices ![k, 0, 0] S1x1024x512

/-- Layer `k`'s weights. -/
def Stack.at (s : Stack F) (k : ℕ) (h : Cut k) : Weights F where
  ga := shapeCast S512 (extractStridedSlice S1x512 ![k, 0] s.ga h.r512) shapeCasts_S1x512_S512
  ba := shapeCast S512 (extractStridedSlice S1x512 ![k, 0] s.ba h.r512) shapeCasts_S1x512_S512
  A := shapeCast S64 (extractStridedSlice S1x64 ![k, 0] s.A h.r64) shapeCasts_S1x64_S64
  Bm := shapeCast S512x64 (extractStridedSlice S1x512x64 ![k, 0, 0] s.Bm h.m512x64) shapeCasts_S1x512x64_S512x64
  Cf := shapeCast S64x512 (extractStridedSlice S1x64x512 ![k, 0, 0] s.Cf h.m64x512) shapeCasts_S1x64x512_S64x512
  Cb := shapeCast S64x512 (extractStridedSlice S1x64x512 ![k, 0, 0] s.Cb h.m64x512) shapeCasts_S1x64x512_S64x512
  D := shapeCast S512 (extractStridedSlice S1x512 ![k, 0] s.D h.r512) shapeCasts_S1x512_S512
  gf := shapeCast S512 (extractStridedSlice S1x512 ![k, 0] s.gf h.r512) shapeCasts_S1x512_S512
  bf := shapeCast S512 (extractStridedSlice S1x512 ![k, 0] s.bf h.r512) shapeCasts_S1x512_S512
  W1 := shapeCast S512x1024 (extractStridedSlice S1x512x1024 ![k, 0, 0] s.W1 h.m512x1024) shapeCasts_S1x512x1024_S512x1024
  b1 := shapeCast S1024 (extractStridedSlice S1x1024 ![k, 0] s.b1 h.r1024) shapeCasts_S1x1024_S1024
  W2 := shapeCast S1024x512 (extractStridedSlice S1x1024x512 ![k, 0, 0] s.W2 h.m1024x512) shapeCasts_S1x1024x512_S1024x512
  b2 := shapeCast S512 (extractStridedSlice S1x512 ![k, 0] s.b2 h.r512) shapeCasts_S1x512_S512

/-- The buffers of the cuts before their unit axis is dropped. -/
structure CutRefs where
  ga : TRef sig ⟨S1x512, .f32⟩
  ba : TRef sig ⟨S1x512, .f32⟩
  A : TRef sig ⟨S1x64, .f32⟩
  Bm : TRef sig ⟨S1x512x64, .f32⟩
  Cf : TRef sig ⟨S1x64x512, .f32⟩
  Cb : TRef sig ⟨S1x64x512, .f32⟩
  D : TRef sig ⟨S1x512, .f32⟩
  gf : TRef sig ⟨S1x512, .f32⟩
  bf : TRef sig ⟨S1x512, .f32⟩
  W1 : TRef sig ⟨S1x512x1024, .f32⟩
  b1 : TRef sig ⟨S1x1024, .f32⟩
  W2 : TRef sig ⟨S1x1024x512, .f32⟩
  b2 : TRef sig ⟨S1x512, .f32⟩

/-- One weight's cut: a slice, then its unit axis dropped. -/
def cutF {T1 T2 T3 : BufTy} (x : TRef sig T1) (y : TRef sig T2) (z : TRef sig T3) (f : T1.Contents (Elt F) → T2.Contents (Elt F))
    (he : T2.elt = T3.elt) (hn : T2.shape.ShapeCasts T3.shape) : Frag F :=
  ((unF x y f).then' (shapeF y z he hn)).weaken (fun U => val z U = fun i => he ▸ shapeCast T3.shape (f (val x U)) hn i) fun U h => by
    obtain ⟨h0, h1⟩ := h
    rw [show val z U = _ from h1, show val y U = _ from h0]

/-- The cuts' fragment. -/
def cutsF (k : ℕ) (h : Cut k) (c : CutRefs) (w : WRefs) : Frag F :=
  (Frag.seqs [cutF (T1 := ⟨S6x512, .f32⟩) (.of main_arg9) c.ga w.ga (extractStridedSlice S1x512 ![k, 0] · h.r512) rfl shapeCasts_S1x512_S512,
      cutF (T1 := ⟨S6x512, .f32⟩) (.of main_arg10) c.ba w.ba (extractStridedSlice S1x512 ![k, 0] · h.r512) rfl shapeCasts_S1x512_S512,
      cutF (T1 := ⟨S6x64, .f32⟩) (.of main_arg11) c.A w.A (extractStridedSlice S1x64 ![k, 0] · h.r64) rfl shapeCasts_S1x64_S64,
      cutF (T1 := ⟨S6x512x64, .f32⟩) (.of main_arg12) c.Bm w.Bm (extractStridedSlice S1x512x64 ![k, 0, 0] · h.m512x64) rfl shapeCasts_S1x512x64_S512x64,
      cutF (T1 := ⟨S6x64x512, .f32⟩) (.of main_arg13) c.Cf w.Cf (extractStridedSlice S1x64x512 ![k, 0, 0] · h.m64x512) rfl shapeCasts_S1x64x512_S64x512,
      cutF (T1 := ⟨S6x64x512, .f32⟩) (.of main_arg14) c.Cb w.Cb (extractStridedSlice S1x64x512 ![k, 0, 0] · h.m64x512) rfl shapeCasts_S1x64x512_S64x512,
      cutF (T1 := ⟨S6x512, .f32⟩) (.of main_arg15) c.D w.D (extractStridedSlice S1x512 ![k, 0] · h.r512) rfl shapeCasts_S1x512_S512,
      cutF (T1 := ⟨S6x512, .f32⟩) (.of main_arg16) c.gf w.gf (extractStridedSlice S1x512 ![k, 0] · h.r512) rfl shapeCasts_S1x512_S512,
      cutF (T1 := ⟨S6x512, .f32⟩) (.of main_arg17) c.bf w.bf (extractStridedSlice S1x512 ![k, 0] · h.r512) rfl shapeCasts_S1x512_S512,
      cutF (T1 := ⟨S6x512x1024, .f32⟩) (.of main_arg18) c.W1 w.W1 (extractStridedSlice S1x512x1024 ![k, 0, 0] · h.m512x1024) rfl shapeCasts_S1x512x1024_S512x1024,
      cutF (T1 := ⟨S6x1024, .f32⟩) (.of main_arg19) c.b1 w.b1 (extractStridedSlice S1x1024 ![k, 0] · h.r1024) rfl shapeCasts_S1x1024_S1024,
      cutF (T1 := ⟨S6x1024x512, .f32⟩) (.of main_arg20) c.W2 w.W2 (extractStridedSlice S1x1024x512 ![k, 0, 0] · h.m1024x512) rfl shapeCasts_S1x1024x512_S1024x512]
    (cutF (T1 := ⟨S6x512, .f32⟩) (.of main_arg21) c.b2 w.b2 (extractStridedSlice S1x512 ![k, 0] · h.r512) rfl shapeCasts_S1x512_S512)).weaken
    (fun U => w.vals U = (stackOf U).at k h) fun U e => by
      obtain ⟨h0, h1, h2, h3, h4, h5, h6, h7, h8, h9, h10, h11, h12⟩ := e
      unfold WRefs.vals
      rw [show val w.ga U = _ from h0, show val w.ba U = _ from h1, show val w.A U = _ from h2, show val w.Bm U = _ from h3,
        show val w.Cf U = _ from h4, show val w.Cb U = _ from h5, show val w.D U = _ from h6, show val w.gf U = _ from h7,
        show val w.bf U = _ from h8, show val w.W1 U = _ from h9, show val w.b1 U = _ from h10, show val w.W2 U = _ from h11,
        show val w.b2 U = _ from h12]
      rfl

/-- The cuts and the layer. -/
def stepF (k : ℕ) (h : Cut k) (c : CutRefs) (a0 : TRef sig ⟨S16x2048x512, .f32⟩) (a1 : TRef sig ⟨S16x2048x1, .f32⟩) (w : WRefs) (φ : fn_layer.Bufs)
    (hl : HasLoops F w φ) : Frag F :=
  ((cutsF k h c w).then' (layerF a0 a1 w φ hl)).weaken (fun U => val φ.v53 U = layerFn ((stackOf U).at k h) (val a1 U) (val a0 U)) fun U e => by
    obtain ⟨h0, h1⟩ := e
    rw [show val φ.v53 U = _ from h1, show w.vals U = _ from h0]

end Cert.ReferenceIdeal.Frags

end
-- ==== Proof.RefMain.lean ====
/- The whole reference as one fragment, and the function it computes. -/
module

public import proofs.«01_k».proof.Proof.RefLayer

@[expose] public section

noncomputable section

namespace Cert.ReferenceIdeal.Frags

open Idealize.ShloMosaic Idealize.ShloMosaic.StableHlo
open Idealize.SL.Sem Facts₀ Facts

variable {F : FTy → Type} [FloatOps F] [Facts]

/-! ## The buffers of the six layers -/

/-- The buffers of layer 0's cuts. -/
abbrev cuts0 : CutRefs :=
  ⟨.of main_v20, .of main_v22, .of main_v24, .of main_v26, .of main_v28, .of main_v30, .of main_v32, .of main_v34, .of main_v36, .of main_v38, .of main_v40, .of main_v42, .of main_v44⟩
/-- The buffers of layer 0's weights. -/
abbrev ws0 : WRefs :=
  ⟨.of main_v21, .of main_v23, .of main_v25, .of main_v27, .of main_v29, .of main_v31, .of main_v33, .of main_v35, .of main_v37, .of main_v39, .of main_v41, .of main_v43, .of main_v45⟩
/-- The buffers of layer 1's cuts. -/
abbrev cuts1 : CutRefs :=
  ⟨.of main_v47, .of main_v49, .of main_v51, .of main_v53, .of main_v55, .of main_v57, .of main_v59, .of main_v61, .of main_v63, .of main_v65, .of main_v67, .of main_v69, .of main_v71⟩
/-- The buffers of layer 1's weights. -/
abbrev ws1 : WRefs :=
  ⟨.of main_v48, .of main_v50, .of main_v52, .of main_v54, .of main_v56, .of main_v58, .of main_v60, .of main_v62, .of main_v64, .of main_v66, .of main_v68, .of main_v70, .of main_v72⟩
/-- The buffers of layer 2's cuts. -/
abbrev cuts2 : CutRefs :=
  ⟨.of main_v74, .of main_v76, .of main_v78, .of main_v80, .of main_v82, .of main_v84, .of main_v86, .of main_v88, .of main_v90, .of main_v92, .of main_v94, .of main_v96, .of main_v98⟩
/-- The buffers of layer 2's weights. -/
abbrev ws2 : WRefs :=
  ⟨.of main_v75, .of main_v77, .of main_v79, .of main_v81, .of main_v83, .of main_v85, .of main_v87, .of main_v89, .of main_v91, .of main_v93, .of main_v95, .of main_v97, .of main_v99⟩
/-- The buffers of layer 3's cuts. -/
abbrev cuts3 : CutRefs :=
  ⟨.of main_v101, .of main_v103, .of main_v105, .of main_v107, .of main_v109, .of main_v111, .of main_v113, .of main_v115, .of main_v117, .of main_v119, .of main_v121, .of main_v123, .of main_v125⟩
/-- The buffers of layer 3's weights. -/
abbrev ws3 : WRefs :=
  ⟨.of main_v102, .of main_v104, .of main_v106, .of main_v108, .of main_v110, .of main_v112, .of main_v114, .of main_v116, .of main_v118, .of main_v120, .of main_v122, .of main_v124, .of main_v126⟩
/-- The buffers of layer 4's cuts. -/
abbrev cuts4 : CutRefs :=
  ⟨.of main_v128, .of main_v130, .of main_v132, .of main_v134, .of main_v136, .of main_v138, .of main_v140, .of main_v142, .of main_v144, .of main_v146, .of main_v148, .of main_v150, .of main_v152⟩
/-- The buffers of layer 4's weights. -/
abbrev ws4 : WRefs :=
  ⟨.of main_v129, .of main_v131, .of main_v133, .of main_v135, .of main_v137, .of main_v139, .of main_v141, .of main_v143, .of main_v145, .of main_v147, .of main_v149, .of main_v151, .of main_v153⟩
/-- The buffers of layer 5's cuts. -/
abbrev cuts5 : CutRefs :=
  ⟨.of main_v155, .of main_v157, .of main_v159, .of main_v161, .of main_v163, .of main_v165, .of main_v167, .of main_v169, .of main_v171, .of main_v173, .of main_v175, .of main_v177, .of main_v179⟩
/-- The buffers of layer 5's weights. -/
abbrev ws5 : WRefs :=
  ⟨.of main_v156, .of main_v158, .of main_v160, .of main_v162, .of main_v164, .of main_v166, .of main_v168, .of main_v170, .of main_v172, .of main_v174, .of main_v176, .of main_v178, .of main_v180⟩

/-- Every layer's cuts fit. -/
theorem cut (k : ℕ) (h : k < 6) : Cut k := by
  rcases k with _ | _ | _ | _ | _ | _ | k
  · exact ⟨slices_S6x512_S1x512_0_0, slices_S6x64_S1x64_0_0, slices_S6x1024_S1x1024_0_0, slices_S6x512x64_S1x512x64_0_0_0,
      slices_S6x64x512_S1x64x512_0_0_0, slices_S6x512x1024_S1x512x1024_0_0_0, slices_S6x1024x512_S1x1024x512_0_0_0⟩
  · exact ⟨slices_S6x512_S1x512_1_0, slices_S6x64_S1x64_1_0, slices_S6x1024_S1x1024_1_0, slices_S6x512x64_S1x512x64_1_0_0,
      slices_S6x64x512_S1x64x512_1_0_0, slices_S6x512x1024_S1x512x1024_1_0_0, slices_S6x1024x512_S1x1024x512_1_0_0⟩
  · exact ⟨slices_S6x512_S1x512_2_0, slices_S6x64_S1x64_2_0, slices_S6x1024_S1x1024_2_0, slices_S6x512x64_S1x512x64_2_0_0,
      slices_S6x64x512_S1x64x512_2_0_0, slices_S6x512x1024_S1x512x1024_2_0_0, slices_S6x1024x512_S1x1024x512_2_0_0⟩
  · exact ⟨slices_S6x512_S1x512_3_0, slices_S6x64_S1x64_3_0, slices_S6x1024_S1x1024_3_0, slices_S6x512x64_S1x512x64_3_0_0,
      slices_S6x64x512_S1x64x512_3_0_0, slices_S6x512x1024_S1x512x1024_3_0_0, slices_S6x1024x512_S1x1024x512_3_0_0⟩
  · exact ⟨slices_S6x512_S1x512_4_0, slices_S6x64_S1x64_4_0, slices_S6x1024_S1x1024_4_0, slices_S6x512x64_S1x512x64_4_0_0,
      slices_S6x64x512_S1x64x512_4_0_0, slices_S6x512x1024_S1x512x1024_4_0_0, slices_S6x1024x512_S1x1024x512_4_0_0⟩
  · exact ⟨slices_S6x512_S1x512_5_0, slices_S6x64_S1x64_5_0, slices_S6x1024_S1x1024_5_0, slices_S6x512x64_S1x512x64_5_0_0,
      slices_S6x64x512_S1x64x512_5_0_0, slices_S6x512x1024_S1x512x1024_5_0_0, slices_S6x1024x512_S1x1024x512_5_0_0⟩
  · omega

/-! ## The function computed -/

/-- The arguments besides the layers' weights. -/
structure Head (F : FTy → Type) [FloatOps F] where
  x : (⟨S16x2048x128, .f32⟩ : BufTy).Contents (Elt F)
  len : (⟨S16, .i32⟩ : BufTy).Contents (Elt F)
  g1 : (⟨S128, .f32⟩ : BufTy).Contents (Elt F)
  b1 : (⟨S128, .f32⟩ : BufTy).Contents (Elt F)
  W : (⟨S128x512, .f32⟩ : BufTy).Contents (Elt F)
  b : (⟨S512, .f32⟩ : BufTy).Contents (Elt F)
  g2 : (⟨S512, .f32⟩ : BufTy).Contents (Elt F)
  b2 : (⟨S512, .f32⟩ : BufTy).Contents (Elt F)
  pos : (⟨S1x2048x512, .f32⟩ : BufTy).Contents (Elt F)

/-- What @main's arguments hold of them. -/
def headOf (U : Bufs F) : Head F :=
  ⟨val (.of main_arg0) U, val (.of main_arg1) U, val (.of main_arg2) U, val (.of main_arg3) U, val (.of main_arg4) U, val (.of main_arg5) U,
    val (.of main_arg6) U, val (.of main_arg7) U, val (.of main_arg8) U⟩

/-- The mask of the valid rows. -/
def validFn (len : (⟨S16, .i32⟩ : BufTy).Contents (Elt F)) : (⟨S16x2048x1, .f32⟩ : BufTy).Contents (Elt F) :=
  broadcastInDim S16x2048x1 ![0, 1] bcast_S16x2048_S16x2048x1_0_1 (uitofp .f32 (cmpi .slt
    (broadcastInDim S16x2048 ![0, 1] bcast_S1x2048_S16x2048_0_1 (broadcastInDim S1x2048 ![1] bcast_S2048_S1x2048_1 (iotaInDim S2048 32 0)))
    (broadcastInDim S16x2048 ![0, 1] bcast_S16x1_S16x2048_0_1 (broadcastInDim S16x1 ![0] bcast_S16_S16x1_0 len))))

/-- The embedded rows. -/
def embedFn (p : Head F) : (⟨S16x2048x512, .f32⟩ : BufTy).Contents (Elt F) :=
  mulf (addf (lnFn wide512 0x44000000#32
      (addf (Host.dotGeneral dot_S16x2048x128_S128x512_S16x2048x512_2_0_01_1_n_n none
        (lnFn wide128 0x43000000#32 (mulf p.x (broadcastInDim S16x2048x128 ![0, 1, 2] bcast_S16x2048x1_S16x2048x128_0_1_2 (validFn p.len))) p.g1 p.b1) p.W)
        (rowFn wide512 p.b)) p.g2 p.b2)
    (broadcastInDim S16x2048x512 ![0, 1, 2] bcast_S1x2048x512_S16x2048x512_0_1_2 p.pos)) (maskFn (validFn p.len))

/-- The rows before layer `k`. -/
def stateFn (p : Head F) (s : Stack F) : ℕ → (⟨S16x2048x512, .f32⟩ : BufTy).Contents (Elt F)
  | 0 => embedFn p
  | k + 1 => if h : k < 6 then layerFn (s.at k (cut k h)) (validFn p.len) (stateFn p s k) else stateFn p s k

/-- A layer takes the rows before it to the rows after it. -/
theorem stateFn_succ (p : Head F) (s : Stack F) (k : ℕ) (h : k < 6) :
    stateFn p s (k + 1) = layerFn (s.at k (cut k h)) (validFn p.len) (stateFn p s k) := dif_pos h

/-! ## The program's fragment -/

/-- The embedding's fragment. -/
def headF : Frag F :=
  (Frag.seqs [nullF (Ty := ⟨S2048, .i32⟩) (.of main_v0) (iotaInDim S2048 32 0),
      unF (Tx := ⟨S2048, .i32⟩) (Ty := ⟨S1x2048, .i32⟩) (.of main_v0) (.of main_v1) (broadcastInDim S1x2048 ![1] bcast_S2048_S1x2048_1),
      unF (Tx := ⟨S16, .i32⟩) (Ty := ⟨S16x1, .i32⟩) (.of main_arg1) (.of main_v2) (broadcastInDim S16x1 ![0] bcast_S16_S16x1_0),
      unF (Tx := ⟨S1x2048, .i32⟩) (Ty := ⟨S16x2048, .i32⟩) (.of main_v1) (.of main_v3) (broadcastInDim S16x2048 ![0, 1] bcast_S1x2048_S16x2048_0_1),
      unF (Tx := ⟨S16x1, .i32⟩) (Ty := ⟨S16x2048, .i32⟩) (.of main_v2) (.of main_v4) (broadcastInDim S16x2048 ![0, 1] bcast_S16x1_S16x2048_0_1),
      binF (Ta := ⟨S16x2048, .i32⟩) (Tb := ⟨S16x2048, .i32⟩) (Ty := ⟨S16x2048, .i1⟩) (.of main_v3) (.of main_v4) (.of main_v5) (cmpi .slt),
      unF (Tx := ⟨S16x2048, .i1⟩) (Ty := ⟨S16x2048, .f32⟩) (.of main_v5) (.of main_v6) (uitofp .f32),
      unF (Tx := ⟨S16x2048, .f32⟩) (Ty := ⟨S16x2048x1, .f32⟩) (.of main_v6) (.of main_v7) (broadcastInDim S16x2048x1 ![0, 1] bcast_S16x2048_S16x2048x1_0_1),
      unF (Tx := ⟨S16x2048x1, .f32⟩) (Ty := ⟨S16x2048x128, .f32⟩) (.of main_v7) (.of main_v8) (broadcastInDim S16x2048x128 ![0, 1, 2] bcast_S16x2048x1_S16x2048x128_0_1_2),
      binF (Ta := ⟨S16x2048x128, .f32⟩) (Tb := ⟨S16x2048x128, .f32⟩) (Ty := ⟨S16x2048x128, .f32⟩) (.of main_arg0) (.of main_v8) (.of main_v9) mulf,
      lnF wide128 0x43000000#32 (.of main_v9) (.of main_arg2) (.of main_arg3) (ln128 main_call0),
      binF (Ta := ⟨S16x2048x128, .f32⟩) (Tb := ⟨S128x512, .f32⟩) (Ty := ⟨S16x2048x512, .f32⟩) (.of main_v10) (.of main_arg4) (.of main_v11)
        (fun l r => Host.dotGeneral dot_S16x2048x128_S128x512_S16x2048x512_2_0_01_1_n_n none l r),
      unF (Tx := ⟨S512, .f32⟩) (Ty := ⟨S1x1x512, .f32⟩) (.of main_arg5) (.of main_v12) (broadcastInDim S1x1x512 ![2] bcast_S512_S1x1x512_2),
      unF (Tx := ⟨S1x1x512, .f32⟩) (Ty := ⟨S16x2048x512, .f32⟩) (.of main_v12) (.of main_v13) (broadcastInDim S16x2048x512 ![0, 1, 2] bcast_S1x1x512_S16x2048x512_0_1_2),
      binF (Ta := ⟨S16x2048x512, .f32⟩) (Tb := ⟨S16x2048x512, .f32⟩) (Ty := ⟨S16x2048x512, .f32⟩) (.of main_v11) (.of main_v13) (.of main_v14) addf,
      lnF wide512 0x44000000#32 (.of main_v14) (.of main_arg6) (.of main_arg7) (ln512 main_call1),
      unF (Tx := ⟨S1x2048x512, .f32⟩) (Ty := ⟨S16x2048x512, .f32⟩) (.of main_arg8) (.of main_v16) (broadcastInDim S16x2048x512 ![0, 1, 2] bcast_S1x2048x512_S16x2048x512_0_1_2),
      binF (Ta := ⟨S16x2048x512, .f32⟩) (Tb := ⟨S16x2048x512, .f32⟩) (Ty := ⟨S16x2048x512, .f32⟩) (.of main_v15) (.of main_v16) (.of main_v17) addf,
      unF (Tx := ⟨S16x2048x1, .f32⟩) (Ty := ⟨S16x2048x512, .f32⟩) (.of main_v7) (.of main_v18) (broadcastInDim S16x2048x512 ![0, 1, 2] bcast_S16x2048x1_S16x2048x512_0_1_2)]
    (binF (Ta := ⟨S16x2048x512, .f32⟩) (Tb := ⟨S16x2048x512, .f32⟩) (Ty := ⟨S16x2048x512, .f32⟩) (.of main_v17) (.of main_v18) (.of main_v19) mulf)).weaken
    (fun U => val (T := ⟨S16x2048x1, .f32⟩) (.of main_v7) U = validFn (headOf U).len ∧ val (T := ⟨S16x2048x512, .f32⟩) (.of main_v19) U = embedFn (headOf U)) fun U h => by
      obtain ⟨h0, h1, h2, h3, h4, h5, h6, h7, h8, h9, h10, h11, h12, h13, h14, h15, h16, h17, h18, h19⟩ := h
      have k7 : val (T := ⟨S16x2048x1, .f32⟩) (.of main_v7) U = validFn (headOf U).len := by
        rw [show val (T := ⟨S16x2048x1, .f32⟩) (.of main_v7) U = _ from h7, show val (T := ⟨S16x2048, .f32⟩) (.of main_v6) U = _ from h6,
          show val (T := ⟨S16x2048, .i1⟩) (.of main_v5) U = _ from h5, show val (T := ⟨S16x2048, .i32⟩) (.of main_v4) U = _ from h4,
          show val (T := ⟨S16x2048, .i32⟩) (.of main_v3) U = _ from h3, show val (T := ⟨S16x1, .i32⟩) (.of main_v2) U = _ from h2,
          show val (T := ⟨S1x2048, .i32⟩) (.of main_v1) U = _ from h1, show val (T := ⟨S2048, .i32⟩) (.of main_v0) U = _ from h0]
        rfl
      refine ⟨k7, ?_⟩
      rw [show val (T := ⟨S16x2048x512, .f32⟩) (.of main_v19) U = _ from h19, show val (T := ⟨S16x2048x512, .f32⟩) (.of main_v18) U = _ from h18,
        show val (T := ⟨S16x2048x512, .f32⟩) (.of main_v17) U = _ from h17, show val (T := ⟨S16x2048x512, .f32⟩) (.of main_v16) U = _ from h16,
        show val (T := ⟨S16x2048x512, .f32⟩) (.of main_v15) U = _ from h15, show val (T := ⟨S16x2048x512, .f32⟩) (.of main_v14) U = _ from h14,
        show val (T := ⟨S16x2048x512, .f32⟩) (.of main_v13) U = _ from h13, show val (T := ⟨S1x1x512, .f32⟩) (.of main_v12) U = _ from h12,
        show val (T := ⟨S16x2048x512, .f32⟩) (.of main_v11) U = _ from h11, show val (T := ⟨S16x2048x128, .f32⟩) (.of main_v10) U = _ from h10,
        show val (T := ⟨S16x2048x128, .f32⟩) (.of main_v9) U = _ from h9, show val (T := ⟨S16x2048x128, .f32⟩) (.of main_v8) U = _ from h8, k7]
      rfl

/-- The program's fragment. -/
def mainF : Frag F :=
  (Frag.seqs [headF,
      stepF 0 (cut 0 (by decide)) cuts0 (.of main_v19) (.of main_v7) ws0 main_call2 ⟨rfl, rfl⟩,
      stepF 1 (cut 1 (by decide)) cuts1 (.of main_v46) (.of main_v7) ws1 main_call3 ⟨rfl, rfl⟩,
      stepF 2 (cut 2 (by decide)) cuts2 (.of main_v73) (.of main_v7) ws2 main_call4 ⟨rfl, rfl⟩,
      stepF 3 (cut 3 (by decide)) cuts3 (.of main_v100) (.of main_v7) ws3 main_call5 ⟨rfl, rfl⟩,
      stepF 4 (cut 4 (by decide)) cuts4 (.of main_v127) (.of main_v7) ws4 main_call6 ⟨rfl, rfl⟩]
    (stepF 5 (cut 5 (by decide)) cuts5 (.of main_v154) (.of main_v7) ws5 main_call7 ⟨rfl, rfl⟩)).weaken
    (fun U => val (T := ⟨S16x2048x512, .f32⟩) (.of main_v181) U = stateFn (headOf U) (stackOf U) 6) fun U h => by
      obtain ⟨⟨h7, e⟩, h0, h1, h2, h3, h4, h5⟩ := h
      rw [show val (T := ⟨S16x2048x512, .f32⟩) (.of main_v181) U = _ from h5, show val (T := ⟨S16x2048x512, .f32⟩) (.of main_v154) U = _ from h4,
        show val (T := ⟨S16x2048x512, .f32⟩) (.of main_v127) U = _ from h3, show val (T := ⟨S16x2048x512, .f32⟩) (.of main_v100) U = _ from h2,
        show val (T := ⟨S16x2048x512, .f32⟩) (.of main_v73) U = _ from h1, show val (T := ⟨S16x2048x512, .f32⟩) (.of main_v46) U = _ from h0, h7, e]
      rw [stateFn_succ _ _ 5 (by decide), stateFn_succ _ _ 4 (by decide), stateFn_succ _ _ 3 (by decide), stateFn_succ _ _ 2 (by decide),
        stateFn_succ _ _ 1 (by decide), stateFn_succ _ _ 0 (by decide)]
      rfl

/-- The buffers are numbered in the program's order. -/
theorem mainF_ok : (mainF (F := F)).ok = true := by rfl

set_option maxHeartbeats 4000000 in
/-- @main is the fragment's items. -/
theorem mainF_prog (d : Dev nD) : main (F := F) d = Pipeline.chain (mainF (F := F)).ps := by chain_rfl

end Cert.ReferenceIdeal.Frags

end
-- ==== Proof.RefRun.lean ====
/- The run of the reference: it ends, its result is the function of its arguments, its arguments and semaphores are as they were. -/
module

public import proofs.«01_k».proof.Proof.RefMain

@[expose] public section

noncomputable section

namespace Cert.ReferenceIdeal.Frags

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs sub_ucRefs)
open TcCoe

variable {F : FTy → Type} [FloatOps F] [Facts]

/-- A program that is a list of items taking the launch contents to `W` ends, with every buffer at `W`. -/
theorem Piece.ends [∀ e, Nonempty (Elt F e)] {ps : List (Item F)} (m : (ℓ : Loc nD τ sig) → Buf (Elt F) ℓ) (ρ : Dev nD → PrngReg)
    {W : Dev nD → Bufs F} (h : Piece ps (launchContents m) W) (hm : ∀ d, main (F := F) d = Pipeline.chain ps) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = W c (Proc.devRef .tc b)) := by
  obtain ⟨segs, hp, hc⟩ := h
  exact Pipeline.θ_run_regions_loop_kit (Ix := Unit) (Name := ℕ) (U := Option PUnit) (Lvl := ℕ) (J := Fin 0) (P := Fin 0) (Val := Elt F)
    (pcfgs (F := F)) noAdm (fun k => k.1.elim0) defs₀ Variants.none noIx zeroLv loops noTk m ρ main segs
    (fun c Q => by
      rw [hm c, ← hp]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := At (launchContents m))
    (Tₙ := fun c => iprop(held (c : Thread nD τ) (ucRefs τ sig) (W c)))
    (hch := hc)
    (hinit := by
      refine Pipeline.initEach noIx zeroLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W c b)
    (hfin := fun c s' => by
      unfold held
      iintro ⟨Hh, HSI⟩
      ihave Hr := (pointsTo_read_all (ucRefs τ sig) (fun b => ((c : Dev nD), b)) (fun b => W c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- A reading of the run's end at the argument and result buffers. -/
structure Ends (m m' : (ℓ : Loc nD τ sig) → Buf (Elt F) ℓ) (c : Dev nD) : Prop where
  arg : ∀ r : Ref sig .tc, key r < 22 → (Proc.devRef .tc r : DevRef τ sig).isScoped = false → m' ((c.tc : Thread nD τ).loc r) = m ((c.tc : Thread nD τ).loc r)
  res : m' ((c.tc : Thread nD τ).loc main_v181) = stateFn (headOf (launchContents m c)) (stackOf (launchContents m c)) 6

set_option maxHeartbeats 4000000 in
/-- The reference's run. -/
theorem run [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, Ends m r.2.mem c) ∧ r.2.sem = fun _ => 0) := by
  refine (θ_run _ _ _).mono (fun r hr => ?_) (Piece.ends m ρ ((mainF (F := F)).run mainF_ok _) mainF_prog)
  refine ⟨fun c => ⟨fun b hb hs => ?_, ?_⟩, sem_eq_zero_of_no_sems rfl _⟩
  · rw [hr c b hs, (mainF (F := F)).fr mainF_ok _ b (Or.inl hb)]
  · rw [hr c main_v181 rfl]
    have e := (mainF (F := F)).self mainF_ok (launchContents m c)
    have hk : ∀ r : Ref sig .tc, key r < 22 → (mainF (F := F)).T (launchContents m c) (Proc.devRef .tc r) = launchContents m c (Proc.devRef .tc r) :=
      fun r hr => (mainF (F := F)).fr mainF_ok _ r (Or.inl hr)
    have e1 : headOf ((mainF (F := F)).T (launchContents m c)) = headOf (launchContents m c) := by
      unfold headOf val
      rw [hk main_arg0 (by decide), hk main_arg1 (by decide), hk main_arg2 (by decide), hk main_arg3 (by decide), hk main_arg4 (by decide),
        hk main_arg5 (by decide), hk main_arg6 (by decide), hk main_arg7 (by decide), hk main_arg8 (by decide)]
    have e2 : stackOf ((mainF (F := F)).T (launchContents m c)) = stackOf (launchContents m c) := by
      unfold stackOf val
      rw [hk main_arg9 (by decide), hk main_arg10 (by decide), hk main_arg11 (by decide), hk main_arg12 (by decide), hk main_arg13 (by decide),
        hk main_arg14 (by decide), hk main_arg15 (by decide), hk main_arg16 (by decide), hk main_arg17 (by decide), hk main_arg18 (by decide),
        hk main_arg19 (by decide), hk main_arg20 (by decide), hk main_arg21 (by decide)]
    exact (show val (T := ⟨S16x2048x512, .f32⟩) (.of main_v181) _ = _ from e).trans (by rw [e1, e2])

end Cert.ReferenceIdeal.Frags

end
-- ==== Proof.RefValue.lean ====
/- The reference's functions, read coordinate by coordinate over the extended reals. -/
module

public import proofs.«01_k».proof.Proof.RefMain
public import proofs.«01_k».proof.Proof.Spec
public import Idealize.ShloMosaic.Lib.Pointwise.IndexVar

@[expose] public section

set_option maxRecDepth 16384

noncomputable section

namespace Cert.ReferenceIdeal.Frags

open Idealize.ShloMosaic Cert.Spec
open Facts₀ Facts

variable [Facts]

/-- One batch element's mask. -/
def maskOf (X : FVec Ideal S16x2048x1 .f32) (b : Fin 16) (t : Fin 2048) : EReal := X (ix3 b t 0)

/-! ## Normalisation -/

/-- A row's mean. -/
theorem meanFn_at {n : ℕ} (w : Wide n) (cnt : BitVec 32) (X : FVec Ideal (Rows n) .f32) (b : Fin 16) (t : Fin 2048) (i : Fin 1) :
    meanFn (F := Ideal) w cnt X (ix3 b t i) = mean cnt (slab X b t) := by
  pointwise [meanFn, mean, slab]

/-- A row's variance. -/
theorem varFn_at {n : ℕ} (w : Wide n) (cnt : BitVec 32) (hc : 0 < Ideal.ofBits .f32 cnt) (X : FVec Ideal (Rows n) .f32) (b : Fin 16) (t : Fin 2048) (i : Fin 1) :
    varFn (F := Ideal) w cnt X (constantI S_ 32 0#32) (ix3 b t i) = var cnt (slab X b t) := by
  have e : (FloatOps.sitofp .f32 (0#32) : Ideal .f32) = (0 : EReal) := by
    show (((0#32 : BitVec 32).toInt : ℝ) : EReal) = 0
    simp
  pointwise [varFn, whereFn, meanFn, var, dev, mean, slab]
  rw [e, sub_zero, if_pos hc]

/-- A vector of width 512 along every row. -/
theorem row512 (g : FVec Ideal (Vect 512) .f32) (b : Fin 16) (t : Fin 2048) (k : Fin 512) :
    rowFn (F := Ideal) wide512 g (ix3 b t k) = ent g k := by
  pointwise [rowFn, ent]

/-- A vector of width 128 along every row. -/
theorem row128 (g : FVec Ideal (Vect 128) .f32) (b : Fin 16) (t : Fin 2048) (k : Fin 128) :
    rowFn (F := Ideal) wide128 g (ix3 b t k) = ent g k := by
  pointwise [rowFn, ent]

/-- The normalised rows of one batch element. -/
theorem lnFn_at {n : ℕ} (w : Wide n) (cnt : BitVec 32) (hc : 0 < Ideal.ofBits .f32 cnt) (b : Fin 16)
    (hr : ∀ (g : FVec Ideal (Vect n) .f32) t k, rowFn (F := Ideal) w g (ix3 b t k) = ent g k) (X : FVec Ideal (Rows n) .f32) (g β : FVec Ideal (Vect n) .f32) :
    slab (lnFn (F := Ideal) w cnt X g β) b = lnRows cnt (ent g) (ent β) (slab X b) := by
  funext t k
  refine Eq.trans ?_ (ln_div hc _ _ _ _)
  pointwise [lnFn, slab, hr, meanFn_at, varFn_at w cnt hc, dev, eps]

/-- The activation at one entry. -/
theorem geluFn_at {n : ℕ} (hb : S_.BroadcastsInDim (Rows n) (![] : Fin 0 → Fin (Rows n).rank)) (X : FVec Ideal (Rows n) .f32) (b : Fin 16) (t : Fin 2048) (i : Fin n) :
    slab (geluFn (F := Ideal) hb X) b t i = gelu (slab X b t i) := by
  pointwise! [geluFn, gelu, fillFn, slab]

/-- The mask of the valid rows. -/
theorem validFn_at (len : IVec S16 32) (b : Fin 16) :
    maskOf (validFn (F := Ideal) len) b = valid (len (ix1 b)) := by
  funext t
  pointwise [validFn, maskOf, valid]

/-! ## The recurrence -/

/-- A trip's start, clamped into the array, is row `k`. -/
theorem start_at (k : ℕ) (hk : k < 2048) (ht : S1x16x64.rank = S2048x16x64.rank) (f : Fin 3 → Int)
    (hf : f = fun j => (start (F := Ideal) (ctr (F := Ideal) k) j (Shape.Idx.first h_S_)).toInt) :
    Host.clampedStart S2048x16x64 S1x16x64 ht f 0 = k ∧ Host.clampedStart S2048x16x64 S1x16x64 ht f 1 = 0 ∧
      Host.clampedStart S2048x16x64 S1x16x64 ht f 2 = 0 := by
  subst hf
  refine ⟨Host.clampedStart_of_le _ _ _ _ ?_ ?_, Host.clampedStart_of_le _ _ _ _ ?_ ?_, Host.clampedStart_of_le _ _ _ _ ?_ ?_⟩
  · show (0#32 + BitVec.ofNat 32 k * 1#32).toInt = (k : Int)
    rw [BitVec.mul_one, BitVec.zero_add, BitVec.toInt_eq_toNat_of_lt] <;> rw [BitVec.toNat_ofNat, Nat.mod_eq_of_lt (by omega)]
    omega
  · show k + 1 ≤ 2048
    omega
  · show (0#32 : BitVec 32).toInt = 0
    rfl
  · show 0 + 16 ≤ 16
    omega
  · show (0#32 : BitVec 32).toInt = 0
    rfl
  · show 0 + 64 ≤ 64
    omega

/-- The row a trip reads. -/
theorem idxFn_at (X : FVec Ideal S16x2048x64 .f32) (k : ℕ) (hk : k < 2048) (b : Fin 16) (n : Fin 64) :
    idxFn (F := Ideal) (timeFirst (F := Ideal) X) (ctr (F := Ideal) k) (ix2 b n) = X (ix3 b ⟨k, hk⟩ n) := by
  obtain ⟨h0, h1, h2⟩ := start_at k hk rfl _ rfl
  pointwise [idxFn, timeFirst]
  simp only [h0, h1, h2, Nat.zero_add]

/-- The state before a trip is the recurrence. -/
theorem stFn_at (X : FVec Ideal S16x2048x64 .f32) (A : FVec Ideal S64 .f32) (b : Fin 16) (n : Fin 64) (k : ℕ) (hk : k ≤ 2048) :
    stFn (F := Ideal) X A k (ix2 b n) = st (ent A n) (col (slab X b) n) k := by
  induction k with
  | zero => pointwise [stFn, st]
  | succ k ih =>
    have hc : col (slab X b) n k = X (ix3 b ⟨k, hk⟩ n) := dif_pos hk
    rw [st, ← ih (by omega), hc, ← idxFn_at X k hk]
    pointwise [stFn, nextFn, ent]

/-- The array after a row is written. -/
theorem updFn_at (Y : FVec Ideal S2048x16x64 .f32) (u : FVec Ideal S16x64 .f32) (k : ℕ) (hk : k < 2048) (t : Fin 2048) (b : Fin 16) (n : Fin 64) :
    updFn (F := Ideal) Y u (ctr (F := Ideal) k) (ix3 t b n) = if t.val = k then u (ix2 b n) else Y (ix3 t b n) := by
  obtain ⟨h0, h1, h2⟩ := start_at k hk rfl _ rfl
  pointwise [updFn]
  simp only [h0, h1, h2, Nat.zero_le, and_true, Nat.sub_zero]
  by_cases h : t.val = k
  · rw [dif_pos (by omega), if_pos h]
  · rw [dif_neg (by omega), if_neg h]

/-- The collected states are the recurrence. -/
theorem arrFn_at (X : FVec Ideal S16x2048x64 .f32) (A : FVec Ideal S64 .f32) (b : Fin 16) (n : Fin 64) (k : ℕ) (hk : k ≤ 2048) (t : Fin 2048) (ht : t.val < k) :
    arrFn (F := Ideal) X A k (ix3 t b n) = st (ent A n) (col (slab X b) n) (t.val + 1) := by
  induction k with
  | zero => omega
  | succ k ih =>
    rw [arrFn, updFn_at _ _ _ (by omega)]
    split
    · rename_i e
      rw [stFn_at _ _ _ _ _ hk, e]
    · exact ih (by omega) (by omega)

/-- The scan is the scan from the front. -/
theorem scanFn_at (X : FVec Ideal S16x2048x64 .f32) (A : FVec Ideal S64 .f32) (b : Fin 16) :
    slab (scanFn (F := Ideal) X A) b = fwd (ent A) (slab X b) := by
  funext t n
  rw [fwd, ← arrFn_at X A b n 2048 le_rfl t t.isLt]
  pointwise [scanFn, slab]

/-- A sequence reversed in time, at one entry. -/
theorem reverse_at (X : FVec Ideal S16x2048x64 .f32) (b : Fin 16) (t : Fin 2048) (n : Fin 64) :
    slab (Host.reverse [1] X) b t n = slab X b ⟨2047 - t.val, by omega⟩ n := by
  pointwise [slab]
  have e : t.rev = (⟨2047 - t.val, by omega⟩ : Fin 2048) := Fin.ext (by show 2048 - (t.val + 1) = 2047 - t.val; omega)
  simp [e]

/-- The scan of the reversed sequence, reversed, is the scan from the back. -/
theorem back_at (X : FVec Ideal S16x2048x64 .f32) (A : FVec Ideal S64 .f32) (b : Fin 16) :
    slab (Host.reverse [1] (scanFn (F := Ideal) (Host.reverse [1] X) A)) b = bwd (ent A) (slab X b) := by
  funext t n
  rw [reverse_at, scanFn_at, fwd, bwd]
  refine st_congr _ _ fun s hs => ?_
  have h1 : s < 2048 := by omega
  have h2 : 2047 - s < 2048 := by omega
  rw [col, col, dif_pos h1, dif_pos h2, reverse_at]

/-! ## A layer -/

/-- The weights' entries. -/
def lw (p : Weights Ideal) : LW :=
  ⟨ent p.ga, ent p.ba, ent p.A, mat p.Bm, mat p.Cf, mat p.Cb, ent p.D, ent p.gf, ent p.bf, mat p.W1, ent p.b1, mat p.W2, ent p.b2⟩

/-- The product with a 512 by 64 matrix, for one batch element. -/
theorem dot512x64 (X : FVec Ideal S16x2048x512 .f32) (w : FVec Ideal S512x64 .f32) (b : Fin 16) :
    slab (n := 64) (Host.dotGeneral dot_S16x2048x512_S512x64_S16x2048x64_2_0_01_1_n_n none X w) b = proj (slab X b) (mat w) := by
  funext t k
  pointwise [slab, proj, mat]

/-- The product with a 64 by 512 matrix, for one batch element. -/
theorem dot64x512 (X : FVec Ideal S16x2048x64 .f32) (w : FVec Ideal S64x512 .f32) (b : Fin 16) :
    slab (n := 512) (Host.dotGeneral dot_S16x2048x64_S64x512_S16x2048x512_2_0_01_1_n_n none X w) b = proj (slab X b) (mat w) := by
  funext t k
  pointwise [slab, proj, mat]

/-- The product with a 512 by 1024 matrix, for one batch element. -/
theorem dot512x1024 (X : FVec Ideal S16x2048x512 .f32) (w : FVec Ideal S512x1024 .f32) (b : Fin 16) :
    slab (n := 1024) (Host.dotGeneral dot_S16x2048x512_S512x1024_S16x2048x1024_2_0_01_1_n_n none X w) b = proj (slab X b) (mat w) := by
  funext t k
  pointwise [slab, proj, mat]

/-- The product with a 1024 by 512 matrix, for one batch element. -/
theorem dot1024x512 (X : FVec Ideal S16x2048x1024 .f32) (w : FVec Ideal S1024x512 .f32) (b : Fin 16) :
    slab (n := 512) (Host.dotGeneral dot_S16x2048x1024_S1024x512_S16x2048x512_2_0_01_1_n_n none X w) b = proj (slab X b) (mat w) := by
  funext t k
  pointwise [slab, proj, mat]

/-- The product with a 128 by 512 matrix, for one batch element. -/
theorem dot128x512 (X : FVec Ideal S16x2048x128 .f32) (w : FVec Ideal S128x512 .f32) (b : Fin 16) :
    slab (n := 512) (Host.dotGeneral dot_S16x2048x128_S128x512_S16x2048x512_2_0_01_1_n_n none X w) b = proj (slab X b) (mat w) := by
  funext t k
  pointwise [slab, proj, mat]

/-- The mixed rows of one batch element. -/
theorem mixFn_at (p : Weights Ideal) (z : FVec Ideal S16x2048x512 .f32) (b : Fin 16) :
    slab (mixFn (F := Ideal) p z) b = mix (lw p) (slab z b) := by
  funext t j
  rw [mix, lw, ← dot512x64, ← scanFn_at, ← back_at, ← dot64x512, ← dot64x512]
  show _ = _ + slab z b t j * ent p.D j
  rw [← row512 p.D b t j]
  rfl

/-- The mask along a row. -/
theorem maskFn_at (mask : FVec Ideal S16x2048x1 .f32) (b : Fin 16) (t : Fin 2048) (j : Fin 512) :
    maskFn (F := Ideal) mask (ix3 b t j) = maskOf mask b t := by
  pointwise [maskFn, maskOf]

/-- The rows after the first half of a layer. -/
theorem halfFn_at (p : Weights Ideal) (mask : FVec Ideal S16x2048x1 .f32) (h : FVec Ideal S16x2048x512 .f32) (b : Fin 16) :
    slab (halfFn (F := Ideal) p mask h) b = half (lw p) (maskOf mask b) (slab h b) := by
  funext t j
  have e := lnFn_at wide512 0x44000000#32 (by rw [bits512]; exact EReal.coe_pos.mpr (by norm_num)) b (fun g => row512 g b) h p.ga p.ba
  rw [half, ← maskFn_at mask b t j]
  show _ = slab h b t j + gelu (mix (lw p) (lnRows 0x44000000#32 (ent p.ga) (ent p.ba) (slab h b)) t j) * _
  rw [← e, ← mixFn_at, ← geluFn_at bcast_S_S16x2048x512]
  rfl

/-- The second half of a layer, before its mask. -/
theorem ffFn_at (p : Weights Ideal) (z : FVec Ideal S16x2048x512 .f32) (b : Fin 16) :
    slab (ffFn (F := Ideal) p z) b = ff (lw p) (slab z b) := by
  funext t j
  have e : (fun t i => gelu (proj (slab z b) (mat p.W1) t i + ent p.b1 i)) = slab (n := 1024) (geluFn (F := Ideal) bcast_S_S16x2048x1024
      (addf (Host.dotGeneral (φ₁ := .f32) (φ₂ := .f32) dot_S16x2048x512_S512x1024_S16x2048x1024_2_0_01_1_n_n none z p.W1)
        (broadcastInDim S16x2048x1024 ![0, 1, 2] bcast_S1x1x1024_S16x2048x1024_0_1_2 (broadcastInDim S1x1x1024 ![2] bcast_S1024_S1x1x1024_2 p.b1)))) b := by
    funext t i
    rw [geluFn_at, ← dot512x1024]
    pointwise [slab, ent]
  rw [ff]
  show _ = proj (fun t i => gelu (proj (slab z b) (mat p.W1) t i + ent p.b1 i)) (mat p.W2) t j + ent p.b2 j
  rw [e, ← dot1024x512, ← row512 p.b2 b t j]
  rfl

/-- The rows after a layer. -/
theorem layerFn_at (p : Weights Ideal) (mask : FVec Ideal S16x2048x1 .f32) (h : FVec Ideal S16x2048x512 .f32) (b : Fin 16) :
    slab (layerFn (F := Ideal) p mask h) b = layer (lw p) (maskOf mask b) (slab h b) := by
  funext t j
  have e := lnFn_at wide512 0x44000000#32 (by rw [bits512]; exact EReal.coe_pos.mpr (by norm_num)) b (fun g => row512 g b) (halfFn p mask h) p.gf p.bf
  rw [layer, rest, ← halfFn_at, ← maskFn_at mask b t j]
  show _ = _ + ff (lw p) (lnRows 0x44000000#32 (ent p.gf) (ent p.bf) _) t j * _
  rw [← e, ← ffFn_at]
  rfl

/-! ## The whole reference -/

/-- The stacked weights. -/
def stacked (s : Stack Ideal) : Stacked := ⟨s.ga, s.ba, s.A, s.Bm, s.Cf, s.Cb, s.D, s.gf, s.bf, s.W1, s.b1, s.W2, s.b2⟩

/-- The embedding's weights. -/
def entry (p : Head Ideal) : Entry := ⟨p.g1, p.b1, p.W, p.b, p.g2, p.b2, p.pos⟩

/-- A layer's cut of the stacked weights is that layer's weights. -/
theorem at_eq (s : Stack Ideal) (k : ℕ) (hk : k < 6) : lw (s.at k (cut k hk)) = (stacked s).at k := by
  rw [lw, Stacked.at]
  have e : k % 6 = k := Nat.mod_eq_of_lt hk
  congr 1
  all_goals
    first
    | (funext j; pointwise [ent, vecAt, Stack.at, stacked]; simp only [e]; done)
    | (funext i j; pointwise [mat, matAt, Stack.at, stacked]; simp only [e]; done)

/-- The rows before the embedding's second normalisation. -/
def embRows (p : Head Ideal) : FVec Ideal S16x2048x512 .f32 :=
  addf (Host.dotGeneral (φ₁ := .f32) (φ₂ := .f32) dot_S16x2048x128_S128x512_S16x2048x512_2_0_01_1_n_n none
    (lnFn wide128 0x43000000#32 (mulf p.x (broadcastInDim S16x2048x128 ![0, 1, 2] bcast_S16x2048x1_S16x2048x128_0_1_2 (validFn p.len))) p.g1 p.b1) p.W)
    (rowFn wide512 p.b)

/-- The embedded rows of one batch element. -/
theorem embedFn_at (p : Head Ideal) (b : Fin 16) :
    slab (embedFn (F := Ideal) p) b = head (entry p).ents (valid (p.len (ix1 b))) (slab p.x b) := by
  funext t j
  have e1 := lnFn_at wide128 0x43000000#32 (by rw [bits128]; exact EReal.coe_pos.mpr (by norm_num)) b (fun g => row128 g b)
    (mulf p.x (broadcastInDim S16x2048x128 ![0, 1, 2] bcast_S16x2048x1_S16x2048x128_0_1_2 (validFn (F := Ideal) p.len))) p.g1 p.b1
  have e2 : slab (n := 128) (mulf p.x (broadcastInDim S16x2048x128 ![0, 1, 2] bcast_S16x2048x1_S16x2048x128_0_1_2 (validFn (F := Ideal) p.len))) b
      = fun t d => slab p.x b t d * valid (p.len (ix1 b)) t := by
    funext t d
    rw [← validFn_at]
    pointwise [slab, maskOf]
  have e3 := lnFn_at wide512 0x44000000#32 (by rw [bits512]; exact EReal.coe_pos.mpr (by norm_num)) b (fun g => row512 g b)
      (embRows p) p.g2 p.b2
  have e4 : slab (n := 512) (embRows p) b = emb (entry p).ents (valid (p.len (ix1 b))) (slab p.x b) := by
    funext t j
    show _ = proj (lnRows 0x43000000#32 (ent p.g1) (ent p.b1) fun t d => slab p.x b t d * valid (p.len (ix1 b)) t) (mat p.W) t j + ent p.b j
    rw [← e2, ← e1, ← dot128x512, ← row512 p.b b t j]
    rfl
  have e5 : broadcastInDim S16x2048x512 ![0, 1, 2] bcast_S1x2048x512_S16x2048x512_0_1_2 p.pos (ix3 b t j) = p.pos (ix3 0 t j) := by
    pointwise
  rw [head, ← e4]
  show _ = (lnRows 0x44000000#32 (ent p.g2) (ent p.b2) _ t j + p.pos (ix3 0 t j)) * _
  rw [← e3, ← e5, ← validFn_at, ← maskFn_at _ b t j]
  rfl

/-- The rows of one batch element before layer `k`. -/
theorem stateFn_at (p : Head Ideal) (s : Stack Ideal) (b : Fin 16) (k : ℕ) (hk : k ≤ 6) :
    slab (stateFn (F := Ideal) p s k) b = state (entry p).ents (stacked s).at (valid (p.len (ix1 b))) (slab p.x b) k := by
  induction k with
  | zero => exact embedFn_at p b
  | succ k ih => rw [stateFn_succ p s k hk, layerFn_at, validFn_at, at_eq s k (by omega), ih (by omega)]; rfl

end Cert.ReferenceIdeal.Frags
end
-- ==== Proof.Algebra.lean ====
/- The kernel and the reference leave the same result. -/
module

public import proofs.«01_k».proof.Proof.Decay
public import proofs.«01_k».proof.Proof.RefRun
public import proofs.«01_k».proof.Proof.RefValue
public import proofs.«01_k».proof.Proof.Gen.ReferenceIdeal
public import proofs.«01_k».proof.Proof.Gen.Pre_decay

@[expose] public section

set_option maxRecDepth 16384

noncomputable section

namespace Cert.Proof

open Idealize.ShloMosaic Cert.Spec Idealize.SL.Sem

section Ref

open Cert.ReferenceIdeal Cert.ReferenceIdeal.Frags

/-- The reference's rows, one array. -/
theorem ref_eq (p : Head Ideal) (s : Stack Ideal) :
    stateFn (F := Ideal) p s 6 = fun i : S16x2048x512.Idx => final p.x p.len (entry p) (stacked s) (i 0) (i 1) (i 2) := by
  funext i
  refine Eq.trans ?_ (congrFun (congrFun (stateFn_at p s (i 0) 6 le_rfl) (i 1)) (i 2))
  show _ = stateFn (F := Ideal) p s 6 (ix3 (i 0) (i 1) (i 2))
  refine congrArg _ (funext fun a => ?_)
  match a with
  | ⟨0, _⟩ => rfl
  | ⟨1, _⟩ => rfl
  | ⟨2, _⟩ => rfl

end Ref

open Cert.KernelIdeal.Val in
/-- The kernel's run leaves its result array at the specification and its arguments unchanged. -/
theorem kernel_run (m : (ℓ : Loc Cert.KernelIdeal.nD Cert.KernelIdeal.τ Cert.KernelIdeal.sig) → Buf (Elt Ideal) ℓ) (g : Dev Cert.KernelIdeal.nD → PrngReg)
    (h : Pre_KernelIdeal_decay (hPre_decay := Cert.Pre_decay.Gen.facts) m) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD,
        r.2.mem ((c.tc : Thread Cert.KernelIdeal.nD Cert.KernelIdeal.τ).loc Cert.KernelIdeal.main_v14) = (result m c : Cert.KernelIdeal.S16x2048x512.Idx → EReal)) :=
  (θ_run _ _ _).mono (fun r hr c => ((hr c).1 21).trans (arr_eq m c (@Cert.Pre_decay.decays Cert.Pre_decay.Gen.facts m h c))) (Cert.KernelIdeal.Gen.run_main m g)

/-- The claim of equal results. -/
theorem algebraic : algebraic_KernelIdeal_ReferenceIdeal_pre_decay (hKernelIdeal := Cert.KernelIdeal.Gen.facts)
    (hReferenceIdeal := Cert.ReferenceIdeal.Gen.facts) (hPre_decay := Cert.Pre_decay.Gen.facts) := by
  intro m g m' g' hp ha
  refine ⟨fun c => Cert.KernelIdeal.Val.result m c, ?_, ?_⟩
  · exact (θ_run _ _ _).mono (fun r hr c => ⟨hr.1 c, hr.2 c⟩) (θ_run_and (kernel_run m g hp) (Cert.KernelIdeal.Gen.unchanged m g))
  · refine (θ_run _ _ _).mono (fun r hr c => ?_) (Cert.ReferenceIdeal.Frags.run m' g')
    have e := hr.1 c
    refine ⟨?_, ?_⟩
    · obtain ⟨h0, h1, h2, h3, h4, h5, h6, h7, h8, h9, h10, h11, h12, h13, h14, h15, h16, h17, h18, h19, h20, h21⟩ := ha c
      refine e.res.trans ((ref_eq _ _).trans (funext fun i => ?_))
      have hx : (Cert.ReferenceIdeal.Frags.headOf (StableHlo.launchContents m' c)).x = Cert.KernelIdeal.Val.xK m c := h0
      have hl : (Cert.ReferenceIdeal.Frags.headOf (StableHlo.launchContents m' c)).len = Cert.KernelIdeal.Val.lenK m c := h1
      have he : Cert.ReferenceIdeal.Frags.entry (Cert.ReferenceIdeal.Frags.headOf (StableHlo.launchContents m' c)) = Cert.KernelIdeal.Val.entryK m c := by
        show Entry.mk _ _ _ _ _ _ _ = Entry.mk _ _ _ _ _ _ _
        rw [Entry.mk.injEq]
        exact ⟨h2, h3, h4, h5, h6, h7, h8⟩
      have hs : Cert.ReferenceIdeal.Frags.stacked (Cert.ReferenceIdeal.Frags.stackOf (StableHlo.launchContents m' c)) = Cert.KernelIdeal.Val.stackK m c := by
        show Stacked.mk _ _ _ _ _ _ _ _ _ _ _ _ _ = Stacked.mk _ _ _ _ _ _ _ _ _ _ _ _ _
        rw [Stacked.mk.injEq]
        exact ⟨h9, h10, h11, h12, h13, h14, h15, h16, h17, h18, h19, h20, h21⟩
      rw [hx, hl, he, hs]
      rfl
    · refine ⟨?_, ?_, ?_, ?_, ?_, ?_, ?_, ?_, ?_, ?_, ?_, ?_, ?_, ?_, ?_, ?_, ?_, ?_, ?_, ?_, ?_, ?_⟩ <;> exact e.arg _ (by decide) rfl

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_decay
public import proofs.«01_k».proof.Proof.Algebra

@[expose] public section

set_option maxRecDepth 16384

noncomputable section

namespace Cert.Proof

open Idealize.ShloMosaic Idealize.SL.Sem

/-- The reference runs, its arguments unchanged and its counters at zero. -/
theorem reference_frame : quiescent_ReferenceIdeal (hReferenceIdeal := Cert.ReferenceIdeal.Gen.facts) := by
  intro m g _
  refine (θ_run _ _ _).mono (fun r hr => ⟨fun c => ?_, hr.2⟩) (Cert.ReferenceIdeal.Frags.run m g)
  have e := hr.1 c
  refine ⟨?_, ?_, ?_, ?_, ?_, ?_, ?_, ?_, ?_, ?_, ?_, ?_, ?_, ?_, ?_, ?_, ?_, ?_, ?_, ?_, ?_, ?_⟩ <;> exact e.arg _ (by decide) rfl

/-- Everything claimed. -/
theorem claim : Cert.Claim :=
  ⟨Cert.Kernel.Gen.facts, Cert.KernelIdeal.Gen.facts, Cert.ReferenceIdeal.Gen.facts, Cert.Pre_decay.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, algebraic⟩

end Cert.Proof

end
